-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v2_0)) (v2 : (c : Dev Cert.KernelIdeal.nD) → Buf (Elt Ideal) ((c.tc : Thread Cert.KernelIdeal.nD Cert.KernelIdeal.τ).loc Cert.KernelIdeal.main_v2_1)) (v3 : (c : Dev Cert.KernelIdeal.nD) → Buf (Elt Ideal) ((c.tc : Thread Cert.KernelIdeal.nD Cert.KernelIdeal.τ).loc Cert.KernelIdeal.main_v5_0)) (v4 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v2_0) = v1 c
          ∧ r.2.mem ((c.tc : Thread Cert.KernelIdeal.nD Cert.KernelIdeal.τ).loc Cert.KernelIdeal.main_v2_1) = v2 c
          ∧ r.2.mem ((c.tc : Thread Cert.KernelIdeal.nD Cert.KernelIdeal.τ).loc Cert.KernelIdeal.main_v5_0) = v3 c
          ∧ r.2.mem ((c.tc : Thread Cert.KernelIdeal.nD Cert.KernelIdeal.τ).loc Cert.KernelIdeal.main_v5_1) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5_0) = v0 c
          ∧ r.2.mem ((c.tc : Thread Cert.ReferenceIdeal.nD Cert.ReferenceIdeal.τ).loc Cert.ReferenceIdeal.main_v5_1) = v1 c
          ∧ r.2.mem ((c.tc : Thread Cert.ReferenceIdeal.nD Cert.ReferenceIdeal.τ).loc Cert.ReferenceIdeal.main_v5_2) = v2 c
          ∧ r.2.mem ((c.tc : Thread Cert.ReferenceIdeal.nD Cert.ReferenceIdeal.τ).loc Cert.ReferenceIdeal.main_v5_3) = v3 c
          ∧ r.2.mem ((c.tc : Thread Cert.ReferenceIdeal.nD Cert.ReferenceIdeal.τ).loc Cert.ReferenceIdeal.main_v5_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x2048x4096 : Shape := ⟨3, ![4, 2048, 4096]⟩
abbrev S4096 : Shape := ⟨1, ![4096]⟩
abbrev S4096x24576 : Shape := ⟨2, ![4096, 24576]⟩
abbrev S24576 : Shape := ⟨1, ![24576]⟩
abbrev S12288 : Shape := ⟨1, ![12288]⟩
abbrev S12288x4096 : Shape := ⟨2, ![12288, 4096]⟩
abbrev S8192x4096 : Shape := ⟨2, ![8192, 4096]⟩
abbrev S1x4096 : Shape := ⟨2, ![1, 4096]⟩
abbrev S8192x1 : Shape := ⟨2, ![8192, 1]⟩
abbrev S256x4096 : Shape := ⟨2, ![256, 4096]⟩
abbrev S256x1 : Shape := ⟨2, ![256, 1]⟩
abbrev S256 : Shape := ⟨1, ![256]⟩
abbrev S1x24576 : Shape := ⟨2, ![1, 24576]⟩
abbrev S1x12288 : Shape := ⟨2, ![1, 12288]⟩
abbrev S8192x12288 : Shape := ⟨2, ![8192, 12288]⟩
abbrev S512x4096 : Shape := ⟨2, ![512, 4096]⟩
abbrev S512x1 : Shape := ⟨2, ![512, 1]⟩
abbrev S4096x1024 : Shape := ⟨2, ![4096, 1024]⟩
abbrev S1x1024 : Shape := ⟨2, ![1, 1024]⟩
abbrev S512x1024 : Shape := ⟨2, ![512, 1024]⟩
abbrev S512x12288 : Shape := ⟨2, ![512, 12288]⟩
abbrev S512x128 : Shape := ⟨2, ![512, 128]⟩
abbrev S512 : Shape := ⟨1, ![512]⟩
abbrev S4096x256 : Shape := ⟨2, ![4096, 256]⟩
abbrev S512x256 : Shape := ⟨2, ![512, 256]⟩
abbrev S1x256 : Shape := ⟨2, ![1, 256]⟩
abbrev S1024x12288 : Shape := ⟨2, ![1024, 12288]⟩
abbrev S1024x1 : Shape := ⟨2, ![1024, 1]⟩
abbrev S12288x1024 : Shape := ⟨2, ![12288, 1024]⟩
abbrev S1024x1024 : Shape := ⟨2, ![1024, 1024]⟩

abbrev nBuf : Space → Nat
  | .hbm => 17
  | .vmem => 38
  | .smem => 0
  | _ => 0

abbrev bufTy : (tb : Table) → Fin (tcTables nBuf tb) → BufTy
  | .hbm, ⟨0, _⟩ => ⟨S4x2048x4096, .f32⟩
  | .hbm, ⟨1, _⟩ => ⟨S4096, .f32⟩
  | .hbm, ⟨2, _⟩ => ⟨S4096x24576, .fp8e4m3⟩
  | .hbm, ⟨3, _⟩ => ⟨S24576, .f32⟩
  | .hbm, ⟨4, _⟩ => ⟨S12288, .f32⟩
  | .hbm, ⟨5, _⟩ => ⟨S12288x4096, .fp8e4m3⟩
  | .hbm, ⟨6, _⟩ => ⟨S4096, .f32⟩
  | .hbm, ⟨7, _⟩ => ⟨S8192x4096, .f32⟩
  | .hbm, ⟨8, _⟩ => ⟨S1x4096, .f32⟩
  | .hbm, ⟨9, _⟩ => ⟨S8192x4096, .fp8e4m3⟩
  | .hbm, ⟨10, _⟩ => ⟨S8192x1, .f32⟩
  | .hbm, ⟨11, _⟩ => ⟨S1x24576, .f32⟩
  | .hbm, ⟨12, _⟩ => ⟨S1x12288, .f32⟩
  | .hbm, ⟨13, _⟩ => ⟨S8192x12288, .fp8e4m3⟩
  | .hbm, ⟨14, _⟩ => ⟨S8192x1, .f32⟩
  | .hbm, ⟨15, _⟩ => ⟨S1x4096, .f32⟩
  | .hbm, ⟨16, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .fp8e4m3⟩
  | .local _ .vmem, ⟨4, _⟩ => ⟨S256x4096, .fp8e4m3⟩
  | .local _ .vmem, ⟨5, _⟩ => ⟨S256x1, .f32⟩
  | .local _ .vmem, ⟨6, _⟩ => ⟨S256x1, .f32⟩
  | .local _ .vmem, ⟨7, _⟩ => ⟨S512x4096, .fp8e4m3⟩
  | .local _ .vmem, ⟨8, _⟩ => ⟨S512x4096, .fp8e4m3⟩
  | .local _ .vmem, ⟨9, _⟩ => ⟨S512x1, .f32⟩
  | .local _ .vmem, ⟨10, _⟩ => ⟨S512x1, .f32⟩
  | .local _ .vmem, ⟨11, _⟩ => ⟨S4096x1024, .fp8e4m3⟩
  | .local _ .vmem, ⟨12, _⟩ => ⟨S4096x1024, .fp8e4m3⟩
  | .local _ .vmem, ⟨13, _⟩ => ⟨S4096x1024, .fp8e4m3⟩
  | .local _ .vmem, ⟨14, _⟩ => ⟨S4096x1024, .fp8e4m3⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S512x1024, .fp8e4m3⟩
  | .local _ .vmem, ⟨22, _⟩ => ⟨S512x1024, .fp8e4m3⟩
  | .local _ .vmem, ⟨23, _⟩ => ⟨S512x1, .f32⟩
  | .local _ .vmem, ⟨24, _⟩ => ⟨S512x1, .f32⟩
  | .local _ .vmem, ⟨25, _⟩ => ⟨S512x12288, .f32⟩
  | .local _ .vmem, ⟨26, _⟩ => ⟨S512x128, .f32⟩
  | .local _ .vmem, ⟨27, _⟩ => ⟨S512x128, .f32⟩
  | .local _ .vmem, ⟨28, _⟩ => ⟨S1024x12288, .fp8e4m3⟩
  | .local _ .vmem, ⟨29, _⟩ => ⟨S1024x12288, .fp8e4m3⟩
  | .local _ .vmem, ⟨30, _⟩ => ⟨S1024x1, .f32⟩
  | .local _ .vmem, ⟨31, _⟩ => ⟨S1024x1, .f32⟩
  | .local _ .vmem, ⟨32, _⟩ => ⟨S12288x1024, .fp8e4m3⟩
  | .local _ .vmem, ⟨33, _⟩ => ⟨S12288x1024, .fp8e4m3⟩
  | .local _ .vmem, ⟨34, _⟩ => ⟨S1x1024, .f32⟩
  | .local _ .vmem, ⟨35, _⟩ => ⟨S1x1024, .f32⟩
  | .local _ .vmem, ⟨36, _⟩ => ⟨S1024x1024, .f32⟩
  | .local _ .vmem, ⟨37, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg6_1 : Ref sig .tc := ⟨.vmem, 20, rfl⟩
abbrev cc1_stg7_0 : Ref sig .tc := ⟨.vmem, 21, rfl⟩
abbrev cc1_stg7_1 : Ref sig .tc := ⟨.vmem, 22, rfl⟩
abbrev cc1_stg8_0 : Ref sig .tc := ⟨.vmem, 23, rfl⟩
abbrev cc1_stg8_1 : Ref sig .tc := ⟨.vmem, 24, rfl⟩
abbrev cc1_scratch0 : Ref sig .tc := ⟨.vmem, 25, rfl⟩
abbrev cc1_scratch1 : Ref sig .tc := ⟨.vmem, 26, rfl⟩
abbrev cc1_scratch2 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg2_1 : Ref sig .tc := ⟨.vmem, 33, rfl⟩
abbrev cc2_stg3_0 : Ref sig .tc := ⟨.vmem, 34, rfl⟩
abbrev cc2_stg3_1 : Ref sig .tc := ⟨.vmem, 35, rfl⟩
abbrev cc2_stg4_0 : Ref sig .tc := ⟨.vmem, 36, rfl⟩
abbrev cc2_stg4_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16
abbrev cc1_sem5_0 : DmaSem sig := 17
abbrev cc1_sem5_1 : DmaSem sig := 18
abbrev cc1_sem6_0 : DmaSem sig := 19
abbrev cc1_sem6_1 : DmaSem sig := 20
abbrev cc1_sem7_0 : DmaSem sig := 21
abbrev cc1_sem7_1 : DmaSem sig := 22
abbrev cc1_sem8_0 : DmaSem sig := 23
abbrev cc1_sem8_1 : DmaSem sig := 24
abbrev cc2_sem0_0 : DmaSem sig := 25
abbrev cc2_sem0_1 : DmaSem sig := 26
abbrev cc2_sem1_0 : DmaSem sig := 27
abbrev cc2_sem1_1 : DmaSem sig := 28
abbrev cc2_sem2_0 : DmaSem sig := 29
abbrev cc2_sem2_1 : DmaSem sig := 30
abbrev cc2_sem3_0 : DmaSem sig := 31
abbrev cc2_sem3_1 : DmaSem sig := 32
abbrev cc2_sem4_0 : DmaSem sig := 33
abbrev cc2_sem4_1 : DmaSem sig := 34

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![17, 12], ![false, false]⟩

def k1_mult1 (i : grid1.Coords) : BitVec 32 :=
  let arg1 : BitVec 32 := BitVec.ofNat 32 (i 1).val
  let c1024_i32 : BitVec 32 := 1024#32
  let v0 : BitVec 32 := Scalar.muli arg1 c1024_i32
  v0
def k1_cond1 (i : grid1.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

def k1_off1 (i : grid1.Coords) : Fin 2 → Nat :=
  let c0_47 : Index := 0#32
  let arg1 : BitVec 32 := BitVec.ofNat 32 (i 1).val
  let c1024_i32 : BitVec 32 := 1024#32
  let v0 : BitVec 32 := Scalar.muli arg1 c1024_i32
  let v1 : BitVec 32 := v0
  let v154 : Index := Scalar.indexCast v1
  ![0, v154.toNat]
def k1_cond3 (i : grid1.Coords) : BitVec 1 :=
  let arg0 : BitVec 32 := BitVec.ofNat 32 (i 0).val
  let c16_i32_42 : BitVec 32 := 16#32
  let v147 : BitVec 1 := Scalar.cmpi .eq arg0 c16_i32_42
  let v148 : BitVec 32 := Scalar.extui v147
  let c0_i32_43 : BitVec 32 := 0#32
  let v149 : BitVec 1 := Scalar.cmpi .ne v148 c0_i32_43
  v149

def k1_off2 (i : grid1.Coords) : Fin 2 → Nat :=
  let c0_46 : Index := 0#32
  let arg1 : BitVec 32 := BitVec.ofNat 32 (i 1).val
  let c1024_i32 : BitVec 32 := 1024#32
  let v0 : BitVec 32 := Scalar.muli arg1 c1024_i32
  let v1 : BitVec 32 := v0
  let v153 : Index := Scalar.indexCast v1
  ![0, v153.toNat]
def k1_cond4 (i : grid1.Coords) : BitVec 1 :=
  let arg0 : BitVec 32 := BitVec.ofNat 32 (i 0).val
  let c16_i32_44 : BitVec 32 := 16#32
  let v150 : BitVec 1 := Scalar.cmpi .slt arg0 c16_i32_44
  let v151 : BitVec 32 := Scalar.extui v150
  let c0_i32_45 : BitVec 32 := 0#32
  let v152 : BitVec 1 := Scalar.cmpi .ne v151 c0_i32_45
  v152

def k1_off3 (i : grid1.Coords) : Fin 2 → Nat :=
  let c0_46 : Index := 0#32
  let arg1 : BitVec 32 := BitVec.ofNat 32 (i 1).val
  let c1024_i32 : BitVec 32 := 1024#32
  let v0 : BitVec 32 := Scalar.muli arg1 c1024_i32
  let v1 : BitVec 32 := v0
  let v153 : Index := Scalar.indexCast v1
  ![0, v153.toNat]
def k1_mult2 (i : grid1.Coords) : BitVec 32 :=
  let arg1 : BitVec 32 := BitVec.ofNat 32 (i 1).val
  let c1024_i32_68 : BitVec 32 := 1024#32
  let v192 : BitVec 32 := Scalar.muli arg1 c1024_i32_68
  let c0_i32_69 : BitVec 32 := 0#32
  let v193 : BitVec 32 := Scalar.addi v192 c0_i32_69
  v193
def k1_off4 (i : grid1.Coords) (c0_i32_69 : BitVec 32) : Fin 2 → Nat :=
  let c0_70 : Index := 0#32
  let arg1 : BitVec 32 := BitVec.ofNat 32 (i 1).val
  let c1024_i32_68 : BitVec 32 := 1024#32
  let v192 : BitVec 32 := Scalar.muli arg1 c1024_i32_68
  let v193 : BitVec 32 := Scalar.addi v192 c0_i32_69
  let v194 : BitVec 32 := v193
  let v195 : Index := Scalar.indexCast v194
  ![0, v195.toNat]
def k1_mult3 (i : grid1.Coords) : BitVec 32 :=
  let arg1 : BitVec 32 := BitVec.ofNat 32 (i 1).val
  let c1024_i32_82 : BitVec 32 := 1024#32
  let v227 : BitVec 32 := Scalar.muli arg1 c1024_i32_82
  let c256_i32 : BitVec 32 := 256#32
  let v228 : BitVec 32 := Scalar.addi v227 c256_i32
  v228
def k1_mult4 (i : grid1.Coords) : BitVec 32 :=
  let arg1 : BitVec 32 := BitVec.ofNat 32 (i 1).val
  let c1024_i32_95 : BitVec 32 := 1024#32
  let v262 : BitVec 32 := Scalar.muli arg1 c1024_i32_95
  let c512_i32 : BitVec 32 := 512#32
  let v263 : BitVec 32 := Scalar.addi v262 c512_i32
  v263
def k1_mult5 (i : grid1.Coords) : BitVec 32 :=
  let arg1 : BitVec 32 := BitVec.ofNat 32 (i 1).val
  let c1024_i32_108 : BitVec 32 := 1024#32
  let v297 : BitVec 32 := Scalar.muli arg1 c1024_i32_108
  let c768_i32 : BitVec 32 := 768#32
  let v298 : BitVec 32 := Scalar.addi v297 c768_i32
  v298
def cc1_transform_0 (i : grid1.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 1 := Scalar.cmpi .eq arg0 c16_i32
  let c11_i32 : BitVec 32 := 11#32
  let v1 : BitVec 32 := Scalar.select v0 c11_i32 arg1
  let c0_i32 : BitVec 32 := 0#32
  let v2 : BitVec 32 := Scalar.addi v1 c0_i32
  let c0_i32_0 : BitVec 32 := 0#32
  let c0_i32_1 : BitVec 32 := 0#32
  ![c0_i32_0.toNat, v2.toNat]

def cc1_transform_3 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 1 := Scalar.cmpi .eq arg0 c16_i32
  let c11_i32 : BitVec 32 := 11#32
  let v1 : BitVec 32 := Scalar.select v0 c11_i32 arg1
  let c12_i32 : BitVec 32 := 12#32
  let v2 : BitVec 32 := Scalar.addi v1 c12_i32
  let c0_i32 : BitVec 32 := 0#32
  let c0_i32_0 : BitVec 32 := 0#32
  ![c0_i32.toNat, v2.toNat]

def cc1_transform_4 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 1 := Scalar.cmpi .eq arg0 c16_i32
  let c11_i32 : BitVec 32 := 11#32
  let v1 : BitVec 32 := Scalar.select v0 c11_i32 arg1
  let c0_i32 : BitVec 32 := 0#32
  let v2 : BitVec 32 := Scalar.addi v1 c0_i32
  let c0_i32_0 : BitVec 32 := 0#32
  let c0_i32_1 : BitVec 32 := 0#32
  ![c0_i32_0.toNat, v2.toNat]

def cc1_transform_5 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 1 := Scalar.cmpi .eq arg0 c16_i32
  let c11_i32 : BitVec 32 := 11#32
  let v1 : BitVec 32 := Scalar.select v0 c11_i32 arg1
  let c12_i32 : BitVec 32 := 12#32
  let v2 : BitVec 32 := Scalar.addi v1 c12_i32
  let c0_i32 : BitVec 32 := 0#32
  let c0_i32_0 : BitVec 32 := 0#32
  ![c0_i32.toNat, v2.toNat]

def cc1_transform_6 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 1 := Scalar.cmpi .eq arg0 c16_i32
  let c11_i32 : BitVec 32 := 11#32
  let v1 : BitVec 32 := Scalar.select v0 c11_i32 arg1
  let c0_i32 : BitVec 32 := 0#32
  let v2 : BitVec 32 := Scalar.addi v1 c0_i32
  let c0_i32_0 : BitVec 32 := 0#32
  let c0_i32_1 : BitVec 32 := 0#32
  ![c0_i32_0.toNat, v2.toNat]

def cc1_transform_7 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  ![v1.toNat, arg1.toNat]

def cc1_transform_8 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage1_0 : Fin 2 → Memref sig .tc .vmem S512x4096 .fp8e4m3 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S4096x1024 .fp8e4m3 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S4096x1024 .fp8e4m3 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S512x1024 .fp8e4m3 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S512x1 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev grid2 : Pipeline.Grid := ⟨2, ![8, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x12288 .fp8e4m3 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S12288x1024 .fp8e4m3 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S1024x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]
-- ==== ReferenceIdeal.lean ====
abbrev S4x2048x4096 : Shape := ⟨3, ![4, 2048, 4096]⟩
abbrev S4096 : Shape := ⟨1, ![4096]⟩
abbrev S4096x24576 : Shape := ⟨2, ![4096, 24576]⟩
abbrev S24576 : Shape := ⟨1, ![24576]⟩
abbrev S12288 : Shape := ⟨1, ![12288]⟩
abbrev S12288x4096 : Shape := ⟨2, ![12288, 4096]⟩
abbrev S8192x4096 : Shape := ⟨2, ![8192, 4096]⟩
abbrev S1x4096 : Shape := ⟨2, ![1, 4096]⟩
abbrev S1x24576 : Shape := ⟨2, ![1, 24576]⟩
abbrev S1x12288 : Shape := ⟨2, ![1, 12288]⟩
abbrev S8192x1 : Shape := ⟨2, ![8192, 1]⟩
abbrev S8192x12288 : Shape := ⟨2, ![8192, 12288]⟩
abbrev S8192 : Shape := ⟨1, ![8192]⟩
abbrev S1x254 : Shape := ⟨2, ![1, 254]⟩
abbrev S8192x254 : Shape := ⟨2, ![8192, 254]⟩
abbrev S8192x24576 : Shape := ⟨2, ![8192, 24576]⟩

abbrev nBuf : Space → Nat
  | .hbm => 17
  | .vmem => 12
  | .smem => 0
  | _ => 0

abbrev bufTy : (tb : Table) → Fin (tcTables nBuf tb) → BufTy
  | .hbm, ⟨0, _⟩ => ⟨S4x2048x4096, .f32⟩
  | .hbm, ⟨1, _⟩ => ⟨S4096, .f32⟩
  | .hbm, ⟨2, _⟩ => ⟨S4096x24576, .fp8e4m3⟩
  | .hbm, ⟨3, _⟩ => ⟨S24576, .f32⟩
  | .hbm, ⟨4, _⟩ => ⟨S12288, .f32⟩
  | .hbm, ⟨5, _⟩ => ⟨S12288x4096, .fp8e4m3⟩
  | .hbm, ⟨6, _⟩ => ⟨S4096, .f32⟩
  | .hbm, ⟨7, _⟩ => ⟨S8192x4096, .f32⟩
  | .hbm, ⟨8, _⟩ => ⟨S1x4096, .f32⟩
  | .hbm, ⟨9, _⟩ => ⟨S1x24576, .f32⟩
  | .hbm, ⟨10, _⟩ => ⟨S1x12288, .f32⟩
  | .hbm, ⟨11, _⟩ => ⟨S1x4096, .f32⟩
  | .hbm, ⟨12, _⟩ => ⟨S8192x4096, .f32⟩
  | .hbm, ⟨13, _⟩ => ⟨S8192x4096, .fp8e4m3⟩
  | .hbm, ⟨14, _⟩ => ⟨S8192x1, .f32⟩
  | .hbm, ⟨15, _⟩ => ⟨S8192x12288, .fp8e4m3⟩
  | .hbm, ⟨16, _⟩ => ⟨S8192x1, .f32⟩
  | .local _ .vmem, ⟨0, _⟩ => ⟨S8192x4096, .f32⟩
  | .local _ .vmem, ⟨1, _⟩ => ⟨S1x4096, .f32⟩
  | .local _ .vmem, ⟨2, _⟩ => ⟨S4096x24576, .fp8e4m3⟩
  | .local _ .vmem, ⟨3, _⟩ => ⟨S1x24576, .f32⟩
  | .local _ .vmem, ⟨4, _⟩ => ⟨S1x12288, .f32⟩
  | .local _ .vmem, ⟨5, _⟩ => ⟨S12288x4096, .fp8e4m3⟩
  | .local _ .vmem, ⟨6, _⟩ => ⟨S1x4096, .f32⟩
  | .local _ .vmem, ⟨7, _⟩ => ⟨S8192x4096, .f32⟩
  | .local _ .vmem, ⟨8, _⟩ => ⟨S8192x4096, .fp8e4m3⟩
  | .local _ .vmem, ⟨9, _⟩ => ⟨S8192x1, .f32⟩
  | .local _ .vmem, ⟨10, _⟩ => ⟨S8192x12288, .fp8e4m3⟩
  | .local _ .vmem, ⟨11, _⟩ => ⟨S8192x1, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev main_v5_4 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S8192x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x24576 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x24576 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x12288 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12288x4096 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8192x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8192x4096 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8192x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S8192x12288 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S8192x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.Ideal.Region0.lean ====
module

public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Regions
public import Idealize.ShloMosaic.Lib.Pipeline.FrameBody
public import Idealize.ShloMosaic.Lib.Ring
public import Idealize.ShloMosaic.Lib.Tactic
public import Idealize.ShloMosaic.Lib.VecWindow

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The rows' exponents: the quantised block's power-of-two scales. -/
def qExpMid (x0 : Vec F S256x4096 .f32) (x1 : Vec F S1x4096 .f32) : IVec S256x1 32 :=
  k0_pay7 (k0_pay4 x0 x1) (k0_pay5 x0 x1) (k0_pay6 x0 x1)

/-- The next threshold the exponent search compares with. -/
def qThr (x0 : Vec F S256x4096 .f32) (x1 : Vec F S1x4096 .f32) : FVec F S256x1 .f32 :=
  k0_pay8 (k0_pay4 x0 x1) (k0_pay5 x0 x1) (k0_pay6 x0 x1)

/-- The codes of a block of rows. -/
def qCodes (x0 : Vec F S256x4096 .f32) (x1 : Vec F S1x4096 .f32) : Vec F S256x4096 .fp8e4m3 :=
  k0_pay1 (k0_pay2 x0 x1) (k0_pay11 (k0_pay3 x0 x1) (k0_pay4 x0 x1) (qExpMid x0 x1) (qThr x0 x1)) k0_pay12

/-- The scales of a block of rows. -/
def qScales (x0 : Vec F S256x4096 .f32) (x1 : Vec F S1x4096 .f32) : Vec F S256x1 .f32 :=
  k0_pay10 (k0_pay3 x0 x1) (k0_pay4 x0 x1) (qExpMid x0 x1) (qThr x0 x1)

set_option maxHeartbeats 1000000 in
/-- The body as a triple: from its input blocks and any contents of its output blocks it leaves the closed values of the
    inputs in the output blocks. -/
theorem run0 (c : Dev nD) (E : Set ℕ) (i : grid0.Coords) (arg1 : Memref sig .tc .vmem S256x4096 .f32) (harg1 : arg1.IsWhole) (arg2 : Memref sig .tc .vmem S1x4096 .f32) (harg2 : arg2.IsWhole) (arg3 : Memref sig .tc .vmem S256x4096 .fp8e4m3) (harg3 : arg3.IsWhole) (arg4 : Memref sig .tc .vmem S256x1 .f32) (harg4 : arg4.IsWhole)
    (x0 : Vec F S256x4096 .f32) (x1 : Vec F S1x4096 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (qCodes x0 x1) ∗ owns (c : Thread nD τ) arg4 fullShare (qScales x0 x1)) -∗ K ⟨⟩))
      ⊢ wp frame (wpE (defs₀ (F := F)) Variants.none c none) E (cc0_quant_x i arg1 harg1 arg2 harg2 arg3 harg3 arg4 harg4) K := by
  simp only [cc0_quant_x_eq_skeleton]; unfold cc0_quant_x_skel
  simp only [k0_part1_eq_skeleton, k0_part2_eq_skeleton, k0_part3_eq_skeleton]
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr; swap; · iexact H2
    ipureintro
    refine (View.read_writes_full _ _ _ _ _).trans ?_
    (try delta run0.sl.r); (try delta run0.sl.r_12); (try delta run0.sl.r_11); (try delta run0.sl.r_10); (try delta run0.sl.r_9); (try delta run0.sl.r_8); (try delta run0.sl.r_7); (try delta run0.sl.r_6); (try delta run0.sl.r_5); (try delta run0.sl.r_4); (try delta run0.sl.r_3); (try delta run0.sl.r_2); (try delta run0.sl.r_1); (try delta run0.sl.r_0)
    (try rw [View.readAt_full arg1.view f0 inb_S256x4096_S256x4096_0_0, View.readAt_full arg2.view f1 inb_S1x4096_S1x4096_0_0])
    rfl
  iexists _; isplitr; swap; · iexact H3
  ipureintro
  refine (View.read_writes_full _ _ _ _ _).trans ?_
  (try delta run0.sl.r); (try delta run0.sl.r_12); (try delta run0.sl.r_11); (try delta run0.sl.r_10); (try delta run0.sl.r_9); (try delta run0.sl.r_8); (try delta run0.sl.r_7); (try delta run0.sl.r_6); (try delta run0.sl.r_5); (try delta run0.sl.r_4); (try delta run0.sl.r_3); (try delta run0.sl.r_2); (try delta run0.sl.r_1); (try delta run0.sl.r_0)
  (try rw [View.readAt_full arg1.view f0 inb_S256x4096_S256x4096_0_0, View.readAt_full arg2.view f1 inb_S1x4096_S1x4096_0_0])
  rfl

/-! ## The region's data, from any contents of the unscoped buffers -/

variable (V : (c : Dev nD) → (b : Ref sig .tc) → Buf (Elt F) ((c : Thread nD τ).loc b))

/-- The block a window stages at a point, from the contents the region finds. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The region's data: the arrays as found; after the body each input's buffer at its block and each output's at its
    value of the input blocks; nothing owed; each input at its share of its array. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => qCodes (blk0 V c 0 t) (blk0 V c 1 t)
    | ⟨3, _⟩ => qScales (blk0 V c 0 t) (blk0 V c 1 t)
  Φ _ := Pipeline.ΦA spec0 c
  q := Pipeline.shareOf spec0
  owed _ := 0

/-- The arrays are those the region finds. -/
theorem dat0_A (c : Dev nD) (w : Fin cfg0.W) : (dat0 V c).A w = V c (Pipeline.arrRef spec0 w) := by
  dsimp only [dat0]
/-- What the body leaves in window 0. -/
theorem dat0_after0 (c : Dev nD) (t : Fin cfg0.N) : (dat0 V c).after 0 t = blk0 V c 0 t := by dsimp only [dat0]
/-- What the body leaves in window 1. -/
theorem dat0_after1 (c : Dev nD) (t : Fin cfg0.N) : (dat0 V c).after 1 t = blk0 V c 1 t := by dsimp only [dat0]
/-- What the body leaves in window 2. -/
theorem dat0_after2 (c : Dev nD) (t : Fin cfg0.N) : (dat0 V c).after 2 t = qCodes (blk0 V c 0 t) (blk0 V c 1 t) := by dsimp only [dat0]
/-- What the body leaves in window 3. -/
theorem dat0_after3 (c : Dev nD) (t : Fin cfg0.N) : (dat0 V c).after 3 t = qScales (blk0 V c 0 t) (blk0 V c 1 t) := by dsimp only [dat0]
/-- What the body finds in window 0: its block. -/
theorem dat0_before0 (c : Dev nD) (t : Fin cfg0.N) (d) : (dat0 V c).before 0 t d = blk0 V c 0 t :=
  ((dat0 V c).before_in_eq_fetched 0 rfl (fun _ => rfl) (fun _ _ _ => rfl) (fun t => by rw [dat0_after0]; unfold Dat.blockOf blk0; rw [dat0_A]; try rfl) t d).trans
    (by unfold Dat.fetched Dat.blockOf blk0; rw [dat0_A]; try rfl)
/-- What the body finds in window 1: its block. -/
theorem dat0_before1 (c : Dev nD) (t : Fin cfg0.N) (d) : (dat0 V c).before 1 t d = blk0 V c 1 t :=
  ((dat0 V c).before_in_eq_fetched 1 rfl (fun _ => rfl) (fun _ _ _ => rfl) (fun t => by rw [dat0_after1]; unfold Dat.blockOf blk0; rw [dat0_A]; try rfl) t d).trans
    (by unfold Dat.fetched Dat.blockOf blk0; rw [dat0_A]; try rfl)

/-- What the body is called with at a point. -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What it returns. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point. -/
theorem sound0 (c : Dev nD) (t : Fin cfg0.N) :
    pre0 V c t ⊢ wp frame (wpE (defs₀ (F := F)) Variants.none c none) Set.univ (bodyAt0 t) (fun _ => post0 V c t) := by
  unfold pre0 post0 bodyAt0
  simp only [dat0_before0, dat0_before1]
  rw [show (dat0 V c).Φ t.succ = (dat0 V c).Φ t.castSucc from rfl,
    show (dat0 V c).owesAt () t.succ = (dat0 V c).owesAt () t.castSucc from rfl,
    dat0_after0, dat0_after1, dat0_after2, dat0_after3]
  iintro ⟨HΦ, Ho, ⟨%d0, H0⟩, ⟨%d1, H1⟩, ⟨%d2, H2⟩, ⟨%d3, H3⟩⟩
  iapply (run0 c Set.univ (grid0.coords t) _ _ _ _ _ _ _ _ (blk0 V c 0 t) (blk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem oblig0 (c : Dev nD) : BodyObligation (dat0 (F := F) V c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  exact triple_restated (sound0 V c t) rfl .rfl fun _ => .rfl

end Cert.KernelIdeal.Gen

end
-- ==== Proof.Ideal.GateStep.lean ====
module

public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Regions
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

/-!
# One step of the fused gate/up kernel, in closed form

The fused kernel carries three scratch buffers between grid steps: the hidden rows of a row block (`H`), the row
maxima of the block being filled, lane by lane (`A`), and the finished row maxima of the block before (`P`). This
module names, as plain functions of the input blocks and of these carried values, what one step writes: the codes and
scales of one tile, and the three carried buffers afterwards.
-/

@[expose] public section

set_option maxRecDepth 16384

noncomputable section

namespace Cert.KernelIdeal.Gen

open Idealize.ShloMosaic Idealize.ShloMosaic.TcCoe Idealize.ShloMosaic.Tactic
open Idealize.SL Idealize.SL.Sem

variable {F : FTy → Type} [FloatOps F]

/-- The step is in the first row block. -/
abbrev cond1_0 (i : grid1.Coords) : Prop := k1_cond1 i = 1#1
/-- The step is the first of its row block. -/
abbrev cond1_1 (i : grid1.Coords) : Prop := (Scalar.cmpi .ne (Scalar.extui (Scalar.cmpi .eq (BitVec.ofNat 32 (i 1).val) 0#32)) 0#32) = 1#1
/-- The step is past the last row block. -/
abbrev cond1_2 (i : grid1.Coords) : Prop := k1_cond3 i = 1#1
/-- The step is in a row block to be filled. -/
abbrev cond1_3 (i : grid1.Coords) : Prop := k1_cond4 i = 1#1

/-- The step's column tile lies within the hidden rows. -/
theorem gTile_inb (i : grid1.Coords) : ∀ a, (![0, 1024 * (i 1).val] : Fin 2 → ℕ) a + S512x1024.size a ≤ S512x12288.size a := by
  have h : (i 1).val < 12 := (i 1).isLt
  intro a
  fin_cases a
  · show 0 + 512 ≤ 512; omega
  · show 1024 * (i 1).val + 1024 ≤ 12288; omega

/-- The step's column tile of the hidden rows. -/
def gTile (i : grid1.Coords) (H : Vec F S512x12288 .f32) : Vec F S512x1024 .f32 :=
  VecWindow.window H ![0, 1024 * (i 1).val] S512x1024.size (gTile_inb i)

/-- The power-of-two exponents of the rows, from the carried maxima. -/
def gExp (i : grid1.Coords) (A P : Vec F S512x128 .f32) : IVec S512x1 32 :=
  k1_pay32 (k1_pay26 i A P) (k1_pay27 i A P) (k1_pay30 (k1_pay27 i A P) (k1_pay28 i A P) (k1_pay29 i A P)) (k1_pay31 (k1_pay27 i A P) (k1_pay28 i A P) (k1_pay29 i A P))

/-- The scales a step writes. -/
def gSh (i : grid1.Coords) (A P : Vec F S512x128 .f32) : FVec F S512x1 .f32 :=
  k1_pay1 (gExp i A P)
    (k1_pay33 (k1_pay26 i A P) (k1_pay27 i A P) (k1_pay30 (k1_pay27 i A P) (k1_pay28 i A P) (k1_pay29 i A P)) (k1_pay31 (k1_pay27 i A P) (k1_pay28 i A P) (k1_pay29 i A P)))
    (k1_pay34 (k1_pay26 i A P) (k1_pay27 i A P) (k1_pay30 (k1_pay27 i A P) (k1_pay28 i A P) (k1_pay29 i A P)) (k1_pay31 (k1_pay27 i A P) (k1_pay28 i A P) (k1_pay29 i A P)))

/-- The codes a step writes, from the carried maxima and the tile it reads. -/
def gHq (i : grid1.Coords) (A P : Vec F S512x128 .f32) (T : Vec F S512x1024 .f32) : FVec F S512x1024 .fp8e4m3 :=
  k1_pay4 (k1_pay2 (gExp i A P)) T

/-- A quarter of the weights' column tile lies within it. -/
theorem gW_inb (k : Fin 4) : ∀ a, (![0, 256 * k.val] : Fin 2 → ℕ) a + S4096x256.size a ≤ S4096x1024.size a := by
  have h := k.isLt
  intro a
  fin_cases a
  · show 0 + 4096 ≤ 4096; omega
  · show 256 * k.val + 256 ≤ 1024; omega

/-- A quarter of a row of column factors lies within it. -/
theorem gR_inb (k : Fin 4) : ∀ a, (![0, 256 * k.val] : Fin 2 → ℕ) a + S1x256.size a ≤ S1x1024.size a := by
  have h := k.isLt
  intro a
  fin_cases a
  · show 0 + 1 ≤ 1; omega
  · show 256 * k.val + 256 ≤ 1024; omega

/-- The hidden values of the `k`-th quarter of the step's tile. -/
def gChunk (x0 : Vec F S512x4096 .fp8e4m3) (x1 : Vec F S512x1 .f32) (x2 x3 : Vec F S4096x1024 .fp8e4m3) (x4 x5 x6 : Vec F S1x1024 .f32) (k : Fin 4) : FVec F S512x256 .f32 :=
  k1_pay13 (k1_pay5 x0) (k1_pay6 x1)
    (VecWindow.window x2 ![0, 256 * k.val] S4096x256.size (gW_inb k)) (VecWindow.window x3 ![0, 256 * k.val] S4096x256.size (gW_inb k))
    (VecWindow.window x4 ![0, 256 * k.val] S1x256.size (gR_inb k)) (VecWindow.window x5 ![0, 256 * k.val] S1x256.size (gR_inb k))
    (VecWindow.window x6 ![0, 256 * k.val] S1x256.size (gR_inb k))

/-- The hidden rows with the `k`-th quarter of the step's tile replaced. -/
def gPut (i : grid1.Coords) (H : Vec F S512x12288 .f32) (k : Fin 4) (w : FVec F S512x256 .f32) : Vec F S512x12288 .f32 :=
  VecWindow.put (s := S512x12288) H ![0, 1024 * (i 1).val + 256 * k.val] S512x256.size (k1_pay14 w)

/-- The hidden rows after a step that fills its tile. -/
def gH (i : grid1.Coords) (x0 : Vec F S512x4096 .fp8e4m3) (x1 : Vec F S512x1 .f32) (x2 x3 : Vec F S4096x1024 .fp8e4m3) (x4 x5 x6 : Vec F S1x1024 .f32) (H : Vec F S512x12288 .f32) : Vec F S512x12288 .f32 :=
  gPut i (gPut i (gPut i (gPut i H 0 (gChunk x0 x1 x2 x3 x4 x5 x6 0)) 1 (gChunk x0 x1 x2 x3 x4 x5 x6 1)) 2 (gChunk x0 x1 x2 x3 x4 x5 x6 2)) 3 (gChunk x0 x1 x2 x3 x4 x5 x6 3)

/-- The hidden rows with the step's tile cleared. -/
def gZero (i : grid1.Coords) (H : Vec F S512x12288 .f32) : Vec F S512x12288 .f32 :=
  VecWindow.put (s := S512x12288) H ![0, 1024 * (i 1).val] S512x1024.size (k1_pay21 (F := F))

/-- Lane maxima raised by the absolute values of a quarter tile, its two halves folded onto the lanes. -/
def gMax (p : FVec F S512x128 .f32) (w : FVec F S512x256 .f32) : FVec F S512x128 .f32 :=
  maximumf (maximumf p (extractStridedSlice S512x128 ![0, 0] (absf w) slices_S512x256_o0_0_S512x128)) (extractStridedSlice S512x128 ![0, 128] (absf w) slices_S512x256_o0_128_S512x128)

/-- The lane maxima after a step that fills its tile. -/
def gA (i : grid1.Coords) (x0 : Vec F S512x4096 .fp8e4m3) (x1 : Vec F S512x1 .f32) (x2 x3 : Vec F S4096x1024 .fp8e4m3) (x4 x5 x6 : Vec F S1x1024 .f32) (A : Vec F S512x128 .f32) : FVec F S512x128 .f32 :=
  shapeCast S512x128
    (gMax (gMax (gMax (gMax (k1_pay7 (Scalar.cmpi .eq (BitVec.ofNat 32 (i 1).val) 0#32) A) (gChunk x0 x1 x2 x3 x4 x5 x6 0)) (gChunk x0 x1 x2 x3 x4 x5 x6 1)) (gChunk x0 x1 x2 x3 x4 x5 x6 2)) (gChunk x0 x1 x2 x3 x4 x5 x6 3))
    shapeCasts_S512x128_S512x128

/-- The finished maxima a step leaves. -/
def gP (i : grid1.Coords) (A P : Vec F S512x128 .f32) : FVec F S512x128 .f32 := k1_pay25 i A P

end Cert.KernelIdeal.Gen

end
-- ==== Proof.Ideal.GateState.lean ====
module

public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Regions
public import proofs.«01_k».proof.Proof.Ideal.GateStep
public import Idealize.ShloMosaic.Lib.WordCmp
public import Idealize.ShloMosaic.Lib.Pipeline.FrameBody
public import Idealize.ShloMosaic.Lib.Ring
public import Idealize.ShloMosaic.Lib.Tactic
public import Idealize.ShloMosaic.Lib.VecWindow

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The steps' conditions, as bounds on the point -/

/-- The first row block is the first twelve points. -/
theorem cond1_0_iff : ∀ t : Fin cfg1.N, cond1_0 (grid1.coords t) ↔ t.val < 12 :=
  (fun t => by
    have ht : t.val < 204 := Nat.lt_of_lt_of_eq t.isLt N_1
    have e0 : (grid1.coords t 0).val = t.val / 12 % 17 := Pipeline.Grid.coords_val t 0 (by decide) rfl
    have e1 : (grid1.coords t 1).val = t.val / 1 % 12 := Pipeline.Grid.coords_val t 1 (by decide) rfl
    simp only [cond1_0, k1_cond1, e0, e1]
    word_cmp
   : ∀ t : Fin grid1.N, cond1_0 (grid1.coords t) ↔ t.val < 12)
/-- The first step of a row block. -/
theorem cond1_1_iff : ∀ t : Fin cfg1.N, cond1_1 (grid1.coords t) ↔ t.val % 12 = 0 :=
  (fun t => by
    have ht : t.val < 204 := Nat.lt_of_lt_of_eq t.isLt N_1
    have e0 : (grid1.coords t 0).val = t.val / 12 % 17 := Pipeline.Grid.coords_val t 0 (by decide) rfl
    have e1 : (grid1.coords t 1).val = t.val / 1 % 12 := Pipeline.Grid.coords_val t 1 (by decide) rfl
    simp only [cond1_1, e0, e1]
    word_cmp
   : ∀ t : Fin grid1.N, cond1_1 (grid1.coords t) ↔ t.val % 12 = 0)
/-- The steps past the last row block. -/
theorem cond1_2_iff : ∀ t : Fin cfg1.N, cond1_2 (grid1.coords t) ↔ 192 ≤ t.val :=
  (fun t => by
    have ht : t.val < 204 := Nat.lt_of_lt_of_eq t.isLt N_1
    have e0 : (grid1.coords t 0).val = t.val / 12 % 17 := Pipeline.Grid.coords_val t 0 (by decide) rfl
    have e1 : (grid1.coords t 1).val = t.val / 1 % 12 := Pipeline.Grid.coords_val t 1 (by decide) rfl
    simp only [cond1_2, k1_cond3, e0, e1]
    word_cmp
   : ∀ t : Fin grid1.N, cond1_2 (grid1.coords t) ↔ 192 ≤ t.val)
/-- The steps of a row block to be filled. -/
theorem cond1_3_iff : ∀ t : Fin cfg1.N, cond1_3 (grid1.coords t) ↔ t.val < 192 :=
  (by decide +kernel : ∀ t : Fin grid1.N, cond1_3 (grid1.coords t) ↔ t.val < 192)
/-- The column tile of a step. -/
theorem coord1_1 : ∀ t : Fin cfg1.N, (grid1.coords t 1).val = t.val % 12 :=
  (fun t => by
    have e1 : (grid1.coords t 1).val = t.val / 1 % 12 := Pipeline.Grid.coords_val t 1 (by decide) rfl
    rw [e1, Nat.div_one] : ∀ t : Fin grid1.N, (grid1.coords t 1).val = t.val % 12)
/-- The row block of a step. -/
theorem coord1_0 : ∀ t : Fin cfg1.N, (grid1.coords t 0).val = t.val / 12 % 17 :=
  (fun t => Pipeline.Grid.coords_val t 0 (by decide) rfl : ∀ t : Fin grid1.N, (grid1.coords t 0).val = t.val / 12 % 17)

/-! ## The carried state, point by point -/

variable (V : (c : Dev nD) → (b : Ref sig .tc) → Buf (Elt F) ((c : Thread nD τ).loc b))

/-- The block a window stages at a point, from the contents the region finds. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the body carries between points: the hidden rows, the running lane maxima and the finished ones. -/
abbrev GState (F : FTy → Type) : Type := Vec F S512x12288 .f32 × Vec F S512x128 .f32 × Vec F S512x128 .f32

/-- The hidden rows after a point. -/
def stepH (c : Dev nD) (t : Fin cfg1.N) (H : Vec F S512x12288 .f32) : Vec F S512x12288 .f32 :=
  if t.val < 192 then gH (grid1.coords t) (blk1 V c 0 t) (blk1 V c 1 t) (blk1 V c 2 t) (blk1 V c 3 t) (blk1 V c 4 t) (blk1 V c 5 t) (blk1 V c 6 t) (if t.val < 12 then gZero (grid1.coords t) H else H) else H
/-- The running lane maxima after a point. -/
def stepA (c : Dev nD) (t : Fin cfg1.N) (A : Vec F S512x128 .f32) : Vec F S512x128 .f32 :=
  if t.val < 192 then gA (grid1.coords t) (blk1 V c 0 t) (blk1 V c 1 t) (blk1 V c 2 t) (blk1 V c 3 t) (blk1 V c 4 t) (blk1 V c 5 t) (blk1 V c 6 t) A else A
/-- The state after a point. -/
def gStep (c : Dev nD) (t : Fin cfg1.N) (s : GState F) : GState F :=
  (stepH V c t s.1, stepA V c t s.2.1, gP (grid1.coords t) s.2.1 s.2.2)
/-- The state before the first point, as the first point's clearing makes it. -/
def gInit : GState F := (fun _ => (k1_pay21 (F := F)) (fun a => ⟨0, by fin_cases a <;> decide⟩), k1_pay22 (F := F), k1_pay23 (F := F))
/-- The state before the `n`-th point. -/
def gSt (c : Dev nD) : ℕ → GState F
  | 0 => gInit
  | n + 1 => if h : n < cfg1.N then gStep V c ⟨n, h⟩ (gSt c n) else gSt c n

/-- One more point is one more step. -/
theorem gSt_succ (c : Dev nD) (t : Fin cfg1.N) : gSt V c (t.val + 1) = gStep V c t (gSt V c t.val) := by
  simp only [gSt, dif_pos t.isLt]

/-- The tile a step writes out: cleared in the first row block, else carried from the block before. -/
def outT (t : Fin cfg1.N) (H : Vec F S512x12288 .f32) : Vec F S512x1024 .f32 :=
  if t.val < 12 then k1_pay21 (F := F) else gTile (grid1.coords t) H
/-- The codes a point writes. -/
def outQ (c : Dev nD) (t : Fin cfg1.N) : Vec F S512x1024 .fp8e4m3 :=
  gHq (grid1.coords t) (gSt V c t.val).2.1 (gSt V c t.val).2.2 (outT t (gSt V c t.val).1)
/-- The scales a point writes. -/
def outS (c : Dev nD) (t : Fin cfg1.N) : Vec F S512x1 .f32 :=
  gSh (grid1.coords t) (gSt V c t.val).2.1 (gSt V c t.val).2.2

/-! ## Agreement of the hidden rows with the stated ones

    Before the first row block is filled, the columns past the filled tiles hold anything. -/

/-- `H` and `H'` agree on the columns the first `n` points have filled. -/
def Agree (n : ℕ) (H H' : Vec F S512x12288 .f32) : Prop := ∀ y : S512x12288.Idx, 12 ≤ n ∨ (y 1).val < 1024 * n → H y = H' y

/-- From the twelfth point on they are equal. -/
theorem Agree.eq {n : ℕ} {H H' : Vec F S512x12288 .f32} (h : Agree n H H') (hn : 12 ≤ n) : H = H' :=
  funext fun y => h y (.inl hn)
/-- Equal rows agree. -/
theorem Agree.refl (n : ℕ) (H : Vec F S512x12288 .f32) : Agree n H H := fun _ _ => rfl
/-- Nothing is asked before the first point. -/
theorem Agree.zero (H H' : Vec F S512x12288 .f32) : Agree 0 H H' := fun y h => by omega
/-- A window put into rows that agree at a point leaves them agreeing there. -/
theorem gPut_at (i : grid1.Coords) {H H' : Vec F S512x12288 .f32} (k : Fin 4) (w : FVec F S512x256 .f32) (y : S512x12288.Idx) (h : H y = H' y) :
    gPut i H k w y = gPut i H' k w y := by
  unfold gPut VecWindow.put
  split
  · rfl
  · exact h
/-- The step's tile cleared, the rows agree on it and wherever they did. -/
theorem gZero_at (i : grid1.Coords) {H H' : Vec F S512x12288 .f32} (y : S512x12288.Idx)
    (h : H y = H' y ∨ (1024 * (i 1).val ≤ (y 1).val ∧ (y 1).val < 1024 * (i 1).val + 1024)) :
    gZero i H y = gZero i H' y := by
  unfold gZero VecWindow.put
  split
  · rfl
  · rename_i hn
    rcases h with h | h
    · exact h
    · refine absurd (fun a => ?_) hn
      have h0 : (y 0).val < 512 := (y 0).isLt
      fin_cases a
      · show 0 ≤ (y 0).val ∧ (y 0).val < 0 + 512; omega
      · exact h
/-- A step of the first row block extends the agreement by its tile. -/
theorem Agree.step_first (c : Dev nD) (t : Fin cfg1.N) (ht : t.val < 12) {H H' : Vec F S512x12288 .f32} (h : Agree t.val H H') :
    Agree (t.val + 1) (gH (grid1.coords t) (blk1 V c 0 t) (blk1 V c 1 t) (blk1 V c 2 t) (blk1 V c 3 t) (blk1 V c 4 t) (blk1 V c 5 t) (blk1 V c 6 t) (gZero (grid1.coords t) H)) (stepH V c t H') := by
  intro y hy
  unfold stepH
  rw [if_pos (by omega : t.val < 192), if_pos ht]
  have e1 : (grid1.coords t 1).val = t.val := by rw [coord1_1]; omega
  have hz : gZero (grid1.coords t) H y = gZero (grid1.coords t) H' y := by
    refine gZero_at _ y ?_
    have hy1 : (y 1).val < 12288 := (y 1).isLt
    by_cases hc : (y 1).val < 1024 * t.val
    · exact .inl (h y (.inr hc))
    · right; rw [e1]; omega
  exact gPut_at _ _ _ y (gPut_at _ _ _ y (gPut_at _ _ _ y (gPut_at _ _ _ y hz)))

end Cert.KernelIdeal.Gen

end
-- ==== Proof.Ideal.GateRunA.lean ====
module

public import proofs.«01_k».proof.Proof.Ideal.GateStep

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The first grid step of the fused gate/up kernel: it clears its column tile of the carried hidden rows and both carried row maxima, and then runs as any step does. Stated as a triple: from the seven input blocks, any contents of the two output blocks and the three
    scratch buffers at `H`, `A` and `P`, the body leaves the values the step's closed forms name. -/
theorem gate_run_A (c : Dev nD) (i : grid1.Coords) (arg2 : Memref sig .tc .vmem S512x4096 .fp8e4m3) (harg2 : arg2.IsWhole) (arg3 : Memref sig .tc .vmem S512x1 .f32) (harg3 : arg3.IsWhole) (arg4 : Memref sig .tc .vmem S4096x1024 .fp8e4m3) (harg4 : arg4.IsWhole) (arg5 : Memref sig .tc .vmem S4096x1024 .fp8e4m3) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .fp8e4m3) (harg9 : arg9.IsWhole) (arg10 : Memref sig .tc .vmem S512x1 .f32) (harg10 : arg10.IsWhole) (arg11 : Memref sig .tc .vmem S512x12288 .f32) (harg11 : arg11.IsWhole) (arg12 : Memref sig .tc .vmem S512x128 .f32) (harg12 : arg12.IsWhole) (arg13 : Memref sig .tc .vmem S512x128 .f32) (harg13 : arg13.IsWhole) (hc0 : cond1_0 i) (hc1 : cond1_1 i) (hc2 : ¬cond1_2 i) (hc3 : cond1_3 i)
    (x0 : Vec F S512x4096 .fp8e4m3) (x1 : Vec F S512x1 .f32) (x2 : Vec F S4096x1024 .fp8e4m3) (x3 : Vec F S4096x1024 .fp8e4m3) (x4 : Vec F S1x1024 .f32) (x5 : Vec F S1x1024 .f32) (x6 : Vec F S1x1024 .f32) (H : Vec F S512x12288 .f32) (A P : Vec F S512x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ owns (c : Thread nD τ) arg11 fullShare H ∗ owns (c : Thread nD τ) arg12 fullShare A ∗ owns (c : Thread nD τ) arg13 fullShare P
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (gHq i (k1_pay22 (F := F)) (k1_pay23 (F := F)) (k1_pay21 (F := F))) ∗ owns (c : Thread nD τ) arg10 fullShare (gSh i (k1_pay22 (F := F)) (k1_pay23 (F := F))) ∗ owns (c : Thread nD τ) arg11 fullShare (gH i x0 x1 x2 x3 x4 x5 x6 (gZero i H)) ∗ owns (c : Thread nD τ) arg12 fullShare (gA i x0 x1 x2 x3 x4 x5 x6 (k1_pay22 (F := F))) ∗ owns (c : Thread nD τ) arg13 fullShare (gP i (k1_pay22 (F := F)) (k1_pay23 (F := F)))) -∗ K ⟨⟩))
      ⊢ wp frame (wpE (defs₀ (F := F)) Variants.none c none) E (cc1_gate_up i arg2 harg2 arg3 harg3 arg4 harg4 arg5 harg5 arg6 harg6 arg7 harg7 arg8 harg8 arg9 harg9 arg10 harg10 arg11 harg11 arg12 harg12 arg13 harg13) K := by
  simp only [cc1_gate_up_eq_skeleton]; unfold cc1_gate_up_skel
  simp only [k1_part4_eq_skeleton, k1_part5_eq_skeleton, k1_part6_eq_skeleton, k1_part7_eq_skeleton, k1_part1_eq_skeleton, k1_part2_eq_skeleton, k1_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs0, %hfs0, HS0⟩, ⟨%fs1, %hfs1, HS1⟩, ⟨%fs2, %hfs2, HS2⟩, Hk⟩
  subst hf0 hf1 hf2 hf3 hf4 hf5 hf6 hfs0 hfs1 hfs2
  sl_exec (disch := first | sl_exact hc0 | sl_exact hc1 | sl_exact hc2 | sl_exact hc3)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; swap; · iexact H7
    ipureintro
    refine (View.read_writes_full _ _ _ _ _).trans ?_
    (try delta gate_run_A.sl.r_16); (try delta gate_run_A.sl.r_15); (try delta gate_run_A.sl.r_14); (try delta gate_run_A.sl.r_13); (try delta gate_run_A.sl.r_12); (try delta gate_run_A.sl.r_11); (try delta gate_run_A.sl.r_10); (try delta gate_run_A.sl.r_9); (try delta gate_run_A.sl.r_8); (try delta gate_run_A.sl.r_7); (try delta gate_run_A.sl.r_6); (try delta gate_run_A.sl.r_5); (try delta gate_run_A.sl.r_4); (try delta gate_run_A.sl.r_3); (try delta gate_run_A.sl.r_2); (try delta gate_run_A.sl.r_1); (try delta gate_run_A.sl.r); (try delta gate_run_A.sl.v6); (try delta gate_run_A.sl.v7); (try delta gate_run_A.sl.v154); (try delta gate_run_A.sl.HS0_1); (try delta gate_run_A.sl.HS1_1); (try delta gate_run_A.sl.HS2_1); (try delta View.readCov)
    rw [View.readAt_writes_full (Val := Elt F) arg12.view arg12.view.junk inb_S512x128_S512x128_0_0 inb_S512x128_S512x128_0_0 (k1_pay22 (F := F)) [], View.readAt_writes_full (Val := Elt F) arg13.view arg13.view.junk inb_S512x128_S512x128_0_0 inb_S512x128_S512x128_0_0 (k1_pay23 (F := F)) []]
    rw [View.readAt_unit arg11.view _ _ (k1_off3_eq i) (gTile_inb i), View.read_writes_cons_put _ _ _ _ _ (k1_off1_eq i), VecWindow.window_put_same]
    rfl
  isplitl [H8]
  · iexists _; isplitr; swap; · iexact H8
    ipureintro
    refine (View.read_writes_full _ _ _ _ _).trans ?_
    (try delta gate_run_A.sl.r_16); (try delta gate_run_A.sl.r_15); (try delta gate_run_A.sl.r_14); (try delta gate_run_A.sl.r_13); (try delta gate_run_A.sl.r_12); (try delta gate_run_A.sl.r_11); (try delta gate_run_A.sl.r_10); (try delta gate_run_A.sl.r_9); (try delta gate_run_A.sl.r_8); (try delta gate_run_A.sl.r_7); (try delta gate_run_A.sl.r_6); (try delta gate_run_A.sl.r_5); (try delta gate_run_A.sl.r_4); (try delta gate_run_A.sl.r_3); (try delta gate_run_A.sl.r_2); (try delta gate_run_A.sl.r_1); (try delta gate_run_A.sl.r); (try delta gate_run_A.sl.v6); (try delta gate_run_A.sl.v7); (try delta gate_run_A.sl.v154); (try delta gate_run_A.sl.HS0_1); (try delta gate_run_A.sl.HS1_1); (try delta gate_run_A.sl.HS2_1); (try delta View.readCov)
    rw [View.readAt_writes_full (Val := Elt F) arg12.view arg12.view.junk inb_S512x128_S512x128_0_0 inb_S512x128_S512x128_0_0 (k1_pay22 (F := F)) [], View.readAt_writes_full (Val := Elt F) arg13.view arg13.view.junk inb_S512x128_S512x128_0_0 inb_S512x128_S512x128_0_0 (k1_pay23 (F := F)) []]
    rfl
  isplitl [HS0]
  · iexists _; isplitr; swap; · iexact HS0
    ipureintro
    (try delta gate_run_A.sl.r_16); (try delta gate_run_A.sl.r_15); (try delta gate_run_A.sl.r_14); (try delta gate_run_A.sl.r_13); (try delta gate_run_A.sl.r_12); (try delta gate_run_A.sl.r_11); (try delta gate_run_A.sl.r_10); (try delta gate_run_A.sl.r_9); (try delta gate_run_A.sl.r_8); (try delta gate_run_A.sl.r_7); (try delta gate_run_A.sl.r_6); (try delta gate_run_A.sl.r_5); (try delta gate_run_A.sl.r_4); (try delta gate_run_A.sl.r_3); (try delta gate_run_A.sl.r_2); (try delta gate_run_A.sl.r_1); (try delta gate_run_A.sl.r); (try delta gate_run_A.sl.v6); (try delta gate_run_A.sl.v7); (try delta gate_run_A.sl.v154); (try delta gate_run_A.sl.HS0_1); (try delta gate_run_A.sl.HS1_1); (try delta gate_run_A.sl.HS2_1); (try delta View.readCov)
    rw [View.readAt_full arg2.view f0 inb_S512x4096_S512x4096_0_0, View.readAt_full arg3.view f1 inb_S512x1_S512x1_0_0]
    rw [View.read_writes_cons_put arg11.view _ _ _ _ (show k1_off4 i 768#32 = _ from k1_off4_eq i 3), View.read_writes_cons_put arg11.view _ _ _ _ (show k1_off4 i 512#32 = _ from k1_off4_eq i 2), View.read_writes_cons_put arg11.view _ _ _ _ (show k1_off4 i 256#32 = _ from k1_off4_eq i 1), View.read_writes_cons_put arg11.view _ _ _ _ (show k1_off4 i 0#32 = _ from k1_off4_eq i 0), View.read_writes_cons_put _ _ _ _ _ (k1_off1_eq i), View.writes_nil]
    rfl
  isplitl [HS1]
  · iexists _; isplitr; swap; · iexact HS1
    ipureintro
    refine (View.read_writes_full _ _ _ _ _).trans ?_
    (try delta gate_run_A.sl.r_16); (try delta gate_run_A.sl.r_15); (try delta gate_run_A.sl.r_14); (try delta gate_run_A.sl.r_13); (try delta gate_run_A.sl.r_12); (try delta gate_run_A.sl.r_11); (try delta gate_run_A.sl.r_10); (try delta gate_run_A.sl.r_9); (try delta gate_run_A.sl.r_8); (try delta gate_run_A.sl.r_7); (try delta gate_run_A.sl.r_6); (try delta gate_run_A.sl.r_5); (try delta gate_run_A.sl.r_4); (try delta gate_run_A.sl.r_3); (try delta gate_run_A.sl.r_2); (try delta gate_run_A.sl.r_1); (try delta gate_run_A.sl.r); (try delta gate_run_A.sl.v6); (try delta gate_run_A.sl.v7); (try delta gate_run_A.sl.v154); (try delta gate_run_A.sl.HS0_1); (try delta gate_run_A.sl.HS1_1); (try delta gate_run_A.sl.HS2_1); (try delta View.readCov)
    rw [View.readAt_full arg2.view f0 inb_S512x4096_S512x4096_0_0, View.readAt_full arg3.view f1 inb_S512x1_S512x1_0_0, View.readAt_writes_full (Val := Elt F) arg12.view arg12.view.junk inb_S512x128_S512x128_0_0 inb_S512x128_S512x128_0_0 (k1_pay22 (F := F)) []]
    rfl
  iexists _; isplitr; swap; · iexact HS2
  ipureintro
  refine (View.read_writes_full _ _ _ _ _).trans ?_
  (try delta gate_run_A.sl.r_16); (try delta gate_run_A.sl.r_15); (try delta gate_run_A.sl.r_14); (try delta gate_run_A.sl.r_13); (try delta gate_run_A.sl.r_12); (try delta gate_run_A.sl.r_11); (try delta gate_run_A.sl.r_10); (try delta gate_run_A.sl.r_9); (try delta gate_run_A.sl.r_8); (try delta gate_run_A.sl.r_7); (try delta gate_run_A.sl.r_6); (try delta gate_run_A.sl.r_5); (try delta gate_run_A.sl.r_4); (try delta gate_run_A.sl.r_3); (try delta gate_run_A.sl.r_2); (try delta gate_run_A.sl.r_1); (try delta gate_run_A.sl.r); (try delta gate_run_A.sl.v6); (try delta gate_run_A.sl.v7); (try delta gate_run_A.sl.v154); (try delta gate_run_A.sl.HS0_1); (try delta gate_run_A.sl.HS1_1); (try delta gate_run_A.sl.HS2_1); (try delta View.readCov)
  rw [View.readAt_writes_full (Val := Elt F) arg12.view arg12.view.junk inb_S512x128_S512x128_0_0 inb_S512x128_S512x128_0_0 (k1_pay22 (F := F)) [], View.readAt_writes_full (Val := Elt F) arg13.view arg13.view.junk inb_S512x128_S512x128_0_0 inb_S512x128_S512x128_0_0 (k1_pay23 (F := F)) []]
  rfl

end Cert.KernelIdeal.Gen

end
-- ==== Proof.Ideal.GateRunB.lean ====
module

public import proofs.«01_k».proof.Proof.Ideal.GateStep

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The other steps of the first row block: each clears its own column tile before reading it. Stated as a triple: from the seven input blocks, any contents of the two output blocks and the three
    scratch buffers at `H`, `A` and `P`, the body leaves the values the step's closed forms name. -/
theorem gate_run_B (c : Dev nD) (i : grid1.Coords) (arg2 : Memref sig .tc .vmem S512x4096 .fp8e4m3) (harg2 : arg2.IsWhole) (arg3 : Memref sig .tc .vmem S512x1 .f32) (harg3 : arg3.IsWhole) (arg4 : Memref sig .tc .vmem S4096x1024 .fp8e4m3) (harg4 : arg4.IsWhole) (arg5 : Memref sig .tc .vmem S4096x1024 .fp8e4m3) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .fp8e4m3) (harg9 : arg9.IsWhole) (arg10 : Memref sig .tc .vmem S512x1 .f32) (harg10 : arg10.IsWhole) (arg11 : Memref sig .tc .vmem S512x12288 .f32) (harg11 : arg11.IsWhole) (arg12 : Memref sig .tc .vmem S512x128 .f32) (harg12 : arg12.IsWhole) (arg13 : Memref sig .tc .vmem S512x128 .f32) (harg13 : arg13.IsWhole) (hc0 : cond1_0 i) (hc1 : ¬cond1_1 i) (hc2 : ¬cond1_2 i) (hc3 : cond1_3 i)
    (x0 : Vec F S512x4096 .fp8e4m3) (x1 : Vec F S512x1 .f32) (x2 : Vec F S4096x1024 .fp8e4m3) (x3 : Vec F S4096x1024 .fp8e4m3) (x4 : Vec F S1x1024 .f32) (x5 : Vec F S1x1024 .f32) (x6 : Vec F S1x1024 .f32) (H : Vec F S512x12288 .f32) (A P : Vec F S512x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ owns (c : Thread nD τ) arg11 fullShare H ∗ owns (c : Thread nD τ) arg12 fullShare A ∗ owns (c : Thread nD τ) arg13 fullShare P
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (gHq i A P (k1_pay21 (F := F))) ∗ owns (c : Thread nD τ) arg10 fullShare (gSh i A P) ∗ owns (c : Thread nD τ) arg11 fullShare (gH i x0 x1 x2 x3 x4 x5 x6 (gZero i H)) ∗ owns (c : Thread nD τ) arg12 fullShare (gA i x0 x1 x2 x3 x4 x5 x6 A) ∗ owns (c : Thread nD τ) arg13 fullShare (gP i A P)) -∗ K ⟨⟩))
      ⊢ wp frame (wpE (defs₀ (F := F)) Variants.none c none) E (cc1_gate_up i arg2 harg2 arg3 harg3 arg4 harg4 arg5 harg5 arg6 harg6 arg7 harg7 arg8 harg8 arg9 harg9 arg10 harg10 arg11 harg11 arg12 harg12 arg13 harg13) K := by
  simp only [cc1_gate_up_eq_skeleton]; unfold cc1_gate_up_skel
  simp only [k1_part4_eq_skeleton, k1_part5_eq_skeleton, k1_part6_eq_skeleton, k1_part7_eq_skeleton, k1_part1_eq_skeleton, k1_part2_eq_skeleton, k1_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs0, %hfs0, HS0⟩, ⟨%fs1, %hfs1, HS1⟩, ⟨%fs2, %hfs2, HS2⟩, Hk⟩
  subst hf0 hf1 hf2 hf3 hf4 hf5 hf6 hfs0 hfs1 hfs2
  sl_exec (disch := first | sl_exact hc0 | sl_exact hc1 | sl_exact hc2 | sl_exact hc3)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; swap; · iexact H7
    ipureintro
    refine (View.read_writes_full _ _ _ _ _).trans ?_
    (try delta gate_run_B.sl.r_17); (try delta gate_run_B.sl.r_16); (try delta gate_run_B.sl.r_15); (try delta gate_run_B.sl.r_14); (try delta gate_run_B.sl.r_13); (try delta gate_run_B.sl.r_12); (try delta gate_run_B.sl.r_11); (try delta gate_run_B.sl.r_10); (try delta gate_run_B.sl.r_9); (try delta gate_run_B.sl.r_8); (try delta gate_run_B.sl.r_7); (try delta gate_run_B.sl.r_6); (try delta gate_run_B.sl.r_5); (try delta gate_run_B.sl.r_4); (try delta gate_run_B.sl.r_3); (try delta gate_run_B.sl.r_2); (try delta gate_run_B.sl.r_1); (try delta gate_run_B.sl.r); (try delta gate_run_B.sl.v154); (try delta gate_run_B.sl.HS0_1); (try delta gate_run_B.sl.HS1_1); (try delta gate_run_B.sl.HS2_1); (try delta View.readCov)
    rw [View.readAt_full arg12.view fs1 inb_S512x128_S512x128_0_0, View.readAt_full arg13.view fs2 inb_S512x128_S512x128_0_0]
    rw [View.readAt_unit arg11.view _ _ (k1_off3_eq i) (gTile_inb i), View.read_writes_cons_put _ _ _ _ _ (k1_off1_eq i), VecWindow.window_put_same]
    rfl
  isplitl [H8]
  · iexists _; isplitr; swap; · iexact H8
    ipureintro
    refine (View.read_writes_full _ _ _ _ _).trans ?_
    (try delta gate_run_B.sl.r_17); (try delta gate_run_B.sl.r_16); (try delta gate_run_B.sl.r_15); (try delta gate_run_B.sl.r_14); (try delta gate_run_B.sl.r_13); (try delta gate_run_B.sl.r_12); (try delta gate_run_B.sl.r_11); (try delta gate_run_B.sl.r_10); (try delta gate_run_B.sl.r_9); (try delta gate_run_B.sl.r_8); (try delta gate_run_B.sl.r_7); (try delta gate_run_B.sl.r_6); (try delta gate_run_B.sl.r_5); (try delta gate_run_B.sl.r_4); (try delta gate_run_B.sl.r_3); (try delta gate_run_B.sl.r_2); (try delta gate_run_B.sl.r_1); (try delta gate_run_B.sl.r); (try delta gate_run_B.sl.v154); (try delta gate_run_B.sl.HS0_1); (try delta gate_run_B.sl.HS1_1); (try delta gate_run_B.sl.HS2_1); (try delta View.readCov)
    rw [View.readAt_full arg12.view fs1 inb_S512x128_S512x128_0_0, View.readAt_full arg13.view fs2 inb_S512x128_S512x128_0_0]
    rfl
  isplitl [HS0]
  · iexists _; isplitr; swap; · iexact HS0
    ipureintro
    (try delta gate_run_B.sl.r_17); (try delta gate_run_B.sl.r_16); (try delta gate_run_B.sl.r_15); (try delta gate_run_B.sl.r_14); (try delta gate_run_B.sl.r_13); (try delta gate_run_B.sl.r_12); (try delta gate_run_B.sl.r_11); (try delta gate_run_B.sl.r_10); (try delta gate_run_B.sl.r_9); (try delta gate_run_B.sl.r_8); (try delta gate_run_B.sl.r_7); (try delta gate_run_B.sl.r_6); (try delta gate_run_B.sl.r_5); (try delta gate_run_B.sl.r_4); (try delta gate_run_B.sl.r_3); (try delta gate_run_B.sl.r_2); (try delta gate_run_B.sl.r_1); (try delta gate_run_B.sl.r); (try delta gate_run_B.sl.v154); (try delta gate_run_B.sl.HS0_1); (try delta gate_run_B.sl.HS1_1); (try delta gate_run_B.sl.HS2_1); (try delta View.readCov)
    rw [View.readAt_full arg2.view f0 inb_S512x4096_S512x4096_0_0, View.readAt_full arg3.view f1 inb_S512x1_S512x1_0_0]
    rw [View.read_writes_cons_put arg11.view _ _ _ _ (show k1_off4 i 768#32 = _ from k1_off4_eq i 3), View.read_writes_cons_put arg11.view _ _ _ _ (show k1_off4 i 512#32 = _ from k1_off4_eq i 2), View.read_writes_cons_put arg11.view _ _ _ _ (show k1_off4 i 256#32 = _ from k1_off4_eq i 1), View.read_writes_cons_put arg11.view _ _ _ _ (show k1_off4 i 0#32 = _ from k1_off4_eq i 0), View.read_writes_cons_put _ _ _ _ _ (k1_off1_eq i), View.writes_nil]
    rfl
  isplitl [HS1]
  · iexists _; isplitr; swap; · iexact HS1
    ipureintro
    refine (View.read_writes_full _ _ _ _ _).trans ?_
    (try delta gate_run_B.sl.r_17); (try delta gate_run_B.sl.r_16); (try delta gate_run_B.sl.r_15); (try delta gate_run_B.sl.r_14); (try delta gate_run_B.sl.r_13); (try delta gate_run_B.sl.r_12); (try delta gate_run_B.sl.r_11); (try delta gate_run_B.sl.r_10); (try delta gate_run_B.sl.r_9); (try delta gate_run_B.sl.r_8); (try delta gate_run_B.sl.r_7); (try delta gate_run_B.sl.r_6); (try delta gate_run_B.sl.r_5); (try delta gate_run_B.sl.r_4); (try delta gate_run_B.sl.r_3); (try delta gate_run_B.sl.r_2); (try delta gate_run_B.sl.r_1); (try delta gate_run_B.sl.r); (try delta gate_run_B.sl.v154); (try delta gate_run_B.sl.HS0_1); (try delta gate_run_B.sl.HS1_1); (try delta gate_run_B.sl.HS2_1); (try delta View.readCov)
    rw [View.readAt_full arg2.view f0 inb_S512x4096_S512x4096_0_0, View.readAt_full arg3.view f1 inb_S512x1_S512x1_0_0, View.readAt_full arg12.view fs1 inb_S512x128_S512x128_0_0]
    rfl
  iexists _; isplitr; swap; · iexact HS2
  ipureintro
  refine (View.read_writes_full _ _ _ _ _).trans ?_
  (try delta gate_run_B.sl.r_17); (try delta gate_run_B.sl.r_16); (try delta gate_run_B.sl.r_15); (try delta gate_run_B.sl.r_14); (try delta gate_run_B.sl.r_13); (try delta gate_run_B.sl.r_12); (try delta gate_run_B.sl.r_11); (try delta gate_run_B.sl.r_10); (try delta gate_run_B.sl.r_9); (try delta gate_run_B.sl.r_8); (try delta gate_run_B.sl.r_7); (try delta gate_run_B.sl.r_6); (try delta gate_run_B.sl.r_5); (try delta gate_run_B.sl.r_4); (try delta gate_run_B.sl.r_3); (try delta gate_run_B.sl.r_2); (try delta gate_run_B.sl.r_1); (try delta gate_run_B.sl.r); (try delta gate_run_B.sl.v154); (try delta gate_run_B.sl.HS0_1); (try delta gate_run_B.sl.HS1_1); (try delta gate_run_B.sl.HS2_1); (try delta View.readCov)
  rw [View.readAt_full arg12.view fs1 inb_S512x128_S512x128_0_0, View.readAt_full arg13.view fs2 inb_S512x128_S512x128_0_0]
  rfl

end Cert.KernelIdeal.Gen

end
-- ==== Proof.Ideal.GateRunC.lean ====
module

public import proofs.«01_k».proof.Proof.Ideal.GateStep

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- A step of a later row block: it writes out the tile carried from the block before, then fills the tile with this block's hidden values. Stated as a triple: from the seven input blocks, any contents of the two output blocks and the three
    scratch buffers at `H`, `A` and `P`, the body leaves the values the step's closed forms name. -/
theorem gate_run_C (c : Dev nD) (i : grid1.Coords) (arg2 : Memref sig .tc .vmem S512x4096 .fp8e4m3) (harg2 : arg2.IsWhole) (arg3 : Memref sig .tc .vmem S512x1 .f32) (harg3 : arg3.IsWhole) (arg4 : Memref sig .tc .vmem S4096x1024 .fp8e4m3) (harg4 : arg4.IsWhole) (arg5 : Memref sig .tc .vmem S4096x1024 .fp8e4m3) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .fp8e4m3) (harg9 : arg9.IsWhole) (arg10 : Memref sig .tc .vmem S512x1 .f32) (harg10 : arg10.IsWhole) (arg11 : Memref sig .tc .vmem S512x12288 .f32) (harg11 : arg11.IsWhole) (arg12 : Memref sig .tc .vmem S512x128 .f32) (harg12 : arg12.IsWhole) (arg13 : Memref sig .tc .vmem S512x128 .f32) (harg13 : arg13.IsWhole) (hc0 : ¬cond1_0 i) (hc2 : ¬cond1_2 i) (hc3 : cond1_3 i)
    (x0 : Vec F S512x4096 .fp8e4m3) (x1 : Vec F S512x1 .f32) (x2 : Vec F S4096x1024 .fp8e4m3) (x3 : Vec F S4096x1024 .fp8e4m3) (x4 : Vec F S1x1024 .f32) (x5 : Vec F S1x1024 .f32) (x6 : Vec F S1x1024 .f32) (H : Vec F S512x12288 .f32) (A P : Vec F S512x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ owns (c : Thread nD τ) arg11 fullShare H ∗ owns (c : Thread nD τ) arg12 fullShare A ∗ owns (c : Thread nD τ) arg13 fullShare P
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (gHq i A P (gTile i H)) ∗ owns (c : Thread nD τ) arg10 fullShare (gSh i A P) ∗ owns (c : Thread nD τ) arg11 fullShare (gH i x0 x1 x2 x3 x4 x5 x6 H) ∗ owns (c : Thread nD τ) arg12 fullShare (gA i x0 x1 x2 x3 x4 x5 x6 A) ∗ owns (c : Thread nD τ) arg13 fullShare (gP i A P)) -∗ K ⟨⟩))
      ⊢ wp frame (wpE (defs₀ (F := F)) Variants.none c none) E (cc1_gate_up i arg2 harg2 arg3 harg3 arg4 harg4 arg5 harg5 arg6 harg6 arg7 harg7 arg8 harg8 arg9 harg9 arg10 harg10 arg11 harg11 arg12 harg12 arg13 harg13) K := by
  simp only [cc1_gate_up_eq_skeleton]; unfold cc1_gate_up_skel
  simp only [k1_part4_eq_skeleton, k1_part5_eq_skeleton, k1_part6_eq_skeleton, k1_part7_eq_skeleton, k1_part1_eq_skeleton, k1_part2_eq_skeleton, k1_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs0, %hfs0, HS0⟩, ⟨%fs1, %hfs1, HS1⟩, ⟨%fs2, %hfs2, HS2⟩, Hk⟩
  subst hf0 hf1 hf2 hf3 hf4 hf5 hf6 hfs0 hfs1 hfs2
  sl_exec (disch := first | sl_exact hc0 | sl_exact hc2 | sl_exact hc3)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; swap; · iexact H7
    ipureintro
    refine (View.read_writes_full _ _ _ _ _).trans ?_
    (try delta gate_run_C.sl.r_17); (try delta gate_run_C.sl.r_16); (try delta gate_run_C.sl.r_15); (try delta gate_run_C.sl.r_14); (try delta gate_run_C.sl.r_13); (try delta gate_run_C.sl.r_12); (try delta gate_run_C.sl.r_11); (try delta gate_run_C.sl.r_10); (try delta gate_run_C.sl.r_9); (try delta gate_run_C.sl.r_8); (try delta gate_run_C.sl.r_7); (try delta gate_run_C.sl.r_6); (try delta gate_run_C.sl.r_5); (try delta gate_run_C.sl.r_4); (try delta gate_run_C.sl.r_3); (try delta gate_run_C.sl.r_2); (try delta gate_run_C.sl.r_1); (try delta gate_run_C.sl.r); (try delta gate_run_C.sl.v154); (try delta gate_run_C.sl.HS0_1); (try delta gate_run_C.sl.HS1_1); (try delta gate_run_C.sl.HS2_1)
    rw [View.readAt_full arg12.view fs1 inb_S512x128_S512x128_0_0, View.readAt_full arg13.view fs2 inb_S512x128_S512x128_0_0]
    rw [View.readAt_unit arg11.view fs0 _ (k1_off3_eq i) (gTile_inb i)]
    rfl
  isplitl [H8]
  · iexists _; isplitr; swap; · iexact H8
    ipureintro
    refine (View.read_writes_full _ _ _ _ _).trans ?_
    (try delta gate_run_C.sl.r_17); (try delta gate_run_C.sl.r_16); (try delta gate_run_C.sl.r_15); (try delta gate_run_C.sl.r_14); (try delta gate_run_C.sl.r_13); (try delta gate_run_C.sl.r_12); (try delta gate_run_C.sl.r_11); (try delta gate_run_C.sl.r_10); (try delta gate_run_C.sl.r_9); (try delta gate_run_C.sl.r_8); (try delta gate_run_C.sl.r_7); (try delta gate_run_C.sl.r_6); (try delta gate_run_C.sl.r_5); (try delta gate_run_C.sl.r_4); (try delta gate_run_C.sl.r_3); (try delta gate_run_C.sl.r_2); (try delta gate_run_C.sl.r_1); (try delta gate_run_C.sl.r); (try delta gate_run_C.sl.v154); (try delta gate_run_C.sl.HS0_1); (try delta gate_run_C.sl.HS1_1); (try delta gate_run_C.sl.HS2_1)
    rw [View.readAt_full arg12.view fs1 inb_S512x128_S512x128_0_0, View.readAt_full arg13.view fs2 inb_S512x128_S512x128_0_0]
    rfl
  isplitl [HS0]
  · iexists _; isplitr; swap; · iexact HS0
    ipureintro
    (try delta gate_run_C.sl.r_17); (try delta gate_run_C.sl.r_16); (try delta gate_run_C.sl.r_15); (try delta gate_run_C.sl.r_14); (try delta gate_run_C.sl.r_13); (try delta gate_run_C.sl.r_12); (try delta gate_run_C.sl.r_11); (try delta gate_run_C.sl.r_10); (try delta gate_run_C.sl.r_9); (try delta gate_run_C.sl.r_8); (try delta gate_run_C.sl.r_7); (try delta gate_run_C.sl.r_6); (try delta gate_run_C.sl.r_5); (try delta gate_run_C.sl.r_4); (try delta gate_run_C.sl.r_3); (try delta gate_run_C.sl.r_2); (try delta gate_run_C.sl.r_1); (try delta gate_run_C.sl.r); (try delta gate_run_C.sl.v154); (try delta gate_run_C.sl.HS0_1); (try delta gate_run_C.sl.HS1_1); (try delta gate_run_C.sl.HS2_1)
    rw [View.readAt_full arg2.view f0 inb_S512x4096_S512x4096_0_0, View.readAt_full arg3.view f1 inb_S512x1_S512x1_0_0]
    rw [View.read_writes_cons_put arg11.view _ _ _ _ (show k1_off4 i 768#32 = _ from k1_off4_eq i 3), View.read_writes_cons_put arg11.view _ _ _ _ (show k1_off4 i 512#32 = _ from k1_off4_eq i 2), View.read_writes_cons_put arg11.view _ _ _ _ (show k1_off4 i 256#32 = _ from k1_off4_eq i 1), View.read_writes_cons_put arg11.view _ _ _ _ (show k1_off4 i 0#32 = _ from k1_off4_eq i 0), View.writes_nil]
    rfl
  isplitl [HS1]
  · iexists _; isplitr; swap; · iexact HS1
    ipureintro
    refine (View.read_writes_full _ _ _ _ _).trans ?_
    (try delta gate_run_C.sl.r_17); (try delta gate_run_C.sl.r_16); (try delta gate_run_C.sl.r_15); (try delta gate_run_C.sl.r_14); (try delta gate_run_C.sl.r_13); (try delta gate_run_C.sl.r_12); (try delta gate_run_C.sl.r_11); (try delta gate_run_C.sl.r_10); (try delta gate_run_C.sl.r_9); (try delta gate_run_C.sl.r_8); (try delta gate_run_C.sl.r_7); (try delta gate_run_C.sl.r_6); (try delta gate_run_C.sl.r_5); (try delta gate_run_C.sl.r_4); (try delta gate_run_C.sl.r_3); (try delta gate_run_C.sl.r_2); (try delta gate_run_C.sl.r_1); (try delta gate_run_C.sl.r); (try delta gate_run_C.sl.v154); (try delta gate_run_C.sl.HS0_1); (try delta gate_run_C.sl.HS1_1); (try delta gate_run_C.sl.HS2_1)
    rw [View.readAt_full arg2.view f0 inb_S512x4096_S512x4096_0_0, View.readAt_full arg3.view f1 inb_S512x1_S512x1_0_0, View.readAt_full arg12.view fs1 inb_S512x128_S512x128_0_0]
    rfl
  iexists _; isplitr; swap; · iexact HS2
  ipureintro
  refine (View.read_writes_full _ _ _ _ _).trans ?_
  (try delta gate_run_C.sl.r_17); (try delta gate_run_C.sl.r_16); (try delta gate_run_C.sl.r_15); (try delta gate_run_C.sl.r_14); (try delta gate_run_C.sl.r_13); (try delta gate_run_C.sl.r_12); (try delta gate_run_C.sl.r_11); (try delta gate_run_C.sl.r_10); (try delta gate_run_C.sl.r_9); (try delta gate_run_C.sl.r_8); (try delta gate_run_C.sl.r_7); (try delta gate_run_C.sl.r_6); (try delta gate_run_C.sl.r_5); (try delta gate_run_C.sl.r_4); (try delta gate_run_C.sl.r_3); (try delta gate_run_C.sl.r_2); (try delta gate_run_C.sl.r_1); (try delta gate_run_C.sl.r); (try delta gate_run_C.sl.v154); (try delta gate_run_C.sl.HS0_1); (try delta gate_run_C.sl.HS1_1); (try delta gate_run_C.sl.HS2_1)
  rw [View.readAt_full arg12.view fs1 inb_S512x128_S512x128_0_0, View.readAt_full arg13.view fs2 inb_S512x128_S512x128_0_0]
  rfl

end Cert.KernelIdeal.Gen

end
-- ==== Proof.Ideal.GateRunD.lean ====
module

public import proofs.«01_k».proof.Proof.Ideal.GateStep

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- A step past the last row block: it only writes out the tile carried from the block before. Stated as a triple: from the seven input blocks, any contents of the two output blocks and the three
    scratch buffers at `H`, `A` and `P`, the body leaves the values the step's closed forms name. -/
theorem gate_run_D (c : Dev nD) (i : grid1.Coords) (arg2 : Memref sig .tc .vmem S512x4096 .fp8e4m3) (harg2 : arg2.IsWhole) (arg3 : Memref sig .tc .vmem S512x1 .f32) (harg3 : arg3.IsWhole) (arg4 : Memref sig .tc .vmem S4096x1024 .fp8e4m3) (harg4 : arg4.IsWhole) (arg5 : Memref sig .tc .vmem S4096x1024 .fp8e4m3) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .fp8e4m3) (harg9 : arg9.IsWhole) (arg10 : Memref sig .tc .vmem S512x1 .f32) (harg10 : arg10.IsWhole) (arg11 : Memref sig .tc .vmem S512x12288 .f32) (harg11 : arg11.IsWhole) (arg12 : Memref sig .tc .vmem S512x128 .f32) (harg12 : arg12.IsWhole) (arg13 : Memref sig .tc .vmem S512x128 .f32) (harg13 : arg13.IsWhole) (hc0 : ¬cond1_0 i) (hc2 : cond1_2 i) (hc3 : ¬cond1_3 i)
    (x0 : Vec F S512x4096 .fp8e4m3) (x1 : Vec F S512x1 .f32) (x2 : Vec F S4096x1024 .fp8e4m3) (x3 : Vec F S4096x1024 .fp8e4m3) (x4 : Vec F S1x1024 .f32) (x5 : Vec F S1x1024 .f32) (x6 : Vec F S1x1024 .f32) (H : Vec F S512x12288 .f32) (A P : Vec F S512x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ owns (c : Thread nD τ) arg11 fullShare H ∗ owns (c : Thread nD τ) arg12 fullShare A ∗ owns (c : Thread nD τ) arg13 fullShare P
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (gHq i A P (gTile i H)) ∗ owns (c : Thread nD τ) arg10 fullShare (gSh i A P) ∗ owns (c : Thread nD τ) arg11 fullShare H ∗ owns (c : Thread nD τ) arg12 fullShare A ∗ owns (c : Thread nD τ) arg13 fullShare (gP i A P)) -∗ K ⟨⟩))
      ⊢ wp frame (wpE (defs₀ (F := F)) Variants.none c none) E (cc1_gate_up i arg2 harg2 arg3 harg3 arg4 harg4 arg5 harg5 arg6 harg6 arg7 harg7 arg8 harg8 arg9 harg9 arg10 harg10 arg11 harg11 arg12 harg12 arg13 harg13) K := by
  simp only [cc1_gate_up_eq_skeleton]; unfold cc1_gate_up_skel
  simp only [k1_part4_eq_skeleton, k1_part5_eq_skeleton, k1_part6_eq_skeleton, k1_part7_eq_skeleton, k1_part1_eq_skeleton, k1_part2_eq_skeleton, k1_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs0, %hfs0, HS0⟩, ⟨%fs1, %hfs1, HS1⟩, ⟨%fs2, %hfs2, HS2⟩, Hk⟩
  subst hf0 hf1 hf2 hf3 hf4 hf5 hf6 hfs0 hfs1 hfs2
  sl_exec (disch := first | sl_exact hc0 | sl_exact hc2 | sl_exact hc3)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; swap; · iexact H7
    ipureintro
    refine (View.read_writes_full _ _ _ _ _).trans ?_
    (try delta gate_run_D.sl.r_9); (try delta gate_run_D.sl.r_8); (try delta gate_run_D.sl.r_7); (try delta gate_run_D.sl.r_6); (try delta gate_run_D.sl.r_5); (try delta gate_run_D.sl.r_4); (try delta gate_run_D.sl.r_3); (try delta gate_run_D.sl.r_2); (try delta gate_run_D.sl.r_1); (try delta gate_run_D.sl.r); (try delta gate_run_D.sl.v154); (try delta gate_run_D.sl.HS0_1); (try delta gate_run_D.sl.HS1_1); (try delta gate_run_D.sl.HS2_1)
    rw [View.readAt_full arg12.view fs1 inb_S512x128_S512x128_0_0, View.readAt_full arg13.view fs2 inb_S512x128_S512x128_0_0]
    rw [View.readAt_unit arg11.view fs0 _ (k1_off2_eq i) (gTile_inb i)]
    rfl
  isplitl [H8]
  · iexists _; isplitr; swap; · iexact H8
    ipureintro
    refine (View.read_writes_full _ _ _ _ _).trans ?_
    (try delta gate_run_D.sl.r_9); (try delta gate_run_D.sl.r_8); (try delta gate_run_D.sl.r_7); (try delta gate_run_D.sl.r_6); (try delta gate_run_D.sl.r_5); (try delta gate_run_D.sl.r_4); (try delta gate_run_D.sl.r_3); (try delta gate_run_D.sl.r_2); (try delta gate_run_D.sl.r_1); (try delta gate_run_D.sl.r); (try delta gate_run_D.sl.v154); (try delta gate_run_D.sl.HS0_1); (try delta gate_run_D.sl.HS1_1); (try delta gate_run_D.sl.HS2_1)
    rw [View.readAt_full arg12.view fs1 inb_S512x128_S512x128_0_0, View.readAt_full arg13.view fs2 inb_S512x128_S512x128_0_0]
    rfl
  isplitl [HS0]
  · iexists _; isplitr; swap; · iexact HS0
    ipureintro
    rfl
  isplitl [HS1]
  · iexists _; isplitr; swap; · iexact HS1
    ipureintro
    rfl
  iexists _; isplitr; swap; · iexact HS2
  ipureintro
  refine (View.read_writes_full _ _ _ _ _).trans ?_
  (try delta gate_run_D.sl.r_9); (try delta gate_run_D.sl.r_8); (try delta gate_run_D.sl.r_7); (try delta gate_run_D.sl.r_6); (try delta gate_run_D.sl.r_5); (try delta gate_run_D.sl.r_4); (try delta gate_run_D.sl.r_3); (try delta gate_run_D.sl.r_2); (try delta gate_run_D.sl.r_1); (try delta gate_run_D.sl.r); (try delta gate_run_D.sl.v154); (try delta gate_run_D.sl.HS0_1); (try delta gate_run_D.sl.HS1_1); (try delta gate_run_D.sl.HS2_1)
  rw [View.readAt_full arg12.view fs1 inb_S512x128_S512x128_0_0, View.readAt_full arg13.view fs2 inb_S512x128_S512x128_0_0]
  rfl

end Cert.KernelIdeal.Gen

end
-- ==== Proof.Ideal.Region1.lean ====
module

public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Regions
public import proofs.«01_k».proof.Proof.Ideal.GateState
public import proofs.«01_k».proof.Proof.Ideal.GateRunA
public import proofs.«01_k».proof.Proof.Ideal.GateRunB
public import proofs.«01_k».proof.Proof.Ideal.GateRunC
public import proofs.«01_k».proof.Proof.Ideal.GateRunD
public import Idealize.ShloMosaic.Lib.WordCmp
public import Idealize.ShloMosaic.Lib.Pipeline.FrameBody
public import Idealize.ShloMosaic.Lib.Ring
public import Idealize.ShloMosaic.Lib.Tactic
public import Idealize.ShloMosaic.Lib.VecWindow

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The scratch buffer of the hidden rows. -/
abbrev scH : Memref sig .tc .vmem S512x12288 .f32 := Memref.whole cc1_scratch0
/-- The scratch buffer of the running lane maxima. -/
abbrev scA : Memref sig .tc .vmem S512x128 .f32 := Memref.whole cc1_scratch1
/-- The scratch buffer of the finished lane maxima. -/
abbrev scP : Memref sig .tc .vmem S512x128 .f32 := Memref.whole cc1_scratch2

/-- The other regions' scoped buffers, first part: held at anything. -/
def restL (c : Dev nD) : sProp 𝕄 := iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f))
/-- The other regions' scoped buffers, second part: held at anything. -/
def restR (c : Dev nD) : sProp 𝕄 := iprop((∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f))

/-- The scoped buffers this region does not stage are the other regions' and its three scratch buffers. -/
theorem scoped1_out (c : Dev nD) : (Pipeline.scopedRest (Ix := Unit) (Name := ℕ) (U := UR sig nD τ) (Lvl := ℕ) (Val := Elt F) spec1 c : sProp 𝕄)
    ⊢ iprop(restL (F := F) c ∗ (∃ d, owns (c : Thread nD τ) scH fullShare d) ∗ (∃ d, owns (c : Thread nD τ) scA fullShare d) ∗ (∃ d, owns (c : Thread nD τ) scP fullShare d) ∗ restR (F := F) c) := by
  rw [scopedRest1_eq]
  simp only [scH, scA, scP, owns_whole]
  unfold restL restR
  iintro ⟨B0, B1, B2, B3, B4, B5, B6, HS0, HS1, HS2, HR⟩
  isplitl [B0 B1 B2 B3 B4 B5 B6]
  · isplitl [B0]; · iexact B0
    isplitl [B1]; · iexact B1
    isplitl [B2]; · iexact B2
    isplitl [B3]; · iexact B3
    isplitl [B4]; · iexact B4
    isplitl [B5]; · iexact B5
    iexact B6
  isplitl [HS0]; · iexact HS0
  isplitl [HS1]; · iexact HS1
  isplitl [HS2]; · iexact HS2
  iexact HR
/-- and back. -/
theorem scoped1_in (c : Dev nD) : iprop(restL (F := F) c ∗ (∃ d, owns (c : Thread nD τ) scH fullShare d) ∗ (∃ d, owns (c : Thread nD τ) scA fullShare d) ∗ (∃ d, owns (c : Thread nD τ) scP fullShare d) ∗ restR (F := F) c)
    ⊢ (Pipeline.scopedRest (Ix := Unit) (Name := ℕ) (U := UR sig nD τ) (Lvl := ℕ) (Val := Elt F) spec1 c : sProp 𝕄) := by
  rw [scopedRest1_eq]
  simp only [scH, scA, scP, owns_whole]
  unfold restL restR
  iintro ⟨⟨B0, B1, B2, B3, B4, B5, B6⟩, HS0, HS1, HS2, HR⟩
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [HS0]; · iexact HS0
  isplitl [HS1]; · iexact HS1
  isplitl [HS2]; · iexact HS2
  iexact HR

/-! ## The region's data, from any contents of the unscoped buffers -/

variable (V : (c : Dev nD) → (b : Ref sig .tc) → Buf (Elt F) ((c : Thread nD τ).loc b))

/-- Scratch contents that stand for the state before the `n`-th point: the hidden rows agree with it as far as they are filled, and
    past the first point both maxima are its. -/
def Carried (c : Dev nD) (n : ℕ) (H : Vec F S512x12288 .f32) (A P : Vec F S512x128 .f32) : Prop :=
  Agree n H (gSt V c n).1 ∧ (n ≠ 0 → A = (gSt V c n).2.1 ∧ P = (gSt V c n).2.2)

/-- The invariant before the `n`-th point: the scratch buffers stand for the state, the rest of the scoped buffers at anything. -/
def inv1 (c : Dev nD) (n : ℕ) : sProp 𝕄 :=
  iprop((∃ H A P, ⌜Carried V c n H A P⌝ ∗ owns (c : Thread nD τ) scH fullShare H ∗ owns (c : Thread nD τ) scA fullShare A ∗ owns (c : Thread nD τ) scP fullShare P)
    ∗ restL (F := F) c ∗ restR (F := F) c ∗ (∃ r, prngReg c r))

/-- The region's data: the arrays as found; after the body each input's buffer at its block, the outputs at the codes and
    scales of the state; the invariant carries the state; nothing owed; each input at its share of its array. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => outQ V c t
    | ⟨8, _⟩ => outS V c t
  Φ t := inv1 V c t.val
  q := Pipeline.shareOf spec1
  owed _ := 0

/-- The arrays are those the region finds. -/
theorem dat1_A (c : Dev nD) (w : Fin cfg1.W) : (dat1 V c).A w = V c (Pipeline.arrRef spec1 w) := by
  dsimp only [dat1]
/-- What the body leaves in window 0. -/
theorem dat1_after0 (c : Dev nD) (t : Fin cfg1.N) : (dat1 V c).after 0 t = blk1 V c 0 t := by dsimp only [dat1]
/-- What the body leaves in window 1. -/
theorem dat1_after1 (c : Dev nD) (t : Fin cfg1.N) : (dat1 V c).after 1 t = blk1 V c 1 t := by dsimp only [dat1]
/-- What the body leaves in window 2. -/
theorem dat1_after2 (c : Dev nD) (t : Fin cfg1.N) : (dat1 V c).after 2 t = blk1 V c 2 t := by dsimp only [dat1]
/-- What the body leaves in window 3. -/
theorem dat1_after3 (c : Dev nD) (t : Fin cfg1.N) : (dat1 V c).after 3 t = blk1 V c 3 t := by dsimp only [dat1]
/-- What the body leaves in window 4. -/
theorem dat1_after4 (c : Dev nD) (t : Fin cfg1.N) : (dat1 V c).after 4 t = blk1 V c 4 t := by dsimp only [dat1]
/-- What the body leaves in window 5. -/
theorem dat1_after5 (c : Dev nD) (t : Fin cfg1.N) : (dat1 V c).after 5 t = blk1 V c 5 t := by dsimp only [dat1]
/-- What the body leaves in window 6. -/
theorem dat1_after6 (c : Dev nD) (t : Fin cfg1.N) : (dat1 V c).after 6 t = blk1 V c 6 t := by dsimp only [dat1]
/-- What the body leaves in window 7. -/
theorem dat1_after7 (c : Dev nD) (t : Fin cfg1.N) : (dat1 V c).after 7 t = outQ V c t := by dsimp only [dat1]
/-- What the body leaves in window 8. -/
theorem dat1_after8 (c : Dev nD) (t : Fin cfg1.N) : (dat1 V c).after 8 t = outS V c t := by dsimp only [dat1]
/-- What the body finds in window 0: its block. -/
theorem dat1_before0 (c : Dev nD) (t : Fin cfg1.N) (d) : (dat1 V c).before 0 t d = blk1 V c 0 t :=
  ((dat1 V c).before_in_eq_fetched 0 rfl (fun _ => rfl) (fun _ _ _ => rfl) (fun t => by rw [dat1_after0]; unfold Dat.blockOf blk1; rw [dat1_A]; try rfl) t d).trans
    (by unfold Dat.fetched Dat.blockOf blk1; rw [dat1_A]; try rfl)
/-- What the body finds in window 1: its block. -/
theorem dat1_before1 (c : Dev nD) (t : Fin cfg1.N) (d) : (dat1 V c).before 1 t d = blk1 V c 1 t :=
  ((dat1 V c).before_in_eq_fetched 1 rfl (fun _ => rfl) (fun _ _ _ => rfl) (fun t => by rw [dat1_after1]; unfold Dat.blockOf blk1; rw [dat1_A]; try rfl) t d).trans
    (by unfold Dat.fetched Dat.blockOf blk1; rw [dat1_A]; try rfl)
/-- What the body finds in window 2: its block. -/
theorem dat1_before2 (c : Dev nD) (t : Fin cfg1.N) (d) : (dat1 V c).before 2 t d = blk1 V c 2 t :=
  ((dat1 V c).before_in_eq_fetched 2 rfl (fun _ => rfl) (fun _ _ _ => rfl) (fun t => by rw [dat1_after2]; unfold Dat.blockOf blk1; rw [dat1_A]; try rfl) t d).trans
    (by unfold Dat.fetched Dat.blockOf blk1; rw [dat1_A]; try rfl)
/-- What the body finds in window 3: its block. -/
theorem dat1_before3 (c : Dev nD) (t : Fin cfg1.N) (d) : (dat1 V c).before 3 t d = blk1 V c 3 t :=
  ((dat1 V c).before_in_eq_fetched 3 rfl (fun _ => rfl) (fun _ _ _ => rfl) (fun t => by rw [dat1_after3]; unfold Dat.blockOf blk1; rw [dat1_A]; try rfl) t d).trans
    (by unfold Dat.fetched Dat.blockOf blk1; rw [dat1_A]; try rfl)
/-- What the body finds in window 4: its block. -/
theorem dat1_before4 (c : Dev nD) (t : Fin cfg1.N) (d) : (dat1 V c).before 4 t d = blk1 V c 4 t :=
  ((dat1 V c).before_in_eq_fetched 4 rfl (fun _ => rfl) (fun _ _ _ => rfl) (fun t => by rw [dat1_after4]; unfold Dat.blockOf blk1; rw [dat1_A]; try rfl) t d).trans
    (by unfold Dat.fetched Dat.blockOf blk1; rw [dat1_A]; try rfl)
/-- What the body finds in window 5: its block. -/
theorem dat1_before5 (c : Dev nD) (t : Fin cfg1.N) (d) : (dat1 V c).before 5 t d = blk1 V c 5 t :=
  ((dat1 V c).before_in_eq_fetched 5 rfl (fun _ => rfl) (fun _ _ _ => rfl) (fun t => by rw [dat1_after5]; unfold Dat.blockOf blk1; rw [dat1_A]; try rfl) t d).trans
    (by unfold Dat.fetched Dat.blockOf blk1; rw [dat1_A]; try rfl)
/-- What the body finds in window 6: its block. -/
theorem dat1_before6 (c : Dev nD) (t : Fin cfg1.N) (d) : (dat1 V c).before 6 t d = blk1 V c 6 t :=
  ((dat1 V c).before_in_eq_fetched 6 rfl (fun _ => rfl) (fun _ _ _ => rfl) (fun t => by rw [dat1_after6]; unfold Dat.blockOf blk1; rw [dat1_A]; try rfl) t d).trans
    (by unfold Dat.fetched Dat.blockOf blk1; rw [dat1_A]; try rfl)

/-- What the body is called with at a point. -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- What it returns. -/
def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

/-! ### The state's step, read off the case's closed forms -/

/-- After the first point. -/
theorem carried_A (c : Dev nD) (t : Fin cfg1.N) (h0 : t.val = 0) (H : Vec F S512x12288 .f32) (A P : Vec F S512x128 .f32) (hc : Carried V c t.val H A P) :
    Carried V c (t.val + 1) (gH (grid1.coords t) (blk1 V c 0 t) (blk1 V c 1 t) (blk1 V c 2 t) (blk1 V c 3 t) (blk1 V c 4 t) (blk1 V c 5 t) (blk1 V c 6 t) (gZero (grid1.coords t) H)) (gA (grid1.coords t) (blk1 V c 0 t) (blk1 V c 1 t) (blk1 V c 2 t) (blk1 V c 3 t) (blk1 V c 4 t) (blk1 V c 5 t) (blk1 V c 6 t) (k1_pay22 (F := F))) (gP (grid1.coords t) (k1_pay22 (F := F)) (k1_pay23 (F := F))) := by
  unfold Carried
  rw [gSt_succ]
  refine ⟨hc.1.step_first V c t (by omega), fun _ => ⟨?_, ?_⟩⟩
  · show _ = stepA V c t _
    unfold stepA
    rw [if_pos (by omega : t.val < 192), h0]; rfl
  · show _ = gP (grid1.coords t) _ _
    rw [h0]; rfl
/-- After a later point of the first row block. -/
theorem carried_B (c : Dev nD) (t : Fin cfg1.N) (h0 : t.val ≠ 0) (h1 : t.val < 12) (H : Vec F S512x12288 .f32) (A P : Vec F S512x128 .f32) (hc : Carried V c t.val H A P) :
    Carried V c (t.val + 1) (gH (grid1.coords t) (blk1 V c 0 t) (blk1 V c 1 t) (blk1 V c 2 t) (blk1 V c 3 t) (blk1 V c 4 t) (blk1 V c 5 t) (blk1 V c 6 t) (gZero (grid1.coords t) H)) (gA (grid1.coords t) (blk1 V c 0 t) (blk1 V c 1 t) (blk1 V c 2 t) (blk1 V c 3 t) (blk1 V c 4 t) (blk1 V c 5 t) (blk1 V c 6 t) A) (gP (grid1.coords t) A P) := by
  obtain ⟨rfl, rfl⟩ := hc.2 h0
  unfold Carried
  rw [gSt_succ]
  refine ⟨hc.1.step_first V c t h1, fun _ => ⟨?_, rfl⟩⟩
  show _ = stepA V c t _
  unfold stepA
  rw [if_pos (by omega : t.val < 192)]
/-- After a point of a later row block. -/
theorem carried_C (c : Dev nD) (t : Fin cfg1.N) (h0 : 12 ≤ t.val) (h1 : t.val < 192) (H : Vec F S512x12288 .f32) (A P : Vec F S512x128 .f32) (hc : Carried V c t.val H A P) :
    Carried V c (t.val + 1) (gH (grid1.coords t) (blk1 V c 0 t) (blk1 V c 1 t) (blk1 V c 2 t) (blk1 V c 3 t) (blk1 V c 4 t) (blk1 V c 5 t) (blk1 V c 6 t) H) (gA (grid1.coords t) (blk1 V c 0 t) (blk1 V c 1 t) (blk1 V c 2 t) (blk1 V c 3 t) (blk1 V c 4 t) (blk1 V c 5 t) (blk1 V c 6 t) A) (gP (grid1.coords t) A P) := by
  obtain ⟨rfl, rfl⟩ := hc.2 (by omega)
  obtain rfl := hc.1.eq h0
  unfold Carried
  rw [gSt_succ]
  refine ⟨?_, fun _ => ⟨?_, rfl⟩⟩
  · show Agree _ _ (stepH V c t _)
    unfold stepH
    rw [if_pos h1, if_neg (by omega : ¬ t.val < 12)]
    exact Agree.refl _ _
  · show _ = stepA V c t _
    unfold stepA
    rw [if_pos h1]
/-- After a point past the last row block. -/
theorem carried_D (c : Dev nD) (t : Fin cfg1.N) (h0 : 192 ≤ t.val) (H : Vec F S512x12288 .f32) (A P : Vec F S512x128 .f32) (hc : Carried V c t.val H A P) :
    Carried V c (t.val + 1) H A (gP (grid1.coords t) A P) := by
  obtain ⟨rfl, rfl⟩ := hc.2 (by omega)
  obtain rfl := hc.1.eq (by omega)
  unfold Carried
  rw [gSt_succ]
  refine ⟨?_, fun _ => ⟨?_, rfl⟩⟩
  · show Agree _ _ (stepH V c t _)
    unfold stepH
    rw [if_neg (by omega : ¬ t.val < 192)]
    exact Agree.refl _ _
  · show _ = stepA V c t _
    unfold stepA
    rw [if_neg (by omega : ¬ t.val < 192)]

/-- What a point's body needs once the scratch contents are named. -/
def preAt (c : Dev nD) (t : Fin cfg1.N) (H : Vec F S512x12288 .f32) (A P : Vec F S512x128 .f32) : sProp 𝕄 :=
  iprop((owns (c : Thread nD τ) scH fullShare H ∗ owns (c : Thread nD τ) scA fullShare A ∗ owns (c : Thread nD τ) scP fullShare P)
      ∗ restL (F := F) c ∗ restR (F := F) c ∗ (∃ r, prngReg c r) ∗ (dat1 V c).owesAt () t.castSucc
      ∗ (∃ d : (cfg1.win 0).block.Idx → Elt F (cfg1.win 0).elt, owns (c : Thread nD τ) (st1_0 t) fullShare (blk1 V c 0 t))
      ∗ (∃ d : (cfg1.win 1).block.Idx → Elt F (cfg1.win 1).elt, owns (c : Thread nD τ) (st1_1 t) fullShare (blk1 V c 1 t))
      ∗ (∃ d : (cfg1.win 2).block.Idx → Elt F (cfg1.win 2).elt, owns (c : Thread nD τ) (st1_2 t) fullShare (blk1 V c 2 t))
      ∗ (∃ d : (cfg1.win 3).block.Idx → Elt F (cfg1.win 3).elt, owns (c : Thread nD τ) (st1_3 t) fullShare (blk1 V c 3 t))
      ∗ (∃ d : (cfg1.win 4).block.Idx → Elt F (cfg1.win 4).elt, owns (c : Thread nD τ) (st1_4 t) fullShare (blk1 V c 4 t))
      ∗ (∃ d : (cfg1.win 5).block.Idx → Elt F (cfg1.win 5).elt, owns (c : Thread nD τ) (st1_5 t) fullShare (blk1 V c 5 t))
      ∗ (∃ d : (cfg1.win 6).block.Idx → Elt F (cfg1.win 6).elt, owns (c : Thread nD τ) (st1_6 t) fullShare (blk1 V c 6 t))
      ∗ (∃ d : (cfg1.win 7).block.Idx → Elt F (cfg1.win 7).elt, owns (c : Thread nD τ) (st1_7 t) fullShare ((dat1 V c).before 7 t d))
      ∗ (∃ d : (cfg1.win 8).block.Idx → Elt F (cfg1.win 8).elt, owns (c : Thread nD τ) (st1_8 t) fullShare ((dat1 V c).before 8 t d)))
/-- What it leaves. -/
def postAt (c : Dev nD) (t : Fin cfg1.N) : sProp 𝕄 :=
  iprop(inv1 V c (t.val + 1) ∗ (dat1 V c).owesAt () t.castSucc
      ∗ owns (c : Thread nD τ) (st1_0 t) fullShare (blk1 V c 0 t)
      ∗ owns (c : Thread nD τ) (st1_1 t) fullShare (blk1 V c 1 t)
      ∗ owns (c : Thread nD τ) (st1_2 t) fullShare (blk1 V c 2 t)
      ∗ owns (c : Thread nD τ) (st1_3 t) fullShare (blk1 V c 3 t)
      ∗ owns (c : Thread nD τ) (st1_4 t) fullShare (blk1 V c 4 t)
      ∗ owns (c : Thread nD τ) (st1_5 t) fullShare (blk1 V c 5 t)
      ∗ owns (c : Thread nD τ) (st1_6 t) fullShare (blk1 V c 6 t)
      ∗ owns (c : Thread nD τ) (st1_7 t) fullShare (outQ V c t)
      ∗ owns (c : Thread nD τ) (st1_8 t) fullShare (outS V c t))

set_option maxHeartbeats 1600000 in
/-- The body at the first point. -/
theorem sound1_A (c : Dev nD) (t : Fin cfg1.N) (h0 : t.val = 0) (H : Vec F S512x12288 .f32) (A P : Vec F S512x128 .f32) (hc : Carried V c t.val H A P) :
    preAt V c t H A P ⊢ wp frame (wpE (defs₀ (F := F)) Variants.none c none) Set.univ (bodyAt1 t) (fun _ => postAt V c t) := by
  unfold preAt postAt bodyAt1
  have hq : outQ V c t = gHq (grid1.coords t) (k1_pay22 (F := F)) (k1_pay23 (F := F)) (k1_pay21 (F := F)) := by
    unfold outQ outT; rw [if_pos (by omega : t.val < 12), h0]; rfl
  have hs : outS V c t = gSh (grid1.coords t) (k1_pay22 (F := F)) (k1_pay23 (F := F)) := by
    unfold outS; rw [h0]; rfl
  rw [hq, hs]
  iintro ⟨⟨HS0, HS1, HS2⟩, HL, HR, Hg, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (gate_run_A c (grid1.coords t) _ _ _ _ _ _ _ _ _ _ _ _ _ _ _ _ _ _ _ _ _ _ _ _ ((cond1_0_iff t).mpr (by omega)) ((cond1_1_iff t).mpr (by omega)) (fun h => absurd ((cond1_2_iff t).mp h) (by omega)) ((cond1_3_iff t).mpr (by omega)) (blk1 V c 0 t) (blk1 V c 1 t) (blk1 V c 2 t) (blk1 V c 3 t) (blk1 V c 4 t) (blk1 V c 5 t) (blk1 V c 6 t) H A P Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [HS0]; · iexact HS0
  isplitl [HS1]; · iexact HS1
  isplitl [HS2]; · iexact HS2
  iintro ⟨H0, H1, H2, H3, H4, H5, H6, H7, H8, HS0, HS1, HS2⟩
  isplitl [HS0 HS1 HS2 HL HR Hg]
  · unfold inv1
    isplitl [HS0 HS1 HS2]
    · iexists _, _, _
      isplitr; · ipureintro; exact carried_A V c t h0 H A P hc
      isplitl [HS0]; · iexact HS0
      isplitl [HS1]; · iexact HS1
      iexact HS2
    isplitl [HL]; · iexact HL
    isplitl [HR]; · iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

set_option maxHeartbeats 1600000 in
/-- The body at a later point of the first row block. -/
theorem sound1_B (c : Dev nD) (t : Fin cfg1.N) (h0 : t.val ≠ 0) (h1 : t.val < 12) (H : Vec F S512x12288 .f32) (A P : Vec F S512x128 .f32) (hc : Carried V c t.val H A P) :
    preAt V c t H A P ⊢ wp frame (wpE (defs₀ (F := F)) Variants.none c none) Set.univ (bodyAt1 t) (fun _ => postAt V c t) := by
  unfold preAt postAt bodyAt1
  have hq : outQ V c t = gHq (grid1.coords t) A P (k1_pay21 (F := F)) := by
    unfold outQ outT; rw [if_pos h1, (hc.2 h0).1, (hc.2 h0).2]
  have hs : outS V c t = gSh (grid1.coords t) A P := by
    unfold outS; rw [(hc.2 h0).1, (hc.2 h0).2]
  rw [hq, hs]
  iintro ⟨⟨HS0, HS1, HS2⟩, HL, HR, Hg, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (gate_run_B c (grid1.coords t) _ _ _ _ _ _ _ _ _ _ _ _ _ _ _ _ _ _ _ _ _ _ _ _ ((cond1_0_iff t).mpr h1) (fun h => absurd ((cond1_1_iff t).mp h) (by omega)) (fun h => absurd ((cond1_2_iff t).mp h) (by omega)) ((cond1_3_iff t).mpr (by omega)) (blk1 V c 0 t) (blk1 V c 1 t) (blk1 V c 2 t) (blk1 V c 3 t) (blk1 V c 4 t) (blk1 V c 5 t) (blk1 V c 6 t) H A P Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [HS0]; · iexact HS0
  isplitl [HS1]; · iexact HS1
  isplitl [HS2]; · iexact HS2
  iintro ⟨H0, H1, H2, H3, H4, H5, H6, H7, H8, HS0, HS1, HS2⟩
  isplitl [HS0 HS1 HS2 HL HR Hg]
  · unfold inv1
    isplitl [HS0 HS1 HS2]
    · iexists _, _, _
      isplitr; · ipureintro; exact carried_B V c t h0 h1 H A P hc
      isplitl [HS0]; · iexact HS0
      isplitl [HS1]; · iexact HS1
      iexact HS2
    isplitl [HL]; · iexact HL
    isplitl [HR]; · iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

set_option maxHeartbeats 1600000 in
/-- The body at a point of a later row block. -/
theorem sound1_C (c : Dev nD) (t : Fin cfg1.N) (h0 : 12 ≤ t.val) (h1 : t.val < 192) (H : Vec F S512x12288 .f32) (A P : Vec F S512x128 .f32) (hc : Carried V c t.val H A P) :
    preAt V c t H A P ⊢ wp frame (wpE (defs₀ (F := F)) Variants.none c none) Set.univ (bodyAt1 t) (fun _ => postAt V c t) := by
  unfold preAt postAt bodyAt1
  have hq : outQ V c t = gHq (grid1.coords t) A P (gTile (grid1.coords t) H) := by
    unfold outQ outT; rw [if_neg (by omega : ¬ t.val < 12), hc.1.eq h0, (hc.2 (by omega)).1, (hc.2 (by omega)).2]
  have hs : outS V c t = gSh (grid1.coords t) A P := by
    unfold outS; rw [(hc.2 (by omega)).1, (hc.2 (by omega)).2]
  rw [hq, hs]
  iintro ⟨⟨HS0, HS1, HS2⟩, HL, HR, Hg, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (gate_run_C c (grid1.coords t) _ _ _ _ _ _ _ _ _ _ _ _ _ _ _ _ _ _ _ _ _ _ _ _ (fun h => absurd ((cond1_0_iff t).mp h) (by omega)) (fun h => absurd ((cond1_2_iff t).mp h) (by omega)) ((cond1_3_iff t).mpr h1) (blk1 V c 0 t) (blk1 V c 1 t) (blk1 V c 2 t) (blk1 V c 3 t) (blk1 V c 4 t) (blk1 V c 5 t) (blk1 V c 6 t) H A P Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [HS0]; · iexact HS0
  isplitl [HS1]; · iexact HS1
  isplitl [HS2]; · iexact HS2
  iintro ⟨H0, H1, H2, H3, H4, H5, H6, H7, H8, HS0, HS1, HS2⟩
  isplitl [HS0 HS1 HS2 HL HR Hg]
  · unfold inv1
    isplitl [HS0 HS1 HS2]
    · iexists _, _, _
      isplitr; · ipureintro; exact carried_C V c t h0 h1 H A P hc
      isplitl [HS0]; · iexact HS0
      isplitl [HS1]; · iexact HS1
      iexact HS2
    isplitl [HL]; · iexact HL
    isplitl [HR]; · iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

set_option maxHeartbeats 1600000 in
/-- The body at a point past the last row block. -/
theorem sound1_D (c : Dev nD) (t : Fin cfg1.N) (h0 : 192 ≤ t.val) (H : Vec F S512x12288 .f32) (A P : Vec F S512x128 .f32) (hc : Carried V c t.val H A P) :
    preAt V c t H A P ⊢ wp frame (wpE (defs₀ (F := F)) Variants.none c none) Set.univ (bodyAt1 t) (fun _ => postAt V c t) := by
  unfold preAt postAt bodyAt1
  have hq : outQ V c t = gHq (grid1.coords t) A P (gTile (grid1.coords t) H) := by
    unfold outQ outT; rw [if_neg (by omega : ¬ t.val < 12), hc.1.eq (by omega), (hc.2 (by omega)).1, (hc.2 (by omega)).2]
  have hs : outS V c t = gSh (grid1.coords t) A P := by
    unfold outS; rw [(hc.2 (by omega)).1, (hc.2 (by omega)).2]
  rw [hq, hs]
  iintro ⟨⟨HS0, HS1, HS2⟩, HL, HR, Hg, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (gate_run_D c (grid1.coords t) _ _ _ _ _ _ _ _ _ _ _ _ _ _ _ _ _ _ _ _ _ _ _ _ (fun h => absurd ((cond1_0_iff t).mp h) (by omega)) ((cond1_2_iff t).mpr h0) (fun h => absurd ((cond1_3_iff t).mp h) (by omega)) (blk1 V c 0 t) (blk1 V c 1 t) (blk1 V c 2 t) (blk1 V c 3 t) (blk1 V c 4 t) (blk1 V c 5 t) (blk1 V c 6 t) H A P Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [HS0]; · iexact HS0
  isplitl [HS1]; · iexact HS1
  isplitl [HS2]; · iexact HS2
  iintro ⟨H0, H1, H2, H3, H4, H5, H6, H7, H8, HS0, HS1, HS2⟩
  isplitl [HS0 HS1 HS2 HL HR Hg]
  · unfold inv1
    isplitl [HS0 HS1 HS2]
    · iexists _, _, _
      isplitr; · ipureintro; exact carried_D V c t h0 H A P hc
      isplitl [HS0]; · iexact HS0
      isplitl [HS1]; · iexact HS1
      iexact HS2
    isplitl [HL]; · iexact HL
    isplitl [HR]; · iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body at any point whose scratch contents stand for the state. -/
theorem sound1_at (c : Dev nD) (t : Fin cfg1.N) (H : Vec F S512x12288 .f32) (A P : Vec F S512x128 .f32) (hc : Carried V c t.val H A P) :
    preAt V c t H A P ⊢ wp frame (wpE (defs₀ (F := F)) Variants.none c none) Set.univ (bodyAt1 t) (fun _ => postAt V c t) := by
  by_cases h0 : t.val = 0
  · exact sound1_A V c t h0 H A P hc
  by_cases h1 : t.val < 12
  · exact sound1_B V c t h0 h1 H A P hc
  by_cases h2 : t.val < 192
  · exact sound1_C V c t (by omega) h2 H A P hc
  · exact sound1_D V c t (by omega) H A P hc

/-- The body at any point. -/
theorem sound1 (c : Dev nD) (t : Fin cfg1.N) :
    pre1 V c t ⊢ wp frame (wpE (defs₀ (F := F)) Variants.none c none) Set.univ (bodyAt1 t) (fun _ => post1 V c t) := by
  have hpost : post1 V c t = postAt V c t := by
    unfold post1 postAt
    rw [show (dat1 V c).owesAt () t.succ = (dat1 V c).owesAt () t.castSucc from rfl, show (dat1 V c).Φ t.succ = inv1 V c (t.val + 1) from rfl,
      dat1_after0, dat1_after1, dat1_after2, dat1_after3, dat1_after4, dat1_after5, dat1_after6, dat1_after7, dat1_after8]
  rw [hpost]
  refine (show _ ⊢ iprop(∃ H A P, ⌜Carried V c t.val H A P⌝ ∗ preAt V c t H A P) from ?_).trans ?_
  · unfold pre1 preAt
    simp only [dat1_before0, dat1_before1, dat1_before2, dat1_before3, dat1_before4, dat1_before5, dat1_before6]
    rw [show (dat1 V c).Φ t.castSucc = inv1 V c t.val from rfl]
    unfold inv1
    iintro ⟨⟨⟨%H, %A, %P, %hc, HS⟩, HL, HR, Hg⟩, Hrest⟩
    iexists H, A, P
    isplitr; · ipureintro; exact hc
    isplitl [HS]; · iexact HS
    isplitl [HL]; · iexact HL
    isplitl [HR]; · iexact HR
    isplitl [Hg]; · iexact Hg
    iexact Hrest
  · iintro ⟨%H, %A, %P, %hc, Hall⟩
    iapply (sound1_at V c t H A P hc)
    iexact Hall

/-- Every point writes its block of codes: it is in a row block to be filled or past the last. -/
theorem idle1_7 (t : Fin cfg1.N) : cfg1.idle 7 (grid1.coords t) = false := by
  show (!(k1_cond3 (grid1.coords t) == 1#1) && !(k1_cond4 (grid1.coords t) == 1#1)) = false
  by_cases h : t.val < 192
  · have h4 : k1_cond4 (grid1.coords t) = 1#1 := (cond1_3_iff t).mpr h
    rw [h4]; simp
  · have h3 : k1_cond3 (grid1.coords t) = 1#1 := (cond1_2_iff t).mpr (by omega)
    rw [h3]; simp

/-- The body obligation, at every point. -/
theorem oblig1 (c : Dev nD) : BodyObligation (dat1 (F := F) V c) (defs₀ (F := F)) Variants.none () Set.univ := fun t => by
  rw [bigSep_W1, bigSep_W1, show defs₀ (F := F) .tc cfg1.body (cfg1.bodyArgs t (cfg1.slots t)) = bodyAt1 t from by unfold defs₀; rw [Defs.onTc_tc]]
  refine triple_restated (sound1 V c t) rfl .rfl fun _ => ?_
  rw [show cfg1.idle 7 (cfg1.grid.coords t) = false from idle1_7 t]
  exact .rfl

/-- What the region hands the body before the first point is the invariant there. -/
theorem inv1_first (c : Dev nD) : Pipeline.ΦA spec1 c ⊢ (dat1 (F := F) V c).Φ 0 := by
  rw [show (dat1 V c).Φ 0 = inv1 V c 0 from rfl]
  unfold Pipeline.ΦA inv1
  iintro ⟨Hs, Hg⟩
  ihave Hs := (scoped1_out (F := F) c) $$ Hs
  icases Hs with ⟨HL, ⟨%H, HS0⟩, ⟨%A, HS1⟩, ⟨%P, HS2⟩, HR⟩
  isplitl [HS0 HS1 HS2]
  · iexists H, A, P
    isplitr; · ipureintro; exact ⟨Agree.zero _ _, fun h => absurd rfl h⟩
    isplitl [HS0]; · iexact HS0
    isplitl [HS1]; · iexact HS1
    iexact HS2
  isplitl [HL]; · iexact HL
  isplitl [HR]; · iexact HR
  iexact Hg

/-- The invariant after the last point gives the scoped buffers back. -/
theorem inv1_last (c : Dev nD) : (dat1 (F := F) V c).Φ (Fin.last cfg1.N) ⊢ Pipeline.ΦA spec1 c := by
  rw [show (dat1 V c).Φ (Fin.last cfg1.N) = inv1 V c cfg1.N from rfl]
  unfold Pipeline.ΦA inv1
  iintro ⟨⟨%H, %A, %P, -, HS0, HS1, HS2⟩, HL, HR, Hg⟩
  isplitl [HS0 HS1 HS2 HL HR]
  · iapply (scoped1_in (F := F) c)
    isplitl [HL]; · iexact HL
    isplitl [HS0]; · iexists _; iexact HS0
    isplitl [HS1]; · iexists _; iexact HS1
    isplitl [HS2]; · iexists _; iexact HS2
    iexact HR
  iexact Hg

end Cert.KernelIdeal.Gen

end
-- ==== Proof.Ideal.Region2.lean ====
module

public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Regions
public import Idealize.ShloMosaic.Lib.Pipeline.FrameBody
public import Idealize.ShloMosaic.Lib.Ring
public import Idealize.ShloMosaic.Lib.Tactic
public import Idealize.ShloMosaic.Lib.VecWindow

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The output tile: the rows' codes times the weights' tile, times both scales. -/
def dnOut (x0 : Vec F S1024x12288 .fp8e4m3) (x1 : Vec F S1024x1 .f32) (x2 : Vec F S12288x1024 .fp8e4m3) (x3 : Vec F S1x1024 .f32) : Vec F S1024x1024 .f32 :=
  k2_pay1 x0 x2 x1 x3

set_option maxHeartbeats 1000000 in
/-- The body as a triple: from its input blocks and any contents of its output blocks it leaves the closed values of the
    inputs in the output blocks. -/
theorem run2 (c : Dev nD) (E : Set ℕ) (i : grid2.Coords) (arg2 : Memref sig .tc .vmem S1024x12288 .fp8e4m3) (harg2 : arg2.IsWhole) (arg3 : Memref sig .tc .vmem S1024x1 .f32) (harg3 : arg3.IsWhole) (arg4 : Memref sig .tc .vmem S12288x1024 .fp8e4m3) (harg4 : arg4.IsWhole) (arg5 : Memref sig .tc .vmem S1x1024 .f32) (harg5 : arg5.IsWhole) (arg6 : Memref sig .tc .vmem S1024x1024 .f32) (harg6 : arg6.IsWhole)
    (x0 : Vec F S1024x12288 .fp8e4m3) (x1 : Vec F S1024x1 .f32) (x2 : Vec F S12288x1024 .fp8e4m3) (x3 : Vec F S1x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (dnOut x0 x1 x2 x3)) -∗ K ⟨⟩))
      ⊢ wp frame (wpE (defs₀ (F := F)) Variants.none c none) E (cc2_down i arg2 harg2 arg3 harg3 arg4 harg4 arg5 harg5 arg6 harg6) K := by
  simp only [cc2_down_eq_skeleton]; unfold cc2_down_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr; swap; · iexact H4
  ipureintro
  refine (View.read_writes_full _ _ _ _ _).trans ?_
  (try delta run2.sl.r); (try delta run2.sl.r_12); (try delta run2.sl.r_11); (try delta run2.sl.r_10); (try delta run2.sl.r_9); (try delta run2.sl.r_8); (try delta run2.sl.r_7); (try delta run2.sl.r_6); (try delta run2.sl.r_5); (try delta run2.sl.r_4); (try delta run2.sl.r_3); (try delta run2.sl.r_2); (try delta run2.sl.r_1); (try delta run2.sl.r_0)
  (try rw [View.readAt_full arg2.view f0 inb_S1024x12288_S1024x12288_0_0, View.readAt_full arg3.view f1 inb_S1024x1_S1024x1_0_0, View.readAt_full arg4.view f2 inb_S12288x1024_S12288x1024_0_0, View.readAt_full arg5.view f3 inb_S1x1024_S1x1024_0_0])
  rfl

/-! ## The region's data, from any contents of the unscoped buffers -/

variable (V : (c : Dev nD) → (b : Ref sig .tc) → Buf (Elt F) ((c : Thread nD τ).loc b))

/-- The block a window stages at a point, from the contents the region finds. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The region's data: the arrays as found; after the body each input's buffer at its block and each output's at its
    value of the input blocks; nothing owed; each input at its share of its array. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => dnOut (blk2 V c 0 t) (blk2 V c 1 t) (blk2 V c 2 t) (blk2 V c 3 t)
  Φ _ := Pipeline.ΦA spec2 c
  q := Pipeline.shareOf spec2
  owed _ := 0

/-- The arrays are those the region finds. -/
theorem dat2_A (c : Dev nD) (w : Fin cfg2.W) : (dat2 V c).A w = V c (Pipeline.arrRef spec2 w) := by
  dsimp only [dat2]
/-- What the body leaves in window 0. -/
theorem dat2_after0 (c : Dev nD) (t : Fin cfg2.N) : (dat2 V c).after 0 t = blk2 V c 0 t := by dsimp only [dat2]
/-- What the body leaves in window 1. -/
theorem dat2_after1 (c : Dev nD) (t : Fin cfg2.N) : (dat2 V c).after 1 t = blk2 V c 1 t := by dsimp only [dat2]
/-- What the body leaves in window 2. -/
theorem dat2_after2 (c : Dev nD) (t : Fin cfg2.N) : (dat2 V c).after 2 t = blk2 V c 2 t := by dsimp only [dat2]
/-- What the body leaves in window 3. -/
theorem dat2_after3 (c : Dev nD) (t : Fin cfg2.N) : (dat2 V c).after 3 t = blk2 V c 3 t := by dsimp only [dat2]
/-- What the body leaves in window 4. -/
theorem dat2_after4 (c : Dev nD) (t : Fin cfg2.N) : (dat2 V c).after 4 t = dnOut (blk2 V c 0 t) (blk2 V c 1 t) (blk2 V c 2 t) (blk2 V c 3 t) := by dsimp only [dat2]
/-- What the body finds in window 0: its block. -/
theorem dat2_before0 (c : Dev nD) (t : Fin cfg2.N) (d) : (dat2 V c).before 0 t d = blk2 V c 0 t :=
  ((dat2 V c).before_in_eq_fetched 0 rfl (fun _ => rfl) (fun _ _ _ => rfl) (fun t => by rw [dat2_after0]; unfold Dat.blockOf blk2; rw [dat2_A]; try rfl) t d).trans
    (by unfold Dat.fetched Dat.blockOf blk2; rw [dat2_A]; try rfl)
/-- What the body finds in window 1: its block. -/
theorem dat2_before1 (c : Dev nD) (t : Fin cfg2.N) (d) : (dat2 V c).before 1 t d = blk2 V c 1 t :=
  ((dat2 V c).before_in_eq_fetched 1 rfl (fun _ => rfl) (fun _ _ _ => rfl) (fun t => by rw [dat2_after1]; unfold Dat.blockOf blk2; rw [dat2_A]; try rfl) t d).trans
    (by unfold Dat.fetched Dat.blockOf blk2; rw [dat2_A]; try rfl)
/-- What the body finds in window 2: its block. -/
theorem dat2_before2 (c : Dev nD) (t : Fin cfg2.N) (d) : (dat2 V c).before 2 t d = blk2 V c 2 t :=
  ((dat2 V c).before_in_eq_fetched 2 rfl (fun _ => rfl) (fun _ _ _ => rfl) (fun t => by rw [dat2_after2]; unfold Dat.blockOf blk2; rw [dat2_A]; try rfl) t d).trans
    (by unfold Dat.fetched Dat.blockOf blk2; rw [dat2_A]; try rfl)
/-- What the body finds in window 3: its block. -/
theorem dat2_before3 (c : Dev nD) (t : Fin cfg2.N) (d) : (dat2 V c).before 3 t d = blk2 V c 3 t :=
  ((dat2 V c).before_in_eq_fetched 3 rfl (fun _ => rfl) (fun _ _ _ => rfl) (fun t => by rw [dat2_after3]; unfold Dat.blockOf blk2; rw [dat2_A]; try rfl) t d).trans
    (by unfold Dat.fetched Dat.blockOf blk2; rw [dat2_A]; try rfl)

/-- What the body is called with at a point. -/
def pre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- What it returns. -/
def post2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point. -/
theorem sound2 (c : Dev nD) (t : Fin cfg2.N) :
    pre2 V c t ⊢ wp frame (wpE (defs₀ (F := F)) Variants.none c none) Set.univ (bodyAt2 t) (fun _ => post2 V c t) := by
  unfold pre2 post2 bodyAt2
  simp only [dat2_before0, dat2_before1, dat2_before2, dat2_before3]
  rw [show (dat2 V c).Φ t.succ = (dat2 V c).Φ t.castSucc from rfl,
    show (dat2 V c).owesAt () t.succ = (dat2 V c).owesAt () t.castSucc from rfl,
    dat2_after0, dat2_after1, dat2_after2, dat2_after3, dat2_after4]
  iintro ⟨HΦ, Ho, ⟨%d0, H0⟩, ⟨%d1, H1⟩, ⟨%d2, H2⟩, ⟨%d3, H3⟩, ⟨%d4, H4⟩⟩
  iapply (run2 c Set.univ (grid2.coords t) _ _ _ _ _ _ _ _ _ _ (blk2 V c 0 t) (blk2 V c 1 t) (blk2 V c 2 t) (blk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem oblig2 (c : Dev nD) : BodyObligation (dat2 (F := F) V c) (defs₀ (F := F)) Variants.none () Set.univ := fun t => by
  rw [bigSep_W2, bigSep_W2, show defs₀ (F := F) .tc cfg2.body (cfg2.bodyArgs t (cfg2.slots t)) = bodyAt2 t from by unfold defs₀; rw [Defs.onTc_tc]]
  exact triple_restated (sound2 V c t) rfl .rfl fun _ => .rfl

end Cert.KernelIdeal.Gen

end
-- ==== Proof.Ideal.Run.lean ====
module

public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Regions
public import proofs.«01_k».proof.Proof.Ideal.Region0
public import proofs.«01_k».proof.Proof.Ideal.Region1
public import proofs.«01_k».proof.Proof.Ideal.Region2
public import Idealize.ShloMosaic.Lib.Pipeline.RegionsLoop
public import Idealize.ShloMosaic.Lib.Pipeline.FrameBody
public import Idealize.ShloMosaic.Lib.Ring
public import Idealize.ShloMosaic.Lib.Tactic
public import Idealize.ShloMosaic.Lib.VecWindow

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

/-! # The whole program's run

The three regions one after the other between the host's stretches: what every buffer holds at the end. -/

variable (m : (ℓ : Loc nD τ sig) → Buf (Elt F) ℓ)

/-! ## What the buffers hold between the program's items -/

/-- The buffers when region 0 starts: the host has written its constants. -/
def X1 (c : Dev nD) : Valuation τ sig (Elt F) := V1 m c
/-- The codes region 0 leaves. -/
def out0a (c : Dev nD) : Buf (Elt F) ((c : Thread nD τ).loc main_v2_0) := (dat0 (fun c b => X1 m c b) c).arrAt 2 cfg0.N
/-- The scales region 0 leaves. -/
def out0b (c : Dev nD) : Buf (Elt F) ((c : Thread nD τ).loc main_v2_1) := (dat0 (fun c b => X1 m c b) c).arrAt 3 cfg0.N
/-- The buffers after region 0. -/
def X2 (c : Dev nD) : Valuation τ sig (Elt F) :=
  Function.update (Function.update (X1 m c) main_v2_0 (out0a m c)) main_v2_1 (out0b m c)
/-- The buffers when region 1 starts. -/
def X3 (c : Dev nD) : Valuation τ sig (Elt F) := StableHlo.after hostOps1 (X2 m c)
/-- The codes of the hidden layer region 1 leaves. -/
def out1a (c : Dev nD) : Buf (Elt F) ((c : Thread nD τ).loc main_v5_0) := (dat1 (fun c b => X3 m c b) c).arrAt 7 cfg1.N
/-- The scales of the hidden layer region 1 leaves. -/
def out1b (c : Dev nD) : Buf (Elt F) ((c : Thread nD τ).loc main_v5_1) := (dat1 (fun c b => X3 m c b) c).arrAt 8 cfg1.N
/-- The buffers after region 1. -/
def X4 (c : Dev nD) : Valuation τ sig (Elt F) :=
  Function.update (Function.update (X3 m c) main_v5_0 (out1a m c)) main_v5_1 (out1b m c)
/-- The buffers when region 2 starts. -/
def X5 (c : Dev nD) : Valuation τ sig (Elt F) := StableHlo.after hostOps2 (X4 m c)
/-- The result region 2 leaves. -/
def out2 (c : Dev nD) : Buf (Elt F) ((c : Thread nD τ).loc main_v7) := (dat2 (fun c b => X5 m c b) c).arrAt 4 cfg2.N
/-- The buffers at the program's end. -/
def X6 (c : Dev nD) : Valuation τ sig (Elt F) := Function.update (X5 m c) main_v7 (out2 m c)

/-- Two references that differ name different buffers. -/
theorem tc_ne {r s : Ref sig .tc} (h : r ≠ s) : (Proc.devRef .tc r : DevRef τ sig) ≠ Proc.devRef .tc s :=
  StableHlo.devRef_ne_of_ne h

/-- Region 0 changes its two outputs only. -/
theorem X2_of (c : Dev nD) (b : Ref sig .tc) (h0 : b ≠ main_v2_0) (h1 : b ≠ main_v2_1) : X2 m c b = X1 m c b :=
  (Function.update_of_ne (tc_ne h1) _ _).trans (Function.update_of_ne (tc_ne h0) _ _)
/-- The codes after region 0. -/
theorem X2_a (c : Dev nD) : X2 m c main_v2_0 = out0a m c :=
  (Function.update_of_ne (tc_ne (by decide)) _ _).trans (Function.update_self _ _ _)
/-- The scales after region 0. -/
theorem X2_b (c : Dev nD) : X2 m c main_v2_1 = out0b m c := Function.update_self _ _ _
/-- Region 1 changes its two outputs only. -/
theorem X4_of (c : Dev nD) (b : Ref sig .tc) (h0 : b ≠ main_v5_0) (h1 : b ≠ main_v5_1) : X4 m c b = X3 m c b :=
  (Function.update_of_ne (tc_ne h1) _ _).trans (Function.update_of_ne (tc_ne h0) _ _)
/-- The hidden codes after region 1. -/
theorem X4_a (c : Dev nD) : X4 m c main_v5_0 = out1a m c :=
  (Function.update_of_ne (tc_ne (by decide)) _ _).trans (Function.update_self _ _ _)
/-- The hidden scales after region 1. -/
theorem X4_b (c : Dev nD) : X4 m c main_v5_1 = out1b m c := Function.update_self _ _ _
/-- Region 2 changes its output only. -/
theorem X6_of (c : Dev nD) (b : Ref sig .tc) (h : b ≠ main_v7) : X6 m c b = X5 m c b := Function.update_of_ne (tc_ne h) _ _
/-- The result after region 2. -/
theorem X6_y (c : Dev nD) : X6 m c main_v7 = out2 m c := Function.update_self _ _ _

/-- The host's first stretch writes two buffers only. -/
theorem X1_of (c : Dev nD) (b : Ref sig .tc) (h : b ∉ hostOps0_W) : X1 m c b = m ((c : Thread nD τ).loc b) :=
  StableHlo.after_of_writes_sub hostOps0 _ hostOps0_writes h
/-- The host's second stretch writes two buffers only. -/
theorem X3_of (c : Dev nD) (b : Ref sig .tc) (h : b ∉ hostOps1_W) : X3 m c b = X2 m c b :=
  StableHlo.after_of_writes_sub hostOps1 _ hostOps1_writes h
/-- The host's third stretch writes one buffer only. -/
theorem X5_of (c : Dev nD) (b : Ref sig .tc) (h : b ∉ hostOps2_W) : X5 m c b = X4 m c b :=
  StableHlo.after_of_writes_sub hostOps2 _ hostOps2_writes h

/-- A buffer nothing writes holds at the end what it held at launch. -/
theorem X6_arg (c : Dev nD) (b : Ref sig .tc) (h : b ∉ [main_v0, main_v1, main_v2_0, main_v2_1, main_v3, main_v4, main_v5_0, main_v5_1, main_v6, main_v7]) :
    X6 m c b = m ((c : Thread nD τ).loc b) := by
  simp only [List.mem_cons, List.not_mem_nil, or_false, not_or] at h
  obtain ⟨h0, h1, h2, h3, h4, h5, h6, h7, h8, h9⟩ := h
  rw [X6_of m c b h9, X5_of m c b (by simp [hostOps2_W, h8]), X4_of m c b h6 h7, X3_of m c b (by simp [hostOps1_W, h4, h5]),
    X2_of m c b h2 h3, X1_of m c b (by simp [hostOps0_W, h0, h1])]

/-! ## The regions as segments of the run -/

/-- The three regions' data, each at the buffers it is entered with. -/
def pd (p : Fin 3) (c : Dev nD) : Dat τ (Elt F) Unit ℕ (UR sig nD τ) ℕ (cfgs p) c :=
  match p with
  | ⟨0, _⟩ => dat0 (fun c b => X1 m c b) c
  | ⟨1, _⟩ => dat1 (fun c b => X3 m c b) c
  | ⟨2, _⟩ => dat2 (fun c b => X5 m c b) c

/-- No core owes another anything: no level is assigned. -/
abbrev Lr : GSem nD τ sig → Finset Unit := fun _ => ∅
/-- The one level. -/
abbrev lvr : GSem nD τ sig → Unit → ℕ := fun _ _ => 0

/-- What rides beside the buffers: the generator's register and the core owing nothing. -/
def rideE (c : Dev nD) : sProp 𝕄 :=
  iprop((∃ r, prngReg c r) ∗ ∃ W, owes (c : Thread nD τ) (0 : CellTallies nD τ sig Unit) W)

/-- Every unscoped buffer of a core at its contents, with what rides beside. -/
def stateAt (W : Dev nD → Valuation τ sig (Elt F)) (c : Dev nD) : sProp 𝕄 :=
  iprop(StableHlo.held (c : Thread nD τ) (Pipeline.ucRefs τ sig) (W c) ∗ rideE c)

set_option backward.isDefEq.respectTransparency.types false in
/-- A region as a segment: entered by taking its arrays out of the unscoped buffers, left by putting them back. -/
def regSeg (p : Fin 3) (kit : Pipeline.LaunchFacts₀ (nD := nD) (τ := τ) cfgs p)
    (W W' : Dev nD → Valuation τ sig (Elt F))
    (hb : ∀ c, BodyObligation (pd m p c) (defs₀ (F := F)) Variants.none () Set.univ)
    (ho : ∀ c t, (pd m p c).owed t = 0)
    (hq : ∀ c w, (pd m p c).q w = Pipeline.shareOf (cfgs p).spec w)
    (hA : ∀ c w, (pd m p c).A w = W c (Pipeline.arrRef (cfgs p).spec w))
    (hrc : ∀ c x, x ∈ (pd m p c).recorded 0)
    (hi : ∀ c, Pipeline.ΦA (cfgs p).spec c ⊢ (pd m p c).Φ 0)
    (hl : ∀ c, (pd m p c).Φ (Fin.last (cfgs p).N) ⊢ Pipeline.ΦA (cfgs p).spec c)
    (hF : ∀ c w, (pd m p c).arrAt w (cfgs p).N = W' c (Pipeline.arrRef (cfgs p).spec w))
    (hr : ∀ c (b : Ref sig .tc), b ∉ Finset.univ.image (Pipeline.arrRef (cfgs p).spec) → W' c b = W c b) :
    RegionSeg (pcfgs (F := F)) adm (pd m) () (defs₀ (F := F)) Variants.none Lr lvr p where
  win := kit.win
  block_pos := kit.block_pos
  stage_whole := kit.stage_whole
  K := PEmpty
  osem k := k.elim
  ho := Pipeline.OwnSemFacts.none _
  hbody c := (hb c).loose
  hwaits := Pipeline.hwaits_of_owed_zero _ _ _ _ Lr lvr p ho
  pre c := stateAt W c
  post c := stateAt W' c
  X c := iprop(∃ r, prngReg c r)
  Y c := iprop(∃ r, prngReg c r)
  Z c := Pipeline.unscopedRest (Ix := Unit) (Name := ℕ) (U := UR sig nD τ) (Lvl := ℕ) (cfgs p).spec c (fun b => W c b)
  hentry c := by
    unfold stateAt rideE
    rw [Pipeline.ownSems0_none,
      show StableHlo.held (c : Thread nD τ) (Pipeline.ucRefs τ sig) (W c) = unscopedBufs c (fun b => W c b)
        from (Pipeline.unscopedBufs_held (Ix := Unit) (Name := ℕ) (U := UR sig nD τ) (Lvl := ℕ) c (W c)).symm]
    have hsplit := Pipeline.arrays_of_unscopedBufs_shared (p := p) (pcfgs (F := F)) adm (pd m) kit.win kit.sharedIn kit.arr_whole c
      (fun w _ => hq c w) (fun b => W c b) (fun w => hA c w)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [ho c 0]
      icases HO with ⟨%W0, HO⟩; iexists W0; isplitr; · ipureintro; exact fun _ _ => Or.inl (hrc c _)
      iexact HO
    isplitl [Hp]; · iexact Hp
    iexact Hrest
  hin c := (show _ ⊢ Pipeline.ΦA (cfgs p).spec c from by
    unfold Pipeline.ΦA; iintro ⟨Hp, -, Hr⟩
    isplitl [Hr] <;> iassumption).trans (hi c)
  hout c := (hl c).trans (by
    rw [Pipeline.ownSems0_none]; unfold Pipeline.ΦA
    iintro ⟨Hr, Hp⟩
    isplitl [Hp]; · iexact Hp
    isplitr; · iempintro
    iexact Hr)
  hexit c := by
    have hjoin := Pipeline.unscopedBufs_of_arrays_shared (p := p) (pcfgs (F := F)) adm (Ix := Unit) (Name := ℕ) (U := UR sig nD τ) (Lvl := ℕ)
      kit.win kit.sharedIn kit.arr_whole c (pd m) (fun w _ => hq c w)
      (fun b => W c b) (fun b => W' c b) ((pd m p c).arrAt · (cfgs p).N) (hF c) (hr c)
    unfold stateAt rideE
    rw [show StableHlo.held (c : Thread nD τ) (Pipeline.ucRefs τ sig) (W' c) = unscopedBufs c (fun b => W' c b)
        from (Pipeline.unscopedBufs_held (Ix := Unit) (Name := ℕ) (U := UR sig nD τ) (Lvl := ℕ) c (W' c)).symm]
    iintro ⟨Ha, HO, Hp, Hrest⟩
    imodintro
    isplitl [Ha Hrest]
    · iapply hjoin; isplitl [Ha] <;> iassumption
    isplitl [Hp]; · iexact Hp
    unfold Pipeline.Dat.owesAt Pipeline.owesWithin
    rw [ho c (Fin.last _)]
    icases HO with ⟨%W0, -, HO⟩; iexists W0; iexact HO

/-- Region 0's segment. -/
def sgX0 : RegionSeg (pcfgs (F := F)) adm (pd m) () (defs₀ (F := F)) Variants.none Lr lvr 0 :=
  regSeg m 0 launch0.to₀ (X1 m) (X2 m) (fun c => oblig0 _ c) (fun _ _ => rfl) (fun _ _ => rfl) (fun _ _ => rfl) (fun _ _ => trivial)
    (fun _ => .rfl) (fun _ => .rfl)
    (fun c w => by
      fin_cases w
      · exact ((pd m 0 c).arrAt_in 0 rfl _).trans (X2_of m c (Pipeline.arrRef spec0 0) (by decide) (by decide)).symm
      · exact ((pd m 0 c).arrAt_in 1 rfl _).trans (X2_of m c (Pipeline.arrRef spec0 1) (by decide) (by decide)).symm
      · exact (X2_a m c).symm
      · exact (X2_b m c).symm)
    (fun c b hb => X2_of m c b (fun h => hb (h ▸ Finset.mem_image.mpr ⟨2, Finset.mem_univ _, rfl⟩))
      (fun h => hb (h ▸ Finset.mem_image.mpr ⟨3, Finset.mem_univ _, rfl⟩)))

/-- Region 1's segment. -/
def sgX1 : RegionSeg (pcfgs (F := F)) adm (pd m) () (defs₀ (F := F)) Variants.none Lr lvr 1 :=
  regSeg m 1 launch₀1 (X3 m) (X4 m) (fun c => oblig1 _ c) (fun _ _ => rfl) (fun _ _ => rfl) (fun _ _ => rfl) (fun _ _ => trivial)
    (fun c => inv1_first _ c) (fun c => inv1_last _ c)
    (fun c w => by
      fin_cases w
      · exact ((pd m 1 c).arrAt_in 0 rfl _).trans (X4_of m c (Pipeline.arrRef spec1 0) (by decide) (by decide)).symm
      · exact ((pd m 1 c).arrAt_in 1 rfl _).trans (X4_of m c (Pipeline.arrRef spec1 1) (by decide) (by decide)).symm
      · exact ((pd m 1 c).arrAt_in 2 rfl _).trans (X4_of m c (Pipeline.arrRef spec1 2) (by decide) (by decide)).symm
      · exact ((pd m 1 c).arrAt_in 3 rfl _).trans (X4_of m c (Pipeline.arrRef spec1 3) (by decide) (by decide)).symm
      · exact ((pd m 1 c).arrAt_in 4 rfl _).trans (X4_of m c (Pipeline.arrRef spec1 4) (by decide) (by decide)).symm
      · exact ((pd m 1 c).arrAt_in 5 rfl _).trans (X4_of m c (Pipeline.arrRef spec1 5) (by decide) (by decide)).symm
      · exact ((pd m 1 c).arrAt_in 6 rfl _).trans (X4_of m c (Pipeline.arrRef spec1 6) (by decide) (by decide)).symm
      · exact (X4_a m c).symm
      · exact (X4_b m c).symm)
    (fun c b hb => X4_of m c b (fun h => hb (h ▸ Finset.mem_image.mpr ⟨7, Finset.mem_univ _, rfl⟩))
      (fun h => hb (h ▸ Finset.mem_image.mpr ⟨8, Finset.mem_univ _, rfl⟩)))

/-- Region 2's segment. -/
def sgX2 : RegionSeg (pcfgs (F := F)) adm (pd m) () (defs₀ (F := F)) Variants.none Lr lvr 2 :=
  regSeg m 2 launch2.to₀ (X5 m) (X6 m) (fun c => oblig2 _ c) (fun _ _ => rfl) (fun _ _ => rfl) (fun _ _ => rfl) (fun _ _ => trivial)
    (fun _ => .rfl) (fun _ => .rfl)
    (fun c w => by
      fin_cases w
      · exact ((pd m 2 c).arrAt_in 0 rfl _).trans (X6_of m c (Pipeline.arrRef spec2 0) (by decide)).symm
      · exact ((pd m 2 c).arrAt_in 1 rfl _).trans (X6_of m c (Pipeline.arrRef spec2 1) (by decide)).symm
      · exact ((pd m 2 c).arrAt_in 2 rfl _).trans (X6_of m c (Pipeline.arrRef spec2 2) (by decide)).symm
      · exact ((pd m 2 c).arrAt_in 3 rfl _).trans (X6_of m c (Pipeline.arrRef spec2 3) (by decide)).symm
      · exact (X6_y m c).symm)
    (fun c b hb => X6_of m c b (fun h => hb (h ▸ Finset.mem_image.mpr ⟨4, Finset.mem_univ _, rfl⟩)))

/-! ## The run -/

/-- The run's segments in order. -/
def segsX : Dev nD → List (Seg (pcfgs (F := F)) adm (pd m) () (defs₀ (F := F)) Variants.none Lr lvr) := fun _ => [
  .host (HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) rideE),
  .region (sgX0 m),
  .host (HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (X2 m) rideE),
  .region (sgX1 m),
  .host (HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (X4 m) rideE),
  .region (sgX2 m)]

set_option backward.isDefEq.respectTransparency.types false in
set_option maxHeartbeats 4000000 in
/-- THE RUN: from any memory the program ends with every unscoped buffer at the last contents and every counter at zero. -/
theorem run_all (ρ : Dev nD → PrngReg) :
    θ_run defs (onTc (τ := τ) (main (F := F))) ⟨m, fun _ => 0, ρ⟩ (fun r =>
      (∀ c : Dev nD, ∀ b ∈ Pipeline.ucRefs τ sig, r.2.mem ((c.tc : Thread nD τ).1, b) = X6 m c b) ∧ r.2.sem = fun _ => 0) := by
  refine Pipeline.θ_run_regions_kit_dev_sems (pcfgs (F := F)) adm (pd m) () cellOf_inj emb₁ defs₀ Variants.none Lr lvr m ρ main
    (segsX m)
    (fun c Q => by
      rewrite [main_chain c, Seg.run_eq_chain,
        show (segsX m c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      dsimp (config := { failIfUnchanged := false }) only
      exact .rfl)
    (fun c => by simp only [segsX, Seg.pipes_host, Seg.pipes_region, Seg.pipes_nil]; decide) (O₀ := 0) (hL := fun _ _ => rfl)
    (G := fun _ => iprop(emp)) (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ rideE c))
    (Tₙ := fun c => StableHlo.held (c : Thread nD τ) (Pipeline.ucRefs τ sig) (X6 m c))
    (hch := fun c => ⟨.rfl, .rfl, .rfl, .rfl, .rfl, .rfl,
      (show stateAt (X6 m) c ⊢ (_ : sProp 𝕄) from by
        unfold stateAt rideE
        iintro ⟨Hh, -, HO⟩
        isplitl [Hh] <;> iassumption)⟩)
    (hinit := by
      refine Pipeline.initEach Lr lvr fun c => ?_
      rw [show unscopedBufs c (fun b => m ((c.tc : Thread nD τ).loc b)) = StableHlo.held (c.tc : Thread nD τ) (Pipeline.ucRefs τ sig) (V0 m c)
          from Pipeline.unscopedBufs_held (Ix := Unit) (Name := ℕ) (U := UR sig nD τ) (Lvl := ℕ) c (V0 m c)]
      unfold rideE
      iintro ⟨⟨Hh, -, HO, -, Hp, -⟩, -⟩
      imodintro
      isplitl [Hh]; · iexact Hh
      isplitl [Hp]; · iexists _; iexact Hp
      iexists _; iexact HO)
    (QY := fun c s => ∀ b ∈ Pipeline.ucRefs τ sig, s.mem ((c.tc : Thread nD τ).1, b) = X6 m c b)
    (hfin := fun c s' => by
      unfold StableHlo.held
      iintro ⟨Hh, HSI⟩
      ihave Hr := (pointsTo_read_all (Pipeline.ucRefs τ sig) (fun b => ((c.tc : Thread nD τ).1, b)) (X6 m c) s') $$ [Hh HSI]
      · isplitl [Hh] <;> iassumption
      imodintro; iexact Hr)
    (hQ := fun _ h hz => ⟨h, funext fun g => hz g (.inr (regions_no_unscoped g.2))⟩)

end Cert.KernelIdeal.Gen

end
-- ==== Proof.Ideal.Frame.lean ====
module

public import proofs.«01_k».proof.Proof.Ideal.Run

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

variable (m : (ℓ : Loc nD τ sig) → Buf (Elt F) ℓ)

/-- An unscoped buffer of the core is among those the run keeps. -/
theorem mem_ucRefs (b : Ref sig .tc) (h : (Proc.devRef (τ := τ) .tc b).isScoped = false) : (Proc.devRef .tc b : DevRef τ sig) ∈ Pipeline.ucRefs τ sig :=
  Finset.mem_filter.mpr ⟨StableHlo.devRef_mem_tcRefs b, by simp [h]⟩

/-- The program runs, leaves its seven arguments as they were and every counter at zero. -/
theorem frame (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨(h.1 c _ (mem_ucRefs main_arg0 (by decide))).trans (X6_arg m c main_arg0 (by decide)),
    (h.1 c _ (mem_ucRefs main_arg1 (by decide))).trans (X6_arg m c main_arg1 (by decide)),
    (h.1 c _ (mem_ucRefs main_arg2 (by decide))).trans (X6_arg m c main_arg2 (by decide)),
    (h.1 c _ (mem_ucRefs main_arg3 (by decide))).trans (X6_arg m c main_arg3 (by decide)),
    (h.1 c _ (mem_ucRefs main_arg4 (by decide))).trans (X6_arg m c main_arg4 (by decide)),
    (h.1 c _ (mem_ucRefs main_arg5 (by decide))).trans (X6_arg m c main_arg5 (by decide)),
    (h.1 c _ (mem_ucRefs main_arg6 (by decide))).trans (X6_arg m c main_arg6 (by decide))⟩, h.2⟩) (run_all m ρ)

end Cert.KernelIdeal.Gen

end
-- ==== Proof.Word.Region0.lean ====
module

public import proofs.«01_k».proof.Proof.Gen.Kernel.Skeleton
public import proofs.«01_k».proof.Proof.Gen.Kernel.Launch
public import proofs.«01_k».proof.Proof.Gen.Kernel.Points
public import proofs.«01_k».proof.Proof.Gen.Kernel.Regions
public import Idealize.ShloMosaic.Lib.Pipeline.FrameBody
public import Idealize.ShloMosaic.Lib.Ring
public import Idealize.ShloMosaic.Lib.Tactic
public import Idealize.ShloMosaic.Lib.VecWindow

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The rows' exponents: the quantised block's power-of-two scales. -/
def qExpMid (x0 : Vec F S256x4096 .f32) (x1 : Vec F S1x4096 .f32) : IVec S256x1 32 :=
  k0_pay7 (k0_pay4 x0 x1) (k0_pay5 x0 x1) (k0_pay6 x0 x1)

/-- The next threshold the exponent search compares with. -/
def qThr (x0 : Vec F S256x4096 .f32) (x1 : Vec F S1x4096 .f32) : FVec F S256x1 .f32 :=
  k0_pay8 (k0_pay4 x0 x1) (k0_pay5 x0 x1) (k0_pay6 x0 x1)

/-- The codes of a block of rows. -/
def qCodes (x0 : Vec F S256x4096 .f32) (x1 : Vec F S1x4096 .f32) : Vec F S256x4096 .fp8e4m3 :=
  k0_pay1 (k0_pay2 x0 x1) (k0_pay11 (k0_pay3 x0 x1) (k0_pay4 x0 x1) (qExpMid x0 x1) (qThr x0 x1)) k0_pay12

/-- The scales of a block of rows. -/
def qScales (x0 : Vec F S256x4096 .f32) (x1 : Vec F S1x4096 .f32) : Vec F S256x1 .f32 :=
  k0_pay10 (k0_pay3 x0 x1) (k0_pay4 x0 x1) (qExpMid x0 x1) (qThr x0 x1)

set_option maxHeartbeats 1000000 in
/-- The body as a triple: from its input blocks and any contents of its output blocks it leaves the closed values of the
    inputs in the output blocks. -/
theorem run0 (c : Dev nD) (E : Set ℕ) (i : grid0.Coords) (arg1 : Memref sig .tc .vmem S256x4096 .f32) (harg1 : arg1.IsWhole) (arg2 : Memref sig .tc .vmem S1x4096 .f32) (harg2 : arg2.IsWhole) (arg3 : Memref sig .tc .vmem S256x4096 .fp8e4m3) (harg3 : arg3.IsWhole) (arg4 : Memref sig .tc .vmem S256x1 .f32) (harg4 : arg4.IsWhole)
    (x0 : Vec F S256x4096 .f32) (x1 : Vec F S1x4096 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (qCodes x0 x1) ∗ owns (c : Thread nD τ) arg4 fullShare (qScales x0 x1)) -∗ K ⟨⟩))
      ⊢ wp frame (wpE (defs₀ (F := F)) Variants.none c none) E (cc0_quant_x i arg1 harg1 arg2 harg2 arg3 harg3 arg4 harg4) K := by
  simp only [cc0_quant_x_eq_skeleton]; unfold cc0_quant_x_skel
  simp only [k0_part1_eq_skeleton, k0_part2_eq_skeleton, k0_part3_eq_skeleton]
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr; swap; · iexact H2
    ipureintro
    refine (View.read_writes_full _ _ _ _ _).trans ?_
    (try delta run0.sl.r); (try delta run0.sl.r_12); (try delta run0.sl.r_11); (try delta run0.sl.r_10); (try delta run0.sl.r_9); (try delta run0.sl.r_8); (try delta run0.sl.r_7); (try delta run0.sl.r_6); (try delta run0.sl.r_5); (try delta run0.sl.r_4); (try delta run0.sl.r_3); (try delta run0.sl.r_2); (try delta run0.sl.r_1); (try delta run0.sl.r_0)
    (try rw [View.readAt_full arg1.view f0 inb_S256x4096_S256x4096_0_0, View.readAt_full arg2.view f1 inb_S1x4096_S1x4096_0_0])
    rfl
  iexists _; isplitr; swap; · iexact H3
  ipureintro
  refine (View.read_writes_full _ _ _ _ _).trans ?_
  (try delta run0.sl.r); (try delta run0.sl.r_12); (try delta run0.sl.r_11); (try delta run0.sl.r_10); (try delta run0.sl.r_9); (try delta run0.sl.r_8); (try delta run0.sl.r_7); (try delta run0.sl.r_6); (try delta run0.sl.r_5); (try delta run0.sl.r_4); (try delta run0.sl.r_3); (try delta run0.sl.r_2); (try delta run0.sl.r_1); (try delta run0.sl.r_0)
  (try rw [View.readAt_full arg1.view f0 inb_S256x4096_S256x4096_0_0, View.readAt_full arg2.view f1 inb_S1x4096_S1x4096_0_0])
  rfl

/-! ## The region's data, from any contents of the unscoped buffers -/

variable (V : (c : Dev nD) → (b : Ref sig .tc) → Buf (Elt F) ((c : Thread nD τ).loc b))

/-- The block a window stages at a point, from the contents the region finds. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The region's data: the arrays as found; after the body each input's buffer at its block and each output's at its
    value of the input blocks; nothing owed; each input at its share of its array. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => qCodes (blk0 V c 0 t) (blk0 V c 1 t)
    | ⟨3, _⟩ => qScales (blk0 V c 0 t) (blk0 V c 1 t)
  Φ _ := Pipeline.ΦA spec0 c
  q := Pipeline.shareOf spec0
  owed _ := 0

/-- The arrays are those the region finds. -/
theorem dat0_A (c : Dev nD) (w : Fin cfg0.W) : (dat0 V c).A w = V c (Pipeline.arrRef spec0 w) := by
  dsimp only [dat0]
/-- What the body leaves in window 0. -/
theorem dat0_after0 (c : Dev nD) (t : Fin cfg0.N) : (dat0 V c).after 0 t = blk0 V c 0 t := by dsimp only [dat0]
/-- What the body leaves in window 1. -/
theorem dat0_after1 (c : Dev nD) (t : Fin cfg0.N) : (dat0 V c).after 1 t = blk0 V c 1 t := by dsimp only [dat0]
/-- What the body leaves in window 2. -/
theorem dat0_after2 (c : Dev nD) (t : Fin cfg0.N) : (dat0 V c).after 2 t = qCodes (blk0 V c 0 t) (blk0 V c 1 t) := by dsimp only [dat0]
/-- What the body leaves in window 3. -/
theorem dat0_after3 (c : Dev nD) (t : Fin cfg0.N) : (dat0 V c).after 3 t = qScales (blk0 V c 0 t) (blk0 V c 1 t) := by dsimp only [dat0]
/-- What the body finds in window 0: its block. -/
theorem dat0_before0 (c : Dev nD) (t : Fin cfg0.N) (d) : (dat0 V c).before 0 t d = blk0 V c 0 t :=
  ((dat0 V c).before_in_eq_fetched 0 rfl (fun _ => rfl) (fun _ _ _ => rfl) (fun t => by rw [dat0_after0]; unfold Dat.blockOf blk0; rw [dat0_A]; try rfl) t d).trans
    (by unfold Dat.fetched Dat.blockOf blk0; rw [dat0_A]; try rfl)
/-- What the body finds in window 1: its block. -/
theorem dat0_before1 (c : Dev nD) (t : Fin cfg0.N) (d) : (dat0 V c).before 1 t d = blk0 V c 1 t :=
  ((dat0 V c).before_in_eq_fetched 1 rfl (fun _ => rfl) (fun _ _ _ => rfl) (fun t => by rw [dat0_after1]; unfold Dat.blockOf blk0; rw [dat0_A]; try rfl) t d).trans
    (by unfold Dat.fetched Dat.blockOf blk0; rw [dat0_A]; try rfl)

/-- What the body is called with at a point. -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What it returns. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point. -/
theorem sound0 (c : Dev nD) (t : Fin cfg0.N) :
    pre0 V c t ⊢ wp frame (wpE (defs₀ (F := F)) Variants.none c none) Set.univ (bodyAt0 t) (fun _ => post0 V c t) := by
  unfold pre0 post0 bodyAt0
  simp only [dat0_before0, dat0_before1]
  rw [show (dat0 V c).Φ t.succ = (dat0 V c).Φ t.castSucc from rfl,
    show (dat0 V c).owesAt () t.succ = (dat0 V c).owesAt () t.castSucc from rfl,
    dat0_after0, dat0_after1, dat0_after2, dat0_after3]
  iintro ⟨HΦ, Ho, ⟨%d0, H0⟩, ⟨%d1, H1⟩, ⟨%d2, H2⟩, ⟨%d3, H3⟩⟩
  iapply (run0 c Set.univ (grid0.coords t) _ _ _ _ _ _ _ _ (blk0 V c 0 t) (blk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem oblig0 (c : Dev nD) : BodyObligation (dat0 (F := F) V c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  exact triple_restated (sound0 V c t) rfl .rfl fun _ => .rfl

end Cert.Kernel.Gen

end
-- ==== Proof.Word.GateStep.lean ====
module

public import proofs.«01_k».proof.Proof.Gen.Kernel.Skeleton
public import proofs.«01_k».proof.Proof.Gen.Kernel.Launch
public import proofs.«01_k».proof.Proof.Gen.Kernel.Points
public import proofs.«01_k».proof.Proof.Gen.Kernel.Regions
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

/-!
# One step of the fused gate/up kernel, in closed form

The fused kernel carries three scratch buffers between grid steps: the hidden rows of a row block (`H`), the row
maxima of the block being filled, lane by lane (`A`), and the finished row maxima of the block before (`P`). This
module names, as plain functions of the input blocks and of these carried values, what one step writes: the codes and
scales of one tile, and the three carried buffers afterwards.
-/

@[expose] public section

set_option maxRecDepth 16384

noncomputable section

namespace Cert.Kernel.Gen

open Idealize.ShloMosaic Idealize.ShloMosaic.TcCoe Idealize.ShloMosaic.Tactic
open Idealize.SL Idealize.SL.Sem

variable {F : FTy → Type} [FloatOps F]

/-- The step is in the first row block. -/
abbrev cond1_0 (i : grid1.Coords) : Prop := k1_cond1 i = 1#1
/-- The step is the first of its row block. -/
abbrev cond1_1 (i : grid1.Coords) : Prop := (Scalar.cmpi .ne (Scalar.extui (Scalar.cmpi .eq (BitVec.ofNat 32 (i 1).val) 0#32)) 0#32) = 1#1
/-- The step is past the last row block. -/
abbrev cond1_2 (i : grid1.Coords) : Prop := k1_cond3 i = 1#1
/-- The step is in a row block to be filled. -/
abbrev cond1_3 (i : grid1.Coords) : Prop := k1_cond4 i = 1#1

/-- The step's column tile lies within the hidden rows. -/
theorem gTile_inb (i : grid1.Coords) : ∀ a, (![0, 1024 * (i 1).val] : Fin 2 → ℕ) a + S512x1024.size a ≤ S512x12288.size a := by
  have h : (i 1).val < 12 := (i 1).isLt
  intro a
  fin_cases a
  · show 0 + 512 ≤ 512; omega
  · show 1024 * (i 1).val + 1024 ≤ 12288; omega

/-- The step's column tile of the hidden rows. -/
def gTile (i : grid1.Coords) (H : Vec F S512x12288 .f32) : Vec F S512x1024 .f32 :=
  VecWindow.window H ![0, 1024 * (i 1).val] S512x1024.size (gTile_inb i)

/-- The power-of-two exponents of the rows, from the carried maxima. -/
def gExp (i : grid1.Coords) (A P : Vec F S512x128 .f32) : IVec S512x1 32 :=
  k1_pay32 (k1_pay26 i A P) (k1_pay27 i A P) (k1_pay30 (k1_pay27 i A P) (k1_pay28 i A P) (k1_pay29 i A P)) (k1_pay31 (k1_pay27 i A P) (k1_pay28 i A P) (k1_pay29 i A P))

/-- The scales a step writes. -/
def gSh (i : grid1.Coords) (A P : Vec F S512x128 .f32) : FVec F S512x1 .f32 :=
  k1_pay1 (gExp i A P)
    (k1_pay33 (k1_pay26 i A P) (k1_pay27 i A P) (k1_pay30 (k1_pay27 i A P) (k1_pay28 i A P) (k1_pay29 i A P)) (k1_pay31 (k1_pay27 i A P) (k1_pay28 i A P) (k1_pay29 i A P)))
    (k1_pay34 (k1_pay26 i A P) (k1_pay27 i A P) (k1_pay30 (k1_pay27 i A P) (k1_pay28 i A P) (k1_pay29 i A P)) (k1_pay31 (k1_pay27 i A P) (k1_pay28 i A P) (k1_pay29 i A P)))

/-- The codes a step writes, from the carried maxima and the tile it reads. -/
def gHq (i : grid1.Coords) (A P : Vec F S512x128 .f32) (T : Vec F S512x1024 .f32) : FVec F S512x1024 .fp8e4m3 :=
  k1_pay4 (k1_pay2 (gExp i A P)) T

/-- A quarter of the weights' column tile lies within it. -/
theorem gW_inb (k : Fin 4) : ∀ a, (![0, 256 * k.val] : Fin 2 → ℕ) a + S4096x256.size a ≤ S4096x1024.size a := by
  have h := k.isLt
  intro a
  fin_cases a
  · show 0 + 4096 ≤ 4096; omega
  · show 256 * k.val + 256 ≤ 1024; omega

/-- A quarter of a row of column factors lies within it. -/
theorem gR_inb (k : Fin 4) : ∀ a, (![0, 256 * k.val] : Fin 2 → ℕ) a + S1x256.size a ≤ S1x1024.size a := by
  have h := k.isLt
  intro a
  fin_cases a
  · show 0 + 1 ≤ 1; omega
  · show 256 * k.val + 256 ≤ 1024; omega

/-- The hidden values of the `k`-th quarter of the step's tile. -/
def gChunk (x0 : Vec F S512x4096 .fp8e4m3) (x1 : Vec F S512x1 .f32) (x2 x3 : Vec F S4096x1024 .fp8e4m3) (x4 x5 x6 : Vec F S1x1024 .f32) (k : Fin 4) : FVec F S512x256 .f32 :=
  k1_pay13 (k1_pay5 x0) (k1_pay6 x1)
    (VecWindow.window x2 ![0, 256 * k.val] S4096x256.size (gW_inb k)) (VecWindow.window x3 ![0, 256 * k.val] S4096x256.size (gW_inb k))
    (VecWindow.window x4 ![0, 256 * k.val] S1x256.size (gR_inb k)) (VecWindow.window x5 ![0, 256 * k.val] S1x256.size (gR_inb k))
    (VecWindow.window x6 ![0, 256 * k.val] S1x256.size (gR_inb k))

/-- The hidden rows with the `k`-th quarter of the step's tile replaced. -/
def gPut (i : grid1.Coords) (H : Vec F S512x12288 .f32) (k : Fin 4) (w : FVec F S512x256 .f32) : Vec F S512x12288 .f32 :=
  VecWindow.put (s := S512x12288) H ![0, 1024 * (i 1).val + 256 * k.val] S512x256.size (k1_pay14 w)

/-- The hidden rows after a step that fills its tile. -/
def gH (i : grid1.Coords) (x0 : Vec F S512x4096 .fp8e4m3) (x1 : Vec F S512x1 .f32) (x2 x3 : Vec F S4096x1024 .fp8e4m3) (x4 x5 x6 : Vec F S1x1024 .f32) (H : Vec F S512x12288 .f32) : Vec F S512x12288 .f32 :=
  gPut i (gPut i (gPut i (gPut i H 0 (gChunk x0 x1 x2 x3 x4 x5 x6 0)) 1 (gChunk x0 x1 x2 x3 x4 x5 x6 1)) 2 (gChunk x0 x1 x2 x3 x4 x5 x6 2)) 3 (gChunk x0 x1 x2 x3 x4 x5 x6 3)

/-- The hidden rows with the step's tile cleared. -/
def gZero (i : grid1.Coords) (H : Vec F S512x12288 .f32) : Vec F S512x12288 .f32 :=
  VecWindow.put (s := S512x12288) H ![0, 1024 * (i 1).val] S512x1024.size (k1_pay21 (F := F))

/-- Lane maxima raised by the absolute values of a quarter tile, its two halves folded onto the lanes. -/
def gMax (p : FVec F S512x128 .f32) (w : FVec F S512x256 .f32) : FVec F S512x128 .f32 :=
  maximumf (maximumf p (extractStridedSlice S512x128 ![0, 0] (absf w) slices_S512x256_o0_0_S512x128)) (extractStridedSlice S512x128 ![0, 128] (absf w) slices_S512x256_o0_128_S512x128)

/-- The lane maxima after a step that fills its tile. -/
def gA (i : grid1.Coords) (x0 : Vec F S512x4096 .fp8e4m3) (x1 : Vec F S512x1 .f32) (x2 x3 : Vec F S4096x1024 .fp8e4m3) (x4 x5 x6 : Vec F S1x1024 .f32) (A : Vec F S512x128 .f32) : FVec F S512x128 .f32 :=
  shapeCast S512x128
    (gMax (gMax (gMax (gMax (k1_pay7 (Scalar.cmpi .eq (BitVec.ofNat 32 (i 1).val) 0#32) A) (gChunk x0 x1 x2 x3 x4 x5 x6 0)) (gChunk x0 x1 x2 x3 x4 x5 x6 1)) (gChunk x0 x1 x2 x3 x4 x5 x6 2)) (gChunk x0 x1 x2 x3 x4 x5 x6 3))
    shapeCasts_S512x128_S512x128

/-- The finished maxima a step leaves. -/
def gP (i : grid1.Coords) (A P : Vec F S512x128 .f32) : FVec F S512x128 .f32 := k1_pay25 i A P

end Cert.Kernel.Gen

end
-- ==== Proof.Word.GateState.lean ====
module

public import proofs.«01_k».proof.Proof.Gen.Kernel.Skeleton
public import proofs.«01_k».proof.Proof.Gen.Kernel.Launch
public import proofs.«01_k».proof.Proof.Gen.Kernel.Points
public import proofs.«01_k».proof.Proof.Gen.Kernel.Regions
public import proofs.«01_k».proof.Proof.Word.GateStep
public import Idealize.ShloMosaic.Lib.WordCmp
public import Idealize.ShloMosaic.Lib.Pipeline.FrameBody
public import Idealize.ShloMosaic.Lib.Ring
public import Idealize.ShloMosaic.Lib.Tactic
public import Idealize.ShloMosaic.Lib.VecWindow

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The steps' conditions, as bounds on the point -/

/-- The first row block is the first twelve points. -/
theorem cond1_0_iff : ∀ t : Fin cfg1.N, cond1_0 (grid1.coords t) ↔ t.val < 12 :=
  (fun t => by
    have ht : t.val < 204 := Nat.lt_of_lt_of_eq t.isLt N_1
    have e0 : (grid1.coords t 0).val = t.val / 12 % 17 := Pipeline.Grid.coords_val t 0 (by decide) rfl
    have e1 : (grid1.coords t 1).val = t.val / 1 % 12 := Pipeline.Grid.coords_val t 1 (by decide) rfl
    simp only [cond1_0, k1_cond1, e0, e1]
    word_cmp
   : ∀ t : Fin grid1.N, cond1_0 (grid1.coords t) ↔ t.val < 12)
/-- The first step of a row block. -/
theorem cond1_1_iff : ∀ t : Fin cfg1.N, cond1_1 (grid1.coords t) ↔ t.val % 12 = 0 :=
  (fun t => by
    have ht : t.val < 204 := Nat.lt_of_lt_of_eq t.isLt N_1
    have e0 : (grid1.coords t 0).val = t.val / 12 % 17 := Pipeline.Grid.coords_val t 0 (by decide) rfl
    have e1 : (grid1.coords t 1).val = t.val / 1 % 12 := Pipeline.Grid.coords_val t 1 (by decide) rfl
    simp only [cond1_1, e0, e1]
    word_cmp
   : ∀ t : Fin grid1.N, cond1_1 (grid1.coords t) ↔ t.val % 12 = 0)
/-- The steps past the last row block. -/
theorem cond1_2_iff : ∀ t : Fin cfg1.N, cond1_2 (grid1.coords t) ↔ 192 ≤ t.val :=
  (fun t => by
    have ht : t.val < 204 := Nat.lt_of_lt_of_eq t.isLt N_1
    have e0 : (grid1.coords t 0).val = t.val / 12 % 17 := Pipeline.Grid.coords_val t 0 (by decide) rfl
    have e1 : (grid1.coords t 1).val = t.val / 1 % 12 := Pipeline.Grid.coords_val t 1 (by decide) rfl
    simp only [cond1_2, k1_cond3, e0, e1]
    word_cmp
   : ∀ t : Fin grid1.N, cond1_2 (grid1.coords t) ↔ 192 ≤ t.val)
/-- The steps of a row block to be filled. -/
theorem cond1_3_iff : ∀ t : Fin cfg1.N, cond1_3 (grid1.coords t) ↔ t.val < 192 :=
  (by decide +kernel : ∀ t : Fin grid1.N, cond1_3 (grid1.coords t) ↔ t.val < 192)
/-- The column tile of a step. -/
theorem coord1_1 : ∀ t : Fin cfg1.N, (grid1.coords t 1).val = t.val % 12 :=
  (fun t => by
    have e1 : (grid1.coords t 1).val = t.val / 1 % 12 := Pipeline.Grid.coords_val t 1 (by decide) rfl
    rw [e1, Nat.div_one] : ∀ t : Fin grid1.N, (grid1.coords t 1).val = t.val % 12)
/-- The row block of a step. -/
theorem coord1_0 : ∀ t : Fin cfg1.N, (grid1.coords t 0).val = t.val / 12 % 17 :=
  (fun t => Pipeline.Grid.coords_val t 0 (by decide) rfl : ∀ t : Fin grid1.N, (grid1.coords t 0).val = t.val / 12 % 17)

/-! ## The carried state, point by point -/

variable (V : (c : Dev nD) → (b : Ref sig .tc) → Buf (Elt F) ((c : Thread nD τ).loc b))

/-- The block a window stages at a point, from the contents the region finds. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the body carries between points: the hidden rows, the running lane maxima and the finished ones. -/
abbrev GState (F : FTy → Type) : Type := Vec F S512x12288 .f32 × Vec F S512x128 .f32 × Vec F S512x128 .f32

/-- The hidden rows after a point. -/
def stepH (c : Dev nD) (t : Fin cfg1.N) (H : Vec F S512x12288 .f32) : Vec F S512x12288 .f32 :=
  if t.val < 192 then gH (grid1.coords t) (blk1 V c 0 t) (blk1 V c 1 t) (blk1 V c 2 t) (blk1 V c 3 t) (blk1 V c 4 t) (blk1 V c 5 t) (blk1 V c 6 t) (if t.val < 12 then gZero (grid1.coords t) H else H) else H
/-- The running lane maxima after a point. -/
def stepA (c : Dev nD) (t : Fin cfg1.N) (A : Vec F S512x128 .f32) : Vec F S512x128 .f32 :=
  if t.val < 192 then gA (grid1.coords t) (blk1 V c 0 t) (blk1 V c 1 t) (blk1 V c 2 t) (blk1 V c 3 t) (blk1 V c 4 t) (blk1 V c 5 t) (blk1 V c 6 t) A else A
/-- The state after a point. -/
def gStep (c : Dev nD) (t : Fin cfg1.N) (s : GState F) : GState F :=
  (stepH V c t s.1, stepA V c t s.2.1, gP (grid1.coords t) s.2.1 s.2.2)
/-- The state before the first point, as the first point's clearing makes it. -/
def gInit : GState F := (fun _ => (k1_pay21 (F := F)) (fun a => ⟨0, by fin_cases a <;> decide⟩), k1_pay22 (F := F), k1_pay23 (F := F))
/-- The state before the `n`-th point. -/
def gSt (c : Dev nD) : ℕ → GState F
  | 0 => gInit
  | n + 1 => if h : n < cfg1.N then gStep V c ⟨n, h⟩ (gSt c n) else gSt c n

/-- One more point is one more step. -/
theorem gSt_succ (c : Dev nD) (t : Fin cfg1.N) : gSt V c (t.val + 1) = gStep V c t (gSt V c t.val) := by
  simp only [gSt, dif_pos t.isLt]

/-- The tile a step writes out: cleared in the first row block, else carried from the block before. -/
def outT (t : Fin cfg1.N) (H : Vec F S512x12288 .f32) : Vec F S512x1024 .f32 :=
  if t.val < 12 then k1_pay21 (F := F) else gTile (grid1.coords t) H
/-- The codes a point writes. -/
def outQ (c : Dev nD) (t : Fin cfg1.N) : Vec F S512x1024 .fp8e4m3 :=
  gHq (grid1.coords t) (gSt V c t.val).2.1 (gSt V c t.val).2.2 (outT t (gSt V c t.val).1)
/-- The scales a point writes. -/
def outS (c : Dev nD) (t : Fin cfg1.N) : Vec F S512x1 .f32 :=
  gSh (grid1.coords t) (gSt V c t.val).2.1 (gSt V c t.val).2.2

/-! ## Agreement of the hidden rows with the stated ones

    Before the first row block is filled, the columns past the filled tiles hold anything. -/

/-- `H` and `H'` agree on the columns the first `n` points have filled. -/
def Agree (n : ℕ) (H H' : Vec F S512x12288 .f32) : Prop := ∀ y : S512x12288.Idx, 12 ≤ n ∨ (y 1).val < 1024 * n → H y = H' y

/-- From the twelfth point on they are equal. -/
theorem Agree.eq {n : ℕ} {H H' : Vec F S512x12288 .f32} (h : Agree n H H') (hn : 12 ≤ n) : H = H' :=
  funext fun y => h y (.inl hn)
/-- Equal rows agree. -/
theorem Agree.refl (n : ℕ) (H : Vec F S512x12288 .f32) : Agree n H H := fun _ _ => rfl
/-- Nothing is asked before the first point. -/
theorem Agree.zero (H H' : Vec F S512x12288 .f32) : Agree 0 H H' := fun y h => by omega
/-- A window put into rows that agree at a point leaves them agreeing there. -/
theorem gPut_at (i : grid1.Coords) {H H' : Vec F S512x12288 .f32} (k : Fin 4) (w : FVec F S512x256 .f32) (y : S512x12288.Idx) (h : H y = H' y) :
    gPut i H k w y = gPut i H' k w y := by
  unfold gPut VecWindow.put
  split
  · rfl
  · exact h
/-- The step's tile cleared, the rows agree on it and wherever they did. -/
theorem gZero_at (i : grid1.Coords) {H H' : Vec F S512x12288 .f32} (y : S512x12288.Idx)
    (h : H y = H' y ∨ (1024 * (i 1).val ≤ (y 1).val ∧ (y 1).val < 1024 * (i 1).val + 1024)) :
    gZero i H y = gZero i H' y := by
  unfold gZero VecWindow.put
  split
  · rfl
  · rename_i hn
    rcases h with h | h
    · exact h
    · refine absurd (fun a => ?_) hn
      have h0 : (y 0).val < 512 := (y 0).isLt
      fin_cases a
      · show 0 ≤ (y 0).val ∧ (y 0).val < 0 + 512; omega
      · exact h
/-- A step of the first row block extends the agreement by its tile. -/
theorem Agree.step_first (c : Dev nD) (t : Fin cfg1.N) (ht : t.val < 12) {H H' : Vec F S512x12288 .f32} (h : Agree t.val H H') :
    Agree (t.val + 1) (gH (grid1.coords t) (blk1 V c 0 t) (blk1 V c 1 t) (blk1 V c 2 t) (blk1 V c 3 t) (blk1 V c 4 t) (blk1 V c 5 t) (blk1 V c 6 t) (gZero (grid1.coords t) H)) (stepH V c t H') := by
  intro y hy
  unfold stepH
  rw [if_pos (by omega : t.val < 192), if_pos ht]
  have e1 : (grid1.coords t 1).val = t.val := by rw [coord1_1]; omega
  have hz : gZero (grid1.coords t) H y = gZero (grid1.coords t) H' y := by
    refine gZero_at _ y ?_
    have hy1 : (y 1).val < 12288 := (y 1).isLt
    by_cases hc : (y 1).val < 1024 * t.val
    · exact .inl (h y (.inr hc))
    · right; rw [e1]; omega
  exact gPut_at _ _ _ y (gPut_at _ _ _ y (gPut_at _ _ _ y (gPut_at _ _ _ y hz)))

end Cert.Kernel.Gen

end
-- ==== Proof.Word.GateRunA.lean ====
module

public import proofs.«01_k».proof.Proof.Word.GateStep

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The first grid step of the fused gate/up kernel: it clears its column tile of the carried hidden rows and both carried row maxima, and then runs as any step does. Stated as a triple: from the seven input blocks, any contents of the two output blocks and the three
    scratch buffers at `H`, `A` and `P`, the body leaves the values the step's closed forms name. -/
theorem gate_run_A (c : Dev nD) (i : grid1.Coords) (arg2 : Memref sig .tc .vmem S512x4096 .fp8e4m3) (harg2 : arg2.IsWhole) (arg3 : Memref sig .tc .vmem S512x1 .f32) (harg3 : arg3.IsWhole) (arg4 : Memref sig .tc .vmem S4096x1024 .fp8e4m3) (harg4 : arg4.IsWhole) (arg5 : Memref sig .tc .vmem S4096x1024 .fp8e4m3) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .fp8e4m3) (harg9 : arg9.IsWhole) (arg10 : Memref sig .tc .vmem S512x1 .f32) (harg10 : arg10.IsWhole) (arg11 : Memref sig .tc .vmem S512x12288 .f32) (harg11 : arg11.IsWhole) (arg12 : Memref sig .tc .vmem S512x128 .f32) (harg12 : arg12.IsWhole) (arg13 : Memref sig .tc .vmem S512x128 .f32) (harg13 : arg13.IsWhole) (hc0 : cond1_0 i) (hc1 : cond1_1 i) (hc2 : ¬cond1_2 i) (hc3 : cond1_3 i)
    (x0 : Vec F S512x4096 .fp8e4m3) (x1 : Vec F S512x1 .f32) (x2 : Vec F S4096x1024 .fp8e4m3) (x3 : Vec F S4096x1024 .fp8e4m3) (x4 : Vec F S1x1024 .f32) (x5 : Vec F S1x1024 .f32) (x6 : Vec F S1x1024 .f32) (H : Vec F S512x12288 .f32) (A P : Vec F S512x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ owns (c : Thread nD τ) arg11 fullShare H ∗ owns (c : Thread nD τ) arg12 fullShare A ∗ owns (c : Thread nD τ) arg13 fullShare P
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (gHq i (k1_pay22 (F := F)) (k1_pay23 (F := F)) (k1_pay21 (F := F))) ∗ owns (c : Thread nD τ) arg10 fullShare (gSh i (k1_pay22 (F := F)) (k1_pay23 (F := F))) ∗ owns (c : Thread nD τ) arg11 fullShare (gH i x0 x1 x2 x3 x4 x5 x6 (gZero i H)) ∗ owns (c : Thread nD τ) arg12 fullShare (gA i x0 x1 x2 x3 x4 x5 x6 (k1_pay22 (F := F))) ∗ owns (c : Thread nD τ) arg13 fullShare (gP i (k1_pay22 (F := F)) (k1_pay23 (F := F)))) -∗ K ⟨⟩))
      ⊢ wp frame (wpE (defs₀ (F := F)) Variants.none c none) E (cc1_gate_up i arg2 harg2 arg3 harg3 arg4 harg4 arg5 harg5 arg6 harg6 arg7 harg7 arg8 harg8 arg9 harg9 arg10 harg10 arg11 harg11 arg12 harg12 arg13 harg13) K := by
  simp only [cc1_gate_up_eq_skeleton]; unfold cc1_gate_up_skel
  simp only [k1_part4_eq_skeleton, k1_part5_eq_skeleton, k1_part6_eq_skeleton, k1_part7_eq_skeleton, k1_part1_eq_skeleton, k1_part2_eq_skeleton, k1_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs0, %hfs0, HS0⟩, ⟨%fs1, %hfs1, HS1⟩, ⟨%fs2, %hfs2, HS2⟩, Hk⟩
  subst hf0 hf1 hf2 hf3 hf4 hf5 hf6 hfs0 hfs1 hfs2
  sl_exec (disch := first | sl_exact hc0 | sl_exact hc1 | sl_exact hc2 | sl_exact hc3)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; swap; · iexact H7
    ipureintro
    refine (View.read_writes_full _ _ _ _ _).trans ?_
    (try delta gate_run_A.sl.r_16); (try delta gate_run_A.sl.r_15); (try delta gate_run_A.sl.r_14); (try delta gate_run_A.sl.r_13); (try delta gate_run_A.sl.r_12); (try delta gate_run_A.sl.r_11); (try delta gate_run_A.sl.r_10); (try delta gate_run_A.sl.r_9); (try delta gate_run_A.sl.r_8); (try delta gate_run_A.sl.r_7); (try delta gate_run_A.sl.r_6); (try delta gate_run_A.sl.r_5); (try delta gate_run_A.sl.r_4); (try delta gate_run_A.sl.r_3); (try delta gate_run_A.sl.r_2); (try delta gate_run_A.sl.r_1); (try delta gate_run_A.sl.r); (try delta gate_run_A.sl.v6); (try delta gate_run_A.sl.v7); (try delta gate_run_A.sl.v154); (try delta gate_run_A.sl.HS0_1); (try delta gate_run_A.sl.HS1_1); (try delta gate_run_A.sl.HS2_1); (try delta View.readCov)
    rw [View.readAt_writes_full (Val := Elt F) arg12.view arg12.view.junk inb_S512x128_S512x128_0_0 inb_S512x128_S512x128_0_0 (k1_pay22 (F := F)) [], View.readAt_writes_full (Val := Elt F) arg13.view arg13.view.junk inb_S512x128_S512x128_0_0 inb_S512x128_S512x128_0_0 (k1_pay23 (F := F)) []]
    rw [View.readAt_unit arg11.view _ _ (k1_off3_eq i) (gTile_inb i), View.read_writes_cons_put _ _ _ _ _ (k1_off1_eq i), VecWindow.window_put_same]
    rfl
  isplitl [H8]
  · iexists _; isplitr; swap; · iexact H8
    ipureintro
    refine (View.read_writes_full _ _ _ _ _).trans ?_
    (try delta gate_run_A.sl.r_16); (try delta gate_run_A.sl.r_15); (try delta gate_run_A.sl.r_14); (try delta gate_run_A.sl.r_13); (try delta gate_run_A.sl.r_12); (try delta gate_run_A.sl.r_11); (try delta gate_run_A.sl.r_10); (try delta gate_run_A.sl.r_9); (try delta gate_run_A.sl.r_8); (try delta gate_run_A.sl.r_7); (try delta gate_run_A.sl.r_6); (try delta gate_run_A.sl.r_5); (try delta gate_run_A.sl.r_4); (try delta gate_run_A.sl.r_3); (try delta gate_run_A.sl.r_2); (try delta gate_run_A.sl.r_1); (try delta gate_run_A.sl.r); (try delta gate_run_A.sl.v6); (try delta gate_run_A.sl.v7); (try delta gate_run_A.sl.v154); (try delta gate_run_A.sl.HS0_1); (try delta gate_run_A.sl.HS1_1); (try delta gate_run_A.sl.HS2_1); (try delta View.readCov)
    rw [View.readAt_writes_full (Val := Elt F) arg12.view arg12.view.junk inb_S512x128_S512x128_0_0 inb_S512x128_S512x128_0_0 (k1_pay22 (F := F)) [], View.readAt_writes_full (Val := Elt F) arg13.view arg13.view.junk inb_S512x128_S512x128_0_0 inb_S512x128_S512x128_0_0 (k1_pay23 (F := F)) []]
    rfl
  isplitl [HS0]
  · iexists _; isplitr; swap; · iexact HS0
    ipureintro
    (try delta gate_run_A.sl.r_16); (try delta gate_run_A.sl.r_15); (try delta gate_run_A.sl.r_14); (try delta gate_run_A.sl.r_13); (try delta gate_run_A.sl.r_12); (try delta gate_run_A.sl.r_11); (try delta gate_run_A.sl.r_10); (try delta gate_run_A.sl.r_9); (try delta gate_run_A.sl.r_8); (try delta gate_run_A.sl.r_7); (try delta gate_run_A.sl.r_6); (try delta gate_run_A.sl.r_5); (try delta gate_run_A.sl.r_4); (try delta gate_run_A.sl.r_3); (try delta gate_run_A.sl.r_2); (try delta gate_run_A.sl.r_1); (try delta gate_run_A.sl.r); (try delta gate_run_A.sl.v6); (try delta gate_run_A.sl.v7); (try delta gate_run_A.sl.v154); (try delta gate_run_A.sl.HS0_1); (try delta gate_run_A.sl.HS1_1); (try delta gate_run_A.sl.HS2_1); (try delta View.readCov)
    rw [View.readAt_full arg2.view f0 inb_S512x4096_S512x4096_0_0, View.readAt_full arg3.view f1 inb_S512x1_S512x1_0_0]
    rw [View.read_writes_cons_put arg11.view _ _ _ _ (show k1_off4 i 768#32 = _ from k1_off4_eq i 3), View.read_writes_cons_put arg11.view _ _ _ _ (show k1_off4 i 512#32 = _ from k1_off4_eq i 2), View.read_writes_cons_put arg11.view _ _ _ _ (show k1_off4 i 256#32 = _ from k1_off4_eq i 1), View.read_writes_cons_put arg11.view _ _ _ _ (show k1_off4 i 0#32 = _ from k1_off4_eq i 0), View.read_writes_cons_put _ _ _ _ _ (k1_off1_eq i), View.writes_nil]
    rfl
  isplitl [HS1]
  · iexists _; isplitr; swap; · iexact HS1
    ipureintro
    refine (View.read_writes_full _ _ _ _ _).trans ?_
    (try delta gate_run_A.sl.r_16); (try delta gate_run_A.sl.r_15); (try delta gate_run_A.sl.r_14); (try delta gate_run_A.sl.r_13); (try delta gate_run_A.sl.r_12); (try delta gate_run_A.sl.r_11); (try delta gate_run_A.sl.r_10); (try delta gate_run_A.sl.r_9); (try delta gate_run_A.sl.r_8); (try delta gate_run_A.sl.r_7); (try delta gate_run_A.sl.r_6); (try delta gate_run_A.sl.r_5); (try delta gate_run_A.sl.r_4); (try delta gate_run_A.sl.r_3); (try delta gate_run_A.sl.r_2); (try delta gate_run_A.sl.r_1); (try delta gate_run_A.sl.r); (try delta gate_run_A.sl.v6); (try delta gate_run_A.sl.v7); (try delta gate_run_A.sl.v154); (try delta gate_run_A.sl.HS0_1); (try delta gate_run_A.sl.HS1_1); (try delta gate_run_A.sl.HS2_1); (try delta View.readCov)
    rw [View.readAt_full arg2.view f0 inb_S512x4096_S512x4096_0_0, View.readAt_full arg3.view f1 inb_S512x1_S512x1_0_0, View.readAt_writes_full (Val := Elt F) arg12.view arg12.view.junk inb_S512x128_S512x128_0_0 inb_S512x128_S512x128_0_0 (k1_pay22 (F := F)) []]
    rfl
  iexists _; isplitr; swap; · iexact HS2
  ipureintro
  refine (View.read_writes_full _ _ _ _ _).trans ?_
  (try delta gate_run_A.sl.r_16); (try delta gate_run_A.sl.r_15); (try delta gate_run_A.sl.r_14); (try delta gate_run_A.sl.r_13); (try delta gate_run_A.sl.r_12); (try delta gate_run_A.sl.r_11); (try delta gate_run_A.sl.r_10); (try delta gate_run_A.sl.r_9); (try delta gate_run_A.sl.r_8); (try delta gate_run_A.sl.r_7); (try delta gate_run_A.sl.r_6); (try delta gate_run_A.sl.r_5); (try delta gate_run_A.sl.r_4); (try delta gate_run_A.sl.r_3); (try delta gate_run_A.sl.r_2); (try delta gate_run_A.sl.r_1); (try delta gate_run_A.sl.r); (try delta gate_run_A.sl.v6); (try delta gate_run_A.sl.v7); (try delta gate_run_A.sl.v154); (try delta gate_run_A.sl.HS0_1); (try delta gate_run_A.sl.HS1_1); (try delta gate_run_A.sl.HS2_1); (try delta View.readCov)
  rw [View.readAt_writes_full (Val := Elt F) arg12.view arg12.view.junk inb_S512x128_S512x128_0_0 inb_S512x128_S512x128_0_0 (k1_pay22 (F := F)) [], View.readAt_writes_full (Val := Elt F) arg13.view arg13.view.junk inb_S512x128_S512x128_0_0 inb_S512x128_S512x128_0_0 (k1_pay23 (F := F)) []]
  rfl

end Cert.Kernel.Gen

end
-- ==== Proof.Word.GateRunB.lean ====
module

public import proofs.«01_k».proof.Proof.Word.GateStep

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The other steps of the first row block: each clears its own column tile before reading it. Stated as a triple: from the seven input blocks, any contents of the two output blocks and the three
    scratch buffers at `H`, `A` and `P`, the body leaves the values the step's closed forms name. -/
theorem gate_run_B (c : Dev nD) (i : grid1.Coords) (arg2 : Memref sig .tc .vmem S512x4096 .fp8e4m3) (harg2 : arg2.IsWhole) (arg3 : Memref sig .tc .vmem S512x1 .f32) (harg3 : arg3.IsWhole) (arg4 : Memref sig .tc .vmem S4096x1024 .fp8e4m3) (harg4 : arg4.IsWhole) (arg5 : Memref sig .tc .vmem S4096x1024 .fp8e4m3) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .fp8e4m3) (harg9 : arg9.IsWhole) (arg10 : Memref sig .tc .vmem S512x1 .f32) (harg10 : arg10.IsWhole) (arg11 : Memref sig .tc .vmem S512x12288 .f32) (harg11 : arg11.IsWhole) (arg12 : Memref sig .tc .vmem S512x128 .f32) (harg12 : arg12.IsWhole) (arg13 : Memref sig .tc .vmem S512x128 .f32) (harg13 : arg13.IsWhole) (hc0 : cond1_0 i) (hc1 : ¬cond1_1 i) (hc2 : ¬cond1_2 i) (hc3 : cond1_3 i)
    (x0 : Vec F S512x4096 .fp8e4m3) (x1 : Vec F S512x1 .f32) (x2 : Vec F S4096x1024 .fp8e4m3) (x3 : Vec F S4096x1024 .fp8e4m3) (x4 : Vec F S1x1024 .f32) (x5 : Vec F S1x1024 .f32) (x6 : Vec F S1x1024 .f32) (H : Vec F S512x12288 .f32) (A P : Vec F S512x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ owns (c : Thread nD τ) arg11 fullShare H ∗ owns (c : Thread nD τ) arg12 fullShare A ∗ owns (c : Thread nD τ) arg13 fullShare P
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (gHq i A P (k1_pay21 (F := F))) ∗ owns (c : Thread nD τ) arg10 fullShare (gSh i A P) ∗ owns (c : Thread nD τ) arg11 fullShare (gH i x0 x1 x2 x3 x4 x5 x6 (gZero i H)) ∗ owns (c : Thread nD τ) arg12 fullShare (gA i x0 x1 x2 x3 x4 x5 x6 A) ∗ owns (c : Thread nD τ) arg13 fullShare (gP i A P)) -∗ K ⟨⟩))
      ⊢ wp frame (wpE (defs₀ (F := F)) Variants.none c none) E (cc1_gate_up i arg2 harg2 arg3 harg3 arg4 harg4 arg5 harg5 arg6 harg6 arg7 harg7 arg8 harg8 arg9 harg9 arg10 harg10 arg11 harg11 arg12 harg12 arg13 harg13) K := by
  simp only [cc1_gate_up_eq_skeleton]; unfold cc1_gate_up_skel
  simp only [k1_part4_eq_skeleton, k1_part5_eq_skeleton, k1_part6_eq_skeleton, k1_part7_eq_skeleton, k1_part1_eq_skeleton, k1_part2_eq_skeleton, k1_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs0, %hfs0, HS0⟩, ⟨%fs1, %hfs1, HS1⟩, ⟨%fs2, %hfs2, HS2⟩, Hk⟩
  subst hf0 hf1 hf2 hf3 hf4 hf5 hf6 hfs0 hfs1 hfs2
  sl_exec (disch := first | sl_exact hc0 | sl_exact hc1 | sl_exact hc2 | sl_exact hc3)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; swap; · iexact H7
    ipureintro
    refine (View.read_writes_full _ _ _ _ _).trans ?_
    (try delta gate_run_B.sl.r_17); (try delta gate_run_B.sl.r_16); (try delta gate_run_B.sl.r_15); (try delta gate_run_B.sl.r_14); (try delta gate_run_B.sl.r_13); (try delta gate_run_B.sl.r_12); (try delta gate_run_B.sl.r_11); (try delta gate_run_B.sl.r_10); (try delta gate_run_B.sl.r_9); (try delta gate_run_B.sl.r_8); (try delta gate_run_B.sl.r_7); (try delta gate_run_B.sl.r_6); (try delta gate_run_B.sl.r_5); (try delta gate_run_B.sl.r_4); (try delta gate_run_B.sl.r_3); (try delta gate_run_B.sl.r_2); (try delta gate_run_B.sl.r_1); (try delta gate_run_B.sl.r); (try delta gate_run_B.sl.v154); (try delta gate_run_B.sl.HS0_1); (try delta gate_run_B.sl.HS1_1); (try delta gate_run_B.sl.HS2_1); (try delta View.readCov)
    rw [View.readAt_full arg12.view fs1 inb_S512x128_S512x128_0_0, View.readAt_full arg13.view fs2 inb_S512x128_S512x128_0_0]
    rw [View.readAt_unit arg11.view _ _ (k1_off3_eq i) (gTile_inb i), View.read_writes_cons_put _ _ _ _ _ (k1_off1_eq i), VecWindow.window_put_same]
    rfl
  isplitl [H8]
  · iexists _; isplitr; swap; · iexact H8
    ipureintro
    refine (View.read_writes_full _ _ _ _ _).trans ?_
    (try delta gate_run_B.sl.r_17); (try delta gate_run_B.sl.r_16); (try delta gate_run_B.sl.r_15); (try delta gate_run_B.sl.r_14); (try delta gate_run_B.sl.r_13); (try delta gate_run_B.sl.r_12); (try delta gate_run_B.sl.r_11); (try delta gate_run_B.sl.r_10); (try delta gate_run_B.sl.r_9); (try delta gate_run_B.sl.r_8); (try delta gate_run_B.sl.r_7); (try delta gate_run_B.sl.r_6); (try delta gate_run_B.sl.r_5); (try delta gate_run_B.sl.r_4); (try delta gate_run_B.sl.r_3); (try delta gate_run_B.sl.r_2); (try delta gate_run_B.sl.r_1); (try delta gate_run_B.sl.r); (try delta gate_run_B.sl.v154); (try delta gate_run_B.sl.HS0_1); (try delta gate_run_B.sl.HS1_1); (try delta gate_run_B.sl.HS2_1); (try delta View.readCov)
    rw [View.readAt_full arg12.view fs1 inb_S512x128_S512x128_0_0, View.readAt_full arg13.view fs2 inb_S512x128_S512x128_0_0]
    rfl
  isplitl [HS0]
  · iexists _; isplitr; swap; · iexact HS0
    ipureintro
    (try delta gate_run_B.sl.r_17); (try delta gate_run_B.sl.r_16); (try delta gate_run_B.sl.r_15); (try delta gate_run_B.sl.r_14); (try delta gate_run_B.sl.r_13); (try delta gate_run_B.sl.r_12); (try delta gate_run_B.sl.r_11); (try delta gate_run_B.sl.r_10); (try delta gate_run_B.sl.r_9); (try delta gate_run_B.sl.r_8); (try delta gate_run_B.sl.r_7); (try delta gate_run_B.sl.r_6); (try delta gate_run_B.sl.r_5); (try delta gate_run_B.sl.r_4); (try delta gate_run_B.sl.r_3); (try delta gate_run_B.sl.r_2); (try delta gate_run_B.sl.r_1); (try delta gate_run_B.sl.r); (try delta gate_run_B.sl.v154); (try delta gate_run_B.sl.HS0_1); (try delta gate_run_B.sl.HS1_1); (try delta gate_run_B.sl.HS2_1); (try delta View.readCov)
    rw [View.readAt_full arg2.view f0 inb_S512x4096_S512x4096_0_0, View.readAt_full arg3.view f1 inb_S512x1_S512x1_0_0]
    rw [View.read_writes_cons_put arg11.view _ _ _ _ (show k1_off4 i 768#32 = _ from k1_off4_eq i 3), View.read_writes_cons_put arg11.view _ _ _ _ (show k1_off4 i 512#32 = _ from k1_off4_eq i 2), View.read_writes_cons_put arg11.view _ _ _ _ (show k1_off4 i 256#32 = _ from k1_off4_eq i 1), View.read_writes_cons_put arg11.view _ _ _ _ (show k1_off4 i 0#32 = _ from k1_off4_eq i 0), View.read_writes_cons_put _ _ _ _ _ (k1_off1_eq i), View.writes_nil]
    rfl
  isplitl [HS1]
  · iexists _; isplitr; swap; · iexact HS1
    ipureintro
    refine (View.read_writes_full _ _ _ _ _).trans ?_
    (try delta gate_run_B.sl.r_17); (try delta gate_run_B.sl.r_16); (try delta gate_run_B.sl.r_15); (try delta gate_run_B.sl.r_14); (try delta gate_run_B.sl.r_13); (try delta gate_run_B.sl.r_12); (try delta gate_run_B.sl.r_11); (try delta gate_run_B.sl.r_10); (try delta gate_run_B.sl.r_9); (try delta gate_run_B.sl.r_8); (try delta gate_run_B.sl.r_7); (try delta gate_run_B.sl.r_6); (try delta gate_run_B.sl.r_5); (try delta gate_run_B.sl.r_4); (try delta gate_run_B.sl.r_3); (try delta gate_run_B.sl.r_2); (try delta gate_run_B.sl.r_1); (try delta gate_run_B.sl.r); (try delta gate_run_B.sl.v154); (try delta gate_run_B.sl.HS0_1); (try delta gate_run_B.sl.HS1_1); (try delta gate_run_B.sl.HS2_1); (try delta View.readCov)
    rw [View.readAt_full arg2.view f0 inb_S512x4096_S512x4096_0_0, View.readAt_full arg3.view f1 inb_S512x1_S512x1_0_0, View.readAt_full arg12.view fs1 inb_S512x128_S512x128_0_0]
    rfl
  iexists _; isplitr; swap; · iexact HS2
  ipureintro
  refine (View.read_writes_full _ _ _ _ _).trans ?_
  (try delta gate_run_B.sl.r_17); (try delta gate_run_B.sl.r_16); (try delta gate_run_B.sl.r_15); (try delta gate_run_B.sl.r_14); (try delta gate_run_B.sl.r_13); (try delta gate_run_B.sl.r_12); (try delta gate_run_B.sl.r_11); (try delta gate_run_B.sl.r_10); (try delta gate_run_B.sl.r_9); (try delta gate_run_B.sl.r_8); (try delta gate_run_B.sl.r_7); (try delta gate_run_B.sl.r_6); (try delta gate_run_B.sl.r_5); (try delta gate_run_B.sl.r_4); (try delta gate_run_B.sl.r_3); (try delta gate_run_B.sl.r_2); (try delta gate_run_B.sl.r_1); (try delta gate_run_B.sl.r); (try delta gate_run_B.sl.v154); (try delta gate_run_B.sl.HS0_1); (try delta gate_run_B.sl.HS1_1); (try delta gate_run_B.sl.HS2_1); (try delta View.readCov)
  rw [View.readAt_full arg12.view fs1 inb_S512x128_S512x128_0_0, View.readAt_full arg13.view fs2 inb_S512x128_S512x128_0_0]
  rfl

end Cert.Kernel.Gen

end
-- ==== Proof.Word.GateRunC.lean ====
module

public import proofs.«01_k».proof.Proof.Word.GateStep

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- A step of a later row block: it writes out the tile carried from the block before, then fills the tile with this block's hidden values. Stated as a triple: from the seven input blocks, any contents of the two output blocks and the three
    scratch buffers at `H`, `A` and `P`, the body leaves the values the step's closed forms name. -/
theorem gate_run_C (c : Dev nD) (i : grid1.Coords) (arg2 : Memref sig .tc .vmem S512x4096 .fp8e4m3) (harg2 : arg2.IsWhole) (arg3 : Memref sig .tc .vmem S512x1 .f32) (harg3 : arg3.IsWhole) (arg4 : Memref sig .tc .vmem S4096x1024 .fp8e4m3) (harg4 : arg4.IsWhole) (arg5 : Memref sig .tc .vmem S4096x1024 .fp8e4m3) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .fp8e4m3) (harg9 : arg9.IsWhole) (arg10 : Memref sig .tc .vmem S512x1 .f32) (harg10 : arg10.IsWhole) (arg11 : Memref sig .tc .vmem S512x12288 .f32) (harg11 : arg11.IsWhole) (arg12 : Memref sig .tc .vmem S512x128 .f32) (harg12 : arg12.IsWhole) (arg13 : Memref sig .tc .vmem S512x128 .f32) (harg13 : arg13.IsWhole) (hc0 : ¬cond1_0 i) (hc2 : ¬cond1_2 i) (hc3 : cond1_3 i)
    (x0 : Vec F S512x4096 .fp8e4m3) (x1 : Vec F S512x1 .f32) (x2 : Vec F S4096x1024 .fp8e4m3) (x3 : Vec F S4096x1024 .fp8e4m3) (x4 : Vec F S1x1024 .f32) (x5 : Vec F S1x1024 .f32) (x6 : Vec F S1x1024 .f32) (H : Vec F S512x12288 .f32) (A P : Vec F S512x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ owns (c : Thread nD τ) arg11 fullShare H ∗ owns (c : Thread nD τ) arg12 fullShare A ∗ owns (c : Thread nD τ) arg13 fullShare P
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (gHq i A P (gTile i H)) ∗ owns (c : Thread nD τ) arg10 fullShare (gSh i A P) ∗ owns (c : Thread nD τ) arg11 fullShare (gH i x0 x1 x2 x3 x4 x5 x6 H) ∗ owns (c : Thread nD τ) arg12 fullShare (gA i x0 x1 x2 x3 x4 x5 x6 A) ∗ owns (c : Thread nD τ) arg13 fullShare (gP i A P)) -∗ K ⟨⟩))
      ⊢ wp frame (wpE (defs₀ (F := F)) Variants.none c none) E (cc1_gate_up i arg2 harg2 arg3 harg3 arg4 harg4 arg5 harg5 arg6 harg6 arg7 harg7 arg8 harg8 arg9 harg9 arg10 harg10 arg11 harg11 arg12 harg12 arg13 harg13) K := by
  simp only [cc1_gate_up_eq_skeleton]; unfold cc1_gate_up_skel
  simp only [k1_part4_eq_skeleton, k1_part5_eq_skeleton, k1_part6_eq_skeleton, k1_part7_eq_skeleton, k1_part1_eq_skeleton, k1_part2_eq_skeleton, k1_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs0, %hfs0, HS0⟩, ⟨%fs1, %hfs1, HS1⟩, ⟨%fs2, %hfs2, HS2⟩, Hk⟩
  subst hf0 hf1 hf2 hf3 hf4 hf5 hf6 hfs0 hfs1 hfs2
  sl_exec (disch := first | sl_exact hc0 | sl_exact hc2 | sl_exact hc3)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; swap; · iexact H7
    ipureintro
    refine (View.read_writes_full _ _ _ _ _).trans ?_
    (try delta gate_run_C.sl.r_17); (try delta gate_run_C.sl.r_16); (try delta gate_run_C.sl.r_15); (try delta gate_run_C.sl.r_14); (try delta gate_run_C.sl.r_13); (try delta gate_run_C.sl.r_12); (try delta gate_run_C.sl.r_11); (try delta gate_run_C.sl.r_10); (try delta gate_run_C.sl.r_9); (try delta gate_run_C.sl.r_8); (try delta gate_run_C.sl.r_7); (try delta gate_run_C.sl.r_6); (try delta gate_run_C.sl.r_5); (try delta gate_run_C.sl.r_4); (try delta gate_run_C.sl.r_3); (try delta gate_run_C.sl.r_2); (try delta gate_run_C.sl.r_1); (try delta gate_run_C.sl.r); (try delta gate_run_C.sl.v154); (try delta gate_run_C.sl.HS0_1); (try delta gate_run_C.sl.HS1_1); (try delta gate_run_C.sl.HS2_1)
    rw [View.readAt_full arg12.view fs1 inb_S512x128_S512x128_0_0, View.readAt_full arg13.view fs2 inb_S512x128_S512x128_0_0]
    rw [View.readAt_unit arg11.view fs0 _ (k1_off3_eq i) (gTile_inb i)]
    rfl
  isplitl [H8]
  · iexists _; isplitr; swap; · iexact H8
    ipureintro
    refine (View.read_writes_full _ _ _ _ _).trans ?_
    (try delta gate_run_C.sl.r_17); (try delta gate_run_C.sl.r_16); (try delta gate_run_C.sl.r_15); (try delta gate_run_C.sl.r_14); (try delta gate_run_C.sl.r_13); (try delta gate_run_C.sl.r_12); (try delta gate_run_C.sl.r_11); (try delta gate_run_C.sl.r_10); (try delta gate_run_C.sl.r_9); (try delta gate_run_C.sl.r_8); (try delta gate_run_C.sl.r_7); (try delta gate_run_C.sl.r_6); (try delta gate_run_C.sl.r_5); (try delta gate_run_C.sl.r_4); (try delta gate_run_C.sl.r_3); (try delta gate_run_C.sl.r_2); (try delta gate_run_C.sl.r_1); (try delta gate_run_C.sl.r); (try delta gate_run_C.sl.v154); (try delta gate_run_C.sl.HS0_1); (try delta gate_run_C.sl.HS1_1); (try delta gate_run_C.sl.HS2_1)
    rw [View.readAt_full arg12.view fs1 inb_S512x128_S512x128_0_0, View.readAt_full arg13.view fs2 inb_S512x128_S512x128_0_0]
    rfl
  isplitl [HS0]
  · iexists _; isplitr; swap; · iexact HS0
    ipureintro
    (try delta gate_run_C.sl.r_17); (try delta gate_run_C.sl.r_16); (try delta gate_run_C.sl.r_15); (try delta gate_run_C.sl.r_14); (try delta gate_run_C.sl.r_13); (try delta gate_run_C.sl.r_12); (try delta gate_run_C.sl.r_11); (try delta gate_run_C.sl.r_10); (try delta gate_run_C.sl.r_9); (try delta gate_run_C.sl.r_8); (try delta gate_run_C.sl.r_7); (try delta gate_run_C.sl.r_6); (try delta gate_run_C.sl.r_5); (try delta gate_run_C.sl.r_4); (try delta gate_run_C.sl.r_3); (try delta gate_run_C.sl.r_2); (try delta gate_run_C.sl.r_1); (try delta gate_run_C.sl.r); (try delta gate_run_C.sl.v154); (try delta gate_run_C.sl.HS0_1); (try delta gate_run_C.sl.HS1_1); (try delta gate_run_C.sl.HS2_1)
    rw [View.readAt_full arg2.view f0 inb_S512x4096_S512x4096_0_0, View.readAt_full arg3.view f1 inb_S512x1_S512x1_0_0]
    rw [View.read_writes_cons_put arg11.view _ _ _ _ (show k1_off4 i 768#32 = _ from k1_off4_eq i 3), View.read_writes_cons_put arg11.view _ _ _ _ (show k1_off4 i 512#32 = _ from k1_off4_eq i 2), View.read_writes_cons_put arg11.view _ _ _ _ (show k1_off4 i 256#32 = _ from k1_off4_eq i 1), View.read_writes_cons_put arg11.view _ _ _ _ (show k1_off4 i 0#32 = _ from k1_off4_eq i 0), View.writes_nil]
    rfl
  isplitl [HS1]
  · iexists _; isplitr; swap; · iexact HS1
    ipureintro
    refine (View.read_writes_full _ _ _ _ _).trans ?_
    (try delta gate_run_C.sl.r_17); (try delta gate_run_C.sl.r_16); (try delta gate_run_C.sl.r_15); (try delta gate_run_C.sl.r_14); (try delta gate_run_C.sl.r_13); (try delta gate_run_C.sl.r_12); (try delta gate_run_C.sl.r_11); (try delta gate_run_C.sl.r_10); (try delta gate_run_C.sl.r_9); (try delta gate_run_C.sl.r_8); (try delta gate_run_C.sl.r_7); (try delta gate_run_C.sl.r_6); (try delta gate_run_C.sl.r_5); (try delta gate_run_C.sl.r_4); (try delta gate_run_C.sl.r_3); (try delta gate_run_C.sl.r_2); (try delta gate_run_C.sl.r_1); (try delta gate_run_C.sl.r); (try delta gate_run_C.sl.v154); (try delta gate_run_C.sl.HS0_1); (try delta gate_run_C.sl.HS1_1); (try delta gate_run_C.sl.HS2_1)
    rw [View.readAt_full arg2.view f0 inb_S512x4096_S512x4096_0_0, View.readAt_full arg3.view f1 inb_S512x1_S512x1_0_0, View.readAt_full arg12.view fs1 inb_S512x128_S512x128_0_0]
    rfl
  iexists _; isplitr; swap; · iexact HS2
  ipureintro
  refine (View.read_writes_full _ _ _ _ _).trans ?_
  (try delta gate_run_C.sl.r_17); (try delta gate_run_C.sl.r_16); (try delta gate_run_C.sl.r_15); (try delta gate_run_C.sl.r_14); (try delta gate_run_C.sl.r_13); (try delta gate_run_C.sl.r_12); (try delta gate_run_C.sl.r_11); (try delta gate_run_C.sl.r_10); (try delta gate_run_C.sl.r_9); (try delta gate_run_C.sl.r_8); (try delta gate_run_C.sl.r_7); (try delta gate_run_C.sl.r_6); (try delta gate_run_C.sl.r_5); (try delta gate_run_C.sl.r_4); (try delta gate_run_C.sl.r_3); (try delta gate_run_C.sl.r_2); (try delta gate_run_C.sl.r_1); (try delta gate_run_C.sl.r); (try delta gate_run_C.sl.v154); (try delta gate_run_C.sl.HS0_1); (try delta gate_run_C.sl.HS1_1); (try delta gate_run_C.sl.HS2_1)
  rw [View.readAt_full arg12.view fs1 inb_S512x128_S512x128_0_0, View.readAt_full arg13.view fs2 inb_S512x128_S512x128_0_0]
  rfl

end Cert.Kernel.Gen

end
-- ==== Proof.Word.GateRunD.lean ====
module

public import proofs.«01_k».proof.Proof.Word.GateStep

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- A step past the last row block: it only writes out the tile carried from the block before. Stated as a triple: from the seven input blocks, any contents of the two output blocks and the three
    scratch buffers at `H`, `A` and `P`, the body leaves the values the step's closed forms name. -/
theorem gate_run_D (c : Dev nD) (i : grid1.Coords) (arg2 : Memref sig .tc .vmem S512x4096 .fp8e4m3) (harg2 : arg2.IsWhole) (arg3 : Memref sig .tc .vmem S512x1 .f32) (harg3 : arg3.IsWhole) (arg4 : Memref sig .tc .vmem S4096x1024 .fp8e4m3) (harg4 : arg4.IsWhole) (arg5 : Memref sig .tc .vmem S4096x1024 .fp8e4m3) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .fp8e4m3) (harg9 : arg9.IsWhole) (arg10 : Memref sig .tc .vmem S512x1 .f32) (harg10 : arg10.IsWhole) (arg11 : Memref sig .tc .vmem S512x12288 .f32) (harg11 : arg11.IsWhole) (arg12 : Memref sig .tc .vmem S512x128 .f32) (harg12 : arg12.IsWhole) (arg13 : Memref sig .tc .vmem S512x128 .f32) (harg13 : arg13.IsWhole) (hc0 : ¬cond1_0 i) (hc2 : cond1_2 i) (hc3 : ¬cond1_3 i)
    (x0 : Vec F S512x4096 .fp8e4m3) (x1 : Vec F S512x1 .f32) (x2 : Vec F S4096x1024 .fp8e4m3) (x3 : Vec F S4096x1024 .fp8e4m3) (x4 : Vec F S1x1024 .f32) (x5 : Vec F S1x1024 .f32) (x6 : Vec F S1x1024 .f32) (H : Vec F S512x12288 .f32) (A P : Vec F S512x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ owns (c : Thread nD τ) arg11 fullShare H ∗ owns (c : Thread nD τ) arg12 fullShare A ∗ owns (c : Thread nD τ) arg13 fullShare P
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (gHq i A P (gTile i H)) ∗ owns (c : Thread nD τ) arg10 fullShare (gSh i A P) ∗ owns (c : Thread nD τ) arg11 fullShare H ∗ owns (c : Thread nD τ) arg12 fullShare A ∗ owns (c : Thread nD τ) arg13 fullShare (gP i A P)) -∗ K ⟨⟩))
      ⊢ wp frame (wpE (defs₀ (F := F)) Variants.none c none) E (cc1_gate_up i arg2 harg2 arg3 harg3 arg4 harg4 arg5 harg5 arg6 harg6 arg7 harg7 arg8 harg8 arg9 harg9 arg10 harg10 arg11 harg11 arg12 harg12 arg13 harg13) K := by
  simp only [cc1_gate_up_eq_skeleton]; unfold cc1_gate_up_skel
  simp only [k1_part4_eq_skeleton, k1_part5_eq_skeleton, k1_part6_eq_skeleton, k1_part7_eq_skeleton, k1_part1_eq_skeleton, k1_part2_eq_skeleton, k1_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs0, %hfs0, HS0⟩, ⟨%fs1, %hfs1, HS1⟩, ⟨%fs2, %hfs2, HS2⟩, Hk⟩
  subst hf0 hf1 hf2 hf3 hf4 hf5 hf6 hfs0 hfs1 hfs2
  sl_exec (disch := first | sl_exact hc0 | sl_exact hc2 | sl_exact hc3)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; swap; · iexact H7
    ipureintro
    refine (View.read_writes_full _ _ _ _ _).trans ?_
    (try delta gate_run_D.sl.r_9); (try delta gate_run_D.sl.r_8); (try delta gate_run_D.sl.r_7); (try delta gate_run_D.sl.r_6); (try delta gate_run_D.sl.r_5); (try delta gate_run_D.sl.r_4); (try delta gate_run_D.sl.r_3); (try delta gate_run_D.sl.r_2); (try delta gate_run_D.sl.r_1); (try delta gate_run_D.sl.r); (try delta gate_run_D.sl.v154); (try delta gate_run_D.sl.HS0_1); (try delta gate_run_D.sl.HS1_1); (try delta gate_run_D.sl.HS2_1)
    rw [View.readAt_full arg12.view fs1 inb_S512x128_S512x128_0_0, View.readAt_full arg13.view fs2 inb_S512x128_S512x128_0_0]
    rw [View.readAt_unit arg11.view fs0 _ (k1_off2_eq i) (gTile_inb i)]
    rfl
  isplitl [H8]
  · iexists _; isplitr; swap; · iexact H8
    ipureintro
    refine (View.read_writes_full _ _ _ _ _).trans ?_
    (try delta gate_run_D.sl.r_9); (try delta gate_run_D.sl.r_8); (try delta gate_run_D.sl.r_7); (try delta gate_run_D.sl.r_6); (try delta gate_run_D.sl.r_5); (try delta gate_run_D.sl.r_4); (try delta gate_run_D.sl.r_3); (try delta gate_run_D.sl.r_2); (try delta gate_run_D.sl.r_1); (try delta gate_run_D.sl.r); (try delta gate_run_D.sl.v154); (try delta gate_run_D.sl.HS0_1); (try delta gate_run_D.sl.HS1_1); (try delta gate_run_D.sl.HS2_1)
    rw [View.readAt_full arg12.view fs1 inb_S512x128_S512x128_0_0, View.readAt_full arg13.view fs2 inb_S512x128_S512x128_0_0]
    rfl
  isplitl [HS0]
  · iexists _; isplitr; swap; · iexact HS0
    ipureintro
    rfl
  isplitl [HS1]
  · iexists _; isplitr; swap; · iexact HS1
    ipureintro
    rfl
  iexists _; isplitr; swap; · iexact HS2
  ipureintro
  refine (View.read_writes_full _ _ _ _ _).trans ?_
  (try delta gate_run_D.sl.r_9); (try delta gate_run_D.sl.r_8); (try delta gate_run_D.sl.r_7); (try delta gate_run_D.sl.r_6); (try delta gate_run_D.sl.r_5); (try delta gate_run_D.sl.r_4); (try delta gate_run_D.sl.r_3); (try delta gate_run_D.sl.r_2); (try delta gate_run_D.sl.r_1); (try delta gate_run_D.sl.r); (try delta gate_run_D.sl.v154); (try delta gate_run_D.sl.HS0_1); (try delta gate_run_D.sl.HS1_1); (try delta gate_run_D.sl.HS2_1)
  rw [View.readAt_full arg12.view fs1 inb_S512x128_S512x128_0_0, View.readAt_full arg13.view fs2 inb_S512x128_S512x128_0_0]
  rfl

end Cert.Kernel.Gen

end
-- ==== Proof.Word.Region1.lean ====
module

public import proofs.«01_k».proof.Proof.Gen.Kernel.Skeleton
public import proofs.«01_k».proof.Proof.Gen.Kernel.Launch
public import proofs.«01_k».proof.Proof.Gen.Kernel.Points
public import proofs.«01_k».proof.Proof.Gen.Kernel.Regions
public import proofs.«01_k».proof.Proof.Word.GateState
public import proofs.«01_k».proof.Proof.Word.GateRunA
public import proofs.«01_k».proof.Proof.Word.GateRunB
public import proofs.«01_k».proof.Proof.Word.GateRunC
public import proofs.«01_k».proof.Proof.Word.GateRunD
public import Idealize.ShloMosaic.Lib.WordCmp
public import Idealize.ShloMosaic.Lib.Pipeline.FrameBody
public import Idealize.ShloMosaic.Lib.Ring
public import Idealize.ShloMosaic.Lib.Tactic
public import Idealize.ShloMosaic.Lib.VecWindow

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The scratch buffer of the hidden rows. -/
abbrev scH : Memref sig .tc .vmem S512x12288 .f32 := Memref.whole cc1_scratch0
/-- The scratch buffer of the running lane maxima. -/
abbrev scA : Memref sig .tc .vmem S512x128 .f32 := Memref.whole cc1_scratch1
/-- The scratch buffer of the finished lane maxima. -/
abbrev scP : Memref sig .tc .vmem S512x128 .f32 := Memref.whole cc1_scratch2

/-- The other regions' scoped buffers, first part: held at anything. -/
def restL (c : Dev nD) : sProp 𝕄 := iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f))
/-- The other regions' scoped buffers, second part: held at anything. -/
def restR (c : Dev nD) : sProp 𝕄 := iprop((∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f))

/-- The scoped buffers this region does not stage are the other regions' and its three scratch buffers. -/
theorem scoped1_out (c : Dev nD) : (Pipeline.scopedRest (Ix := Unit) (Name := ℕ) (U := UR sig nD τ) (Lvl := ℕ) (Val := Elt F) spec1 c : sProp 𝕄)
    ⊢ iprop(restL (F := F) c ∗ (∃ d, owns (c : Thread nD τ) scH fullShare d) ∗ (∃ d, owns (c : Thread nD τ) scA fullShare d) ∗ (∃ d, owns (c : Thread nD τ) scP fullShare d) ∗ restR (F := F) c) := by
  rw [scopedRest1_eq]
  simp only [scH, scA, scP, owns_whole]
  unfold restL restR
  iintro ⟨B0, B1, B2, B3, B4, B5, B6, HS0, HS1, HS2, HR⟩
  isplitl [B0 B1 B2 B3 B4 B5 B6]
  · isplitl [B0]; · iexact B0
    isplitl [B1]; · iexact B1
    isplitl [B2]; · iexact B2
    isplitl [B3]; · iexact B3
    isplitl [B4]; · iexact B4
    isplitl [B5]; · iexact B5
    iexact B6
  isplitl [HS0]; · iexact HS0
  isplitl [HS1]; · iexact HS1
  isplitl [HS2]; · iexact HS2
  iexact HR
/-- and back. -/
theorem scoped1_in (c : Dev nD) : iprop(restL (F := F) c ∗ (∃ d, owns (c : Thread nD τ) scH fullShare d) ∗ (∃ d, owns (c : Thread nD τ) scA fullShare d) ∗ (∃ d, owns (c : Thread nD τ) scP fullShare d) ∗ restR (F := F) c)
    ⊢ (Pipeline.scopedRest (Ix := Unit) (Name := ℕ) (U := UR sig nD τ) (Lvl := ℕ) (Val := Elt F) spec1 c : sProp 𝕄) := by
  rw [scopedRest1_eq]
  simp only [scH, scA, scP, owns_whole]
  unfold restL restR
  iintro ⟨⟨B0, B1, B2, B3, B4, B5, B6⟩, HS0, HS1, HS2, HR⟩
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [HS0]; · iexact HS0
  isplitl [HS1]; · iexact HS1
  isplitl [HS2]; · iexact HS2
  iexact HR

/-! ## The region's data, from any contents of the unscoped buffers -/

variable (V : (c : Dev nD) → (b : Ref sig .tc) → Buf (Elt F) ((c : Thread nD τ).loc b))

/-- Scratch contents that stand for the state before the `n`-th point: the hidden rows agree with it as far as they are filled, and
    past the first point both maxima are its. -/
def Carried (c : Dev nD) (n : ℕ) (H : Vec F S512x12288 .f32) (A P : Vec F S512x128 .f32) : Prop :=
  Agree n H (gSt V c n).1 ∧ (n ≠ 0 → A = (gSt V c n).2.1 ∧ P = (gSt V c n).2.2)

/-- The invariant before the `n`-th point: the scratch buffers stand for the state, the rest of the scoped buffers at anything. -/
def inv1 (c : Dev nD) (n : ℕ) : sProp 𝕄 :=
  iprop((∃ H A P, ⌜Carried V c n H A P⌝ ∗ owns (c : Thread nD τ) scH fullShare H ∗ owns (c : Thread nD τ) scA fullShare A ∗ owns (c : Thread nD τ) scP fullShare P)
    ∗ restL (F := F) c ∗ restR (F := F) c ∗ (∃ r, prngReg c r))

/-- The region's data: the arrays as found; after the body each input's buffer at its block, the outputs at the codes and
    scales of the state; the invariant carries the state; nothing owed; each input at its share of its array. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => outQ V c t
    | ⟨8, _⟩ => outS V c t
  Φ t := inv1 V c t.val
  q := Pipeline.shareOf spec1
  owed _ := 0

/-- The arrays are those the region finds. -/
theorem dat1_A (c : Dev nD) (w : Fin cfg1.W) : (dat1 V c).A w = V c (Pipeline.arrRef spec1 w) := by
  dsimp only [dat1]
/-- What the body leaves in window 0. -/
theorem dat1_after0 (c : Dev nD) (t : Fin cfg1.N) : (dat1 V c).after 0 t = blk1 V c 0 t := by dsimp only [dat1]
/-- What the body leaves in window 1. -/
theorem dat1_after1 (c : Dev nD) (t : Fin cfg1.N) : (dat1 V c).after 1 t = blk1 V c 1 t := by dsimp only [dat1]
/-- What the body leaves in window 2. -/
theorem dat1_after2 (c : Dev nD) (t : Fin cfg1.N) : (dat1 V c).after 2 t = blk1 V c 2 t := by dsimp only [dat1]
/-- What the body leaves in window 3. -/
theorem dat1_after3 (c : Dev nD) (t : Fin cfg1.N) : (dat1 V c).after 3 t = blk1 V c 3 t := by dsimp only [dat1]
/-- What the body leaves in window 4. -/
theorem dat1_after4 (c : Dev nD) (t : Fin cfg1.N) : (dat1 V c).after 4 t = blk1 V c 4 t := by dsimp only [dat1]
/-- What the body leaves in window 5. -/
theorem dat1_after5 (c : Dev nD) (t : Fin cfg1.N) : (dat1 V c).after 5 t = blk1 V c 5 t := by dsimp only [dat1]
/-- What the body leaves in window 6. -/
theorem dat1_after6 (c : Dev nD) (t : Fin cfg1.N) : (dat1 V c).after 6 t = blk1 V c 6 t := by dsimp only [dat1]
/-- What the body leaves in window 7. -/
theorem dat1_after7 (c : Dev nD) (t : Fin cfg1.N) : (dat1 V c).after 7 t = outQ V c t := by dsimp only [dat1]
/-- What the body leaves in window 8. -/
theorem dat1_after8 (c : Dev nD) (t : Fin cfg1.N) : (dat1 V c).after 8 t = outS V c t := by dsimp only [dat1]
/-- What the body finds in window 0: its block. -/
theorem dat1_before0 (c : Dev nD) (t : Fin cfg1.N) (d) : (dat1 V c).before 0 t d = blk1 V c 0 t :=
  ((dat1 V c).before_in_eq_fetched 0 rfl (fun _ => rfl) (fun _ _ _ => rfl) (fun t => by rw [dat1_after0]; unfold Dat.blockOf blk1; rw [dat1_A]; try rfl) t d).trans
    (by unfold Dat.fetched Dat.blockOf blk1; rw [dat1_A]; try rfl)
/-- What the body finds in window 1: its block. -/
theorem dat1_before1 (c : Dev nD) (t : Fin cfg1.N) (d) : (dat1 V c).before 1 t d = blk1 V c 1 t :=
  ((dat1 V c).before_in_eq_fetched 1 rfl (fun _ => rfl) (fun _ _ _ => rfl) (fun t => by rw [dat1_after1]; unfold Dat.blockOf blk1; rw [dat1_A]; try rfl) t d).trans
    (by unfold Dat.fetched Dat.blockOf blk1; rw [dat1_A]; try rfl)
/-- What the body finds in window 2: its block. -/
theorem dat1_before2 (c : Dev nD) (t : Fin cfg1.N) (d) : (dat1 V c).before 2 t d = blk1 V c 2 t :=
  ((dat1 V c).before_in_eq_fetched 2 rfl (fun _ => rfl) (fun _ _ _ => rfl) (fun t => by rw [dat1_after2]; unfold Dat.blockOf blk1; rw [dat1_A]; try rfl) t d).trans
    (by unfold Dat.fetched Dat.blockOf blk1; rw [dat1_A]; try rfl)
/-- What the body finds in window 3: its block. -/
theorem dat1_before3 (c : Dev nD) (t : Fin cfg1.N) (d) : (dat1 V c).before 3 t d = blk1 V c 3 t :=
  ((dat1 V c).before_in_eq_fetched 3 rfl (fun _ => rfl) (fun _ _ _ => rfl) (fun t => by rw [dat1_after3]; unfold Dat.blockOf blk1; rw [dat1_A]; try rfl) t d).trans
    (by unfold Dat.fetched Dat.blockOf blk1; rw [dat1_A]; try rfl)
/-- What the body finds in window 4: its block. -/
theorem dat1_before4 (c : Dev nD) (t : Fin cfg1.N) (d) : (dat1 V c).before 4 t d = blk1 V c 4 t :=
  ((dat1 V c).before_in_eq_fetched 4 rfl (fun _ => rfl) (fun _ _ _ => rfl) (fun t => by rw [dat1_after4]; unfold Dat.blockOf blk1; rw [dat1_A]; try rfl) t d).trans
    (by unfold Dat.fetched Dat.blockOf blk1; rw [dat1_A]; try rfl)
/-- What the body finds in window 5: its block. -/
theorem dat1_before5 (c : Dev nD) (t : Fin cfg1.N) (d) : (dat1 V c).before 5 t d = blk1 V c 5 t :=
  ((dat1 V c).before_in_eq_fetched 5 rfl (fun _ => rfl) (fun _ _ _ => rfl) (fun t => by rw [dat1_after5]; unfold Dat.blockOf blk1; rw [dat1_A]; try rfl) t d).trans
    (by unfold Dat.fetched Dat.blockOf blk1; rw [dat1_A]; try rfl)
/-- What the body finds in window 6: its block. -/
theorem dat1_before6 (c : Dev nD) (t : Fin cfg1.N) (d) : (dat1 V c).before 6 t d = blk1 V c 6 t :=
  ((dat1 V c).before_in_eq_fetched 6 rfl (fun _ => rfl) (fun _ _ _ => rfl) (fun t => by rw [dat1_after6]; unfold Dat.blockOf blk1; rw [dat1_A]; try rfl) t d).trans
    (by unfold Dat.fetched Dat.blockOf blk1; rw [dat1_A]; try rfl)

/-- What the body is called with at a point. -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- What it returns. -/
def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

/-! ### The state's step, read off the case's closed forms -/

/-- After the first point. -/
theorem carried_A (c : Dev nD) (t : Fin cfg1.N) (h0 : t.val = 0) (H : Vec F S512x12288 .f32) (A P : Vec F S512x128 .f32) (hc : Carried V c t.val H A P) :
    Carried V c (t.val + 1) (gH (grid1.coords t) (blk1 V c 0 t) (blk1 V c 1 t) (blk1 V c 2 t) (blk1 V c 3 t) (blk1 V c 4 t) (blk1 V c 5 t) (blk1 V c 6 t) (gZero (grid1.coords t) H)) (gA (grid1.coords t) (blk1 V c 0 t) (blk1 V c 1 t) (blk1 V c 2 t) (blk1 V c 3 t) (blk1 V c 4 t) (blk1 V c 5 t) (blk1 V c 6 t) (k1_pay22 (F := F))) (gP (grid1.coords t) (k1_pay22 (F := F)) (k1_pay23 (F := F))) := by
  unfold Carried
  rw [gSt_succ]
  refine ⟨hc.1.step_first V c t (by omega), fun _ => ⟨?_, ?_⟩⟩
  · show _ = stepA V c t _
    unfold stepA
    rw [if_pos (by omega : t.val < 192), h0]; rfl
  · show _ = gP (grid1.coords t) _ _
    rw [h0]; rfl
/-- After a later point of the first row block. -/
theorem carried_B (c : Dev nD) (t : Fin cfg1.N) (h0 : t.val ≠ 0) (h1 : t.val < 12) (H : Vec F S512x12288 .f32) (A P : Vec F S512x128 .f32) (hc : Carried V c t.val H A P) :
    Carried V c (t.val + 1) (gH (grid1.coords t) (blk1 V c 0 t) (blk1 V c 1 t) (blk1 V c 2 t) (blk1 V c 3 t) (blk1 V c 4 t) (blk1 V c 5 t) (blk1 V c 6 t) (gZero (grid1.coords t) H)) (gA (grid1.coords t) (blk1 V c 0 t) (blk1 V c 1 t) (blk1 V c 2 t) (blk1 V c 3 t) (blk1 V c 4 t) (blk1 V c 5 t) (blk1 V c 6 t) A) (gP (grid1.coords t) A P) := by
  obtain ⟨rfl, rfl⟩ := hc.2 h0
  unfold Carried
  rw [gSt_succ]
  refine ⟨hc.1.step_first V c t h1, fun _ => ⟨?_, rfl⟩⟩
  show _ = stepA V c t _
  unfold stepA
  rw [if_pos (by omega : t.val < 192)]
/-- After a point of a later row block. -/
theorem carried_C (c : Dev nD) (t : Fin cfg1.N) (h0 : 12 ≤ t.val) (h1 : t.val < 192) (H : Vec F S512x12288 .f32) (A P : Vec F S512x128 .f32) (hc : Carried V c t.val H A P) :
    Carried V c (t.val + 1) (gH (grid1.coords t) (blk1 V c 0 t) (blk1 V c 1 t) (blk1 V c 2 t) (blk1 V c 3 t) (blk1 V c 4 t) (blk1 V c 5 t) (blk1 V c 6 t) H) (gA (grid1.coords t) (blk1 V c 0 t) (blk1 V c 1 t) (blk1 V c 2 t) (blk1 V c 3 t) (blk1 V c 4 t) (blk1 V c 5 t) (blk1 V c 6 t) A) (gP (grid1.coords t) A P) := by
  obtain ⟨rfl, rfl⟩ := hc.2 (by omega)
  obtain rfl := hc.1.eq h0
  unfold Carried
  rw [gSt_succ]
  refine ⟨?_, fun _ => ⟨?_, rfl⟩⟩
  · show Agree _ _ (stepH V c t _)
    unfold stepH
    rw [if_pos h1, if_neg (by omega : ¬ t.val < 12)]
    exact Agree.refl _ _
  · show _ = stepA V c t _
    unfold stepA
    rw [if_pos h1]
/-- After a point past the last row block. -/
theorem carried_D (c : Dev nD) (t : Fin cfg1.N) (h0 : 192 ≤ t.val) (H : Vec F S512x12288 .f32) (A P : Vec F S512x128 .f32) (hc : Carried V c t.val H A P) :
    Carried V c (t.val + 1) H A (gP (grid1.coords t) A P) := by
  obtain ⟨rfl, rfl⟩ := hc.2 (by omega)
  obtain rfl := hc.1.eq (by omega)
  unfold Carried
  rw [gSt_succ]
  refine ⟨?_, fun _ => ⟨?_, rfl⟩⟩
  · show Agree _ _ (stepH V c t _)
    unfold stepH
    rw [if_neg (by omega : ¬ t.val < 192)]
    exact Agree.refl _ _
  · show _ = stepA V c t _
    unfold stepA
    rw [if_neg (by omega : ¬ t.val < 192)]

/-- What a point's body needs once the scratch contents are named. -/
def preAt (c : Dev nD) (t : Fin cfg1.N) (H : Vec F S512x12288 .f32) (A P : Vec F S512x128 .f32) : sProp 𝕄 :=
  iprop((owns (c : Thread nD τ) scH fullShare H ∗ owns (c : Thread nD τ) scA fullShare A ∗ owns (c : Thread nD τ) scP fullShare P)
      ∗ restL (F := F) c ∗ restR (F := F) c ∗ (∃ r, prngReg c r) ∗ (dat1 V c).owesAt () t.castSucc
      ∗ (∃ d : (cfg1.win 0).block.Idx → Elt F (cfg1.win 0).elt, owns (c : Thread nD τ) (st1_0 t) fullShare (blk1 V c 0 t))
      ∗ (∃ d : (cfg1.win 1).block.Idx → Elt F (cfg1.win 1).elt, owns (c : Thread nD τ) (st1_1 t) fullShare (blk1 V c 1 t))
      ∗ (∃ d : (cfg1.win 2).block.Idx → Elt F (cfg1.win 2).elt, owns (c : Thread nD τ) (st1_2 t) fullShare (blk1 V c 2 t))
      ∗ (∃ d : (cfg1.win 3).block.Idx → Elt F (cfg1.win 3).elt, owns (c : Thread nD τ) (st1_3 t) fullShare (blk1 V c 3 t))
      ∗ (∃ d : (cfg1.win 4).block.Idx → Elt F (cfg1.win 4).elt, owns (c : Thread nD τ) (st1_4 t) fullShare (blk1 V c 4 t))
      ∗ (∃ d : (cfg1.win 5).block.Idx → Elt F (cfg1.win 5).elt, owns (c : Thread nD τ) (st1_5 t) fullShare (blk1 V c 5 t))
      ∗ (∃ d : (cfg1.win 6).block.Idx → Elt F (cfg1.win 6).elt, owns (c : Thread nD τ) (st1_6 t) fullShare (blk1 V c 6 t))
      ∗ (∃ d : (cfg1.win 7).block.Idx → Elt F (cfg1.win 7).elt, owns (c : Thread nD τ) (st1_7 t) fullShare ((dat1 V c).before 7 t d))
      ∗ (∃ d : (cfg1.win 8).block.Idx → Elt F (cfg1.win 8).elt, owns (c : Thread nD τ) (st1_8 t) fullShare ((dat1 V c).before 8 t d)))
/-- What it leaves. -/
def postAt (c : Dev nD) (t : Fin cfg1.N) : sProp 𝕄 :=
  iprop(inv1 V c (t.val + 1) ∗ (dat1 V c).owesAt () t.castSucc
      ∗ owns (c : Thread nD τ) (st1_0 t) fullShare (blk1 V c 0 t)
      ∗ owns (c : Thread nD τ) (st1_1 t) fullShare (blk1 V c 1 t)
      ∗ owns (c : Thread nD τ) (st1_2 t) fullShare (blk1 V c 2 t)
      ∗ owns (c : Thread nD τ) (st1_3 t) fullShare (blk1 V c 3 t)
      ∗ owns (c : Thread nD τ) (st1_4 t) fullShare (blk1 V c 4 t)
      ∗ owns (c : Thread nD τ) (st1_5 t) fullShare (blk1 V c 5 t)
      ∗ owns (c : Thread nD τ) (st1_6 t) fullShare (blk1 V c 6 t)
      ∗ owns (c : Thread nD τ) (st1_7 t) fullShare (outQ V c t)
      ∗ owns (c : Thread nD τ) (st1_8 t) fullShare (outS V c t))

set_option maxHeartbeats 1600000 in
/-- The body at the first point. -/
theorem sound1_A (c : Dev nD) (t : Fin cfg1.N) (h0 : t.val = 0) (H : Vec F S512x12288 .f32) (A P : Vec F S512x128 .f32) (hc : Carried V c t.val H A P) :
    preAt V c t H A P ⊢ wp frame (wpE (defs₀ (F := F)) Variants.none c none) Set.univ (bodyAt1 t) (fun _ => postAt V c t) := by
  unfold preAt postAt bodyAt1
  have hq : outQ V c t = gHq (grid1.coords t) (k1_pay22 (F := F)) (k1_pay23 (F := F)) (k1_pay21 (F := F)) := by
    unfold outQ outT; rw [if_pos (by omega : t.val < 12), h0]; rfl
  have hs : outS V c t = gSh (grid1.coords t) (k1_pay22 (F := F)) (k1_pay23 (F := F)) := by
    unfold outS; rw [h0]; rfl
  rw [hq, hs]
  iintro ⟨⟨HS0, HS1, HS2⟩, HL, HR, Hg, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (gate_run_A c (grid1.coords t) _ _ _ _ _ _ _ _ _ _ _ _ _ _ _ _ _ _ _ _ _ _ _ _ ((cond1_0_iff t).mpr (by omega)) ((cond1_1_iff t).mpr (by omega)) (fun h => absurd ((cond1_2_iff t).mp h) (by omega)) ((cond1_3_iff t).mpr (by omega)) (blk1 V c 0 t) (blk1 V c 1 t) (blk1 V c 2 t) (blk1 V c 3 t) (blk1 V c 4 t) (blk1 V c 5 t) (blk1 V c 6 t) H A P Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [HS0]; · iexact HS0
  isplitl [HS1]; · iexact HS1
  isplitl [HS2]; · iexact HS2
  iintro ⟨H0, H1, H2, H3, H4, H5, H6, H7, H8, HS0, HS1, HS2⟩
  isplitl [HS0 HS1 HS2 HL HR Hg]
  · unfold inv1
    isplitl [HS0 HS1 HS2]
    · iexists _, _, _
      isplitr; · ipureintro; exact carried_A V c t h0 H A P hc
      isplitl [HS0]; · iexact HS0
      isplitl [HS1]; · iexact HS1
      iexact HS2
    isplitl [HL]; · iexact HL
    isplitl [HR]; · iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

set_option maxHeartbeats 1600000 in
/-- The body at a later point of the first row block. -/
theorem sound1_B (c : Dev nD) (t : Fin cfg1.N) (h0 : t.val ≠ 0) (h1 : t.val < 12) (H : Vec F S512x12288 .f32) (A P : Vec F S512x128 .f32) (hc : Carried V c t.val H A P) :
    preAt V c t H A P ⊢ wp frame (wpE (defs₀ (F := F)) Variants.none c none) Set.univ (bodyAt1 t) (fun _ => postAt V c t) := by
  unfold preAt postAt bodyAt1
  have hq : outQ V c t = gHq (grid1.coords t) A P (k1_pay21 (F := F)) := by
    unfold outQ outT; rw [if_pos h1, (hc.2 h0).1, (hc.2 h0).2]
  have hs : outS V c t = gSh (grid1.coords t) A P := by
    unfold outS; rw [(hc.2 h0).1, (hc.2 h0).2]
  rw [hq, hs]
  iintro ⟨⟨HS0, HS1, HS2⟩, HL, HR, Hg, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (gate_run_B c (grid1.coords t) _ _ _ _ _ _ _ _ _ _ _ _ _ _ _ _ _ _ _ _ _ _ _ _ ((cond1_0_iff t).mpr h1) (fun h => absurd ((cond1_1_iff t).mp h) (by omega)) (fun h => absurd ((cond1_2_iff t).mp h) (by omega)) ((cond1_3_iff t).mpr (by omega)) (blk1 V c 0 t) (blk1 V c 1 t) (blk1 V c 2 t) (blk1 V c 3 t) (blk1 V c 4 t) (blk1 V c 5 t) (blk1 V c 6 t) H A P Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [HS0]; · iexact HS0
  isplitl [HS1]; · iexact HS1
  isplitl [HS2]; · iexact HS2
  iintro ⟨H0, H1, H2, H3, H4, H5, H6, H7, H8, HS0, HS1, HS2⟩
  isplitl [HS0 HS1 HS2 HL HR Hg]
  · unfold inv1
    isplitl [HS0 HS1 HS2]
    · iexists _, _, _
      isplitr; · ipureintro; exact carried_B V c t h0 h1 H A P hc
      isplitl [HS0]; · iexact HS0
      isplitl [HS1]; · iexact HS1
      iexact HS2
    isplitl [HL]; · iexact HL
    isplitl [HR]; · iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

set_option maxHeartbeats 1600000 in
/-- The body at a point of a later row block. -/
theorem sound1_C (c : Dev nD) (t : Fin cfg1.N) (h0 : 12 ≤ t.val) (h1 : t.val < 192) (H : Vec F S512x12288 .f32) (A P : Vec F S512x128 .f32) (hc : Carried V c t.val H A P) :
    preAt V c t H A P ⊢ wp frame (wpE (defs₀ (F := F)) Variants.none c none) Set.univ (bodyAt1 t) (fun _ => postAt V c t) := by
  unfold preAt postAt bodyAt1
  have hq : outQ V c t = gHq (grid1.coords t) A P (gTile (grid1.coords t) H) := by
    unfold outQ outT; rw [if_neg (by omega : ¬ t.val < 12), hc.1.eq h0, (hc.2 (by omega)).1, (hc.2 (by omega)).2]
  have hs : outS V c t = gSh (grid1.coords t) A P := by
    unfold outS; rw [(hc.2 (by omega)).1, (hc.2 (by omega)).2]
  rw [hq, hs]
  iintro ⟨⟨HS0, HS1, HS2⟩, HL, HR, Hg, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (gate_run_C c (grid1.coords t) _ _ _ _ _ _ _ _ _ _ _ _ _ _ _ _ _ _ _ _ _ _ _ _ (fun h => absurd ((cond1_0_iff t).mp h) (by omega)) (fun h => absurd ((cond1_2_iff t).mp h) (by omega)) ((cond1_3_iff t).mpr h1) (blk1 V c 0 t) (blk1 V c 1 t) (blk1 V c 2 t) (blk1 V c 3 t) (blk1 V c 4 t) (blk1 V c 5 t) (blk1 V c 6 t) H A P Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [HS0]; · iexact HS0
  isplitl [HS1]; · iexact HS1
  isplitl [HS2]; · iexact HS2
  iintro ⟨H0, H1, H2, H3, H4, H5, H6, H7, H8, HS0, HS1, HS2⟩
  isplitl [HS0 HS1 HS2 HL HR Hg]
  · unfold inv1
    isplitl [HS0 HS1 HS2]
    · iexists _, _, _
      isplitr; · ipureintro; exact carried_C V c t h0 h1 H A P hc
      isplitl [HS0]; · iexact HS0
      isplitl [HS1]; · iexact HS1
      iexact HS2
    isplitl [HL]; · iexact HL
    isplitl [HR]; · iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

set_option maxHeartbeats 1600000 in
/-- The body at a point past the last row block. -/
theorem sound1_D (c : Dev nD) (t : Fin cfg1.N) (h0 : 192 ≤ t.val) (H : Vec F S512x12288 .f32) (A P : Vec F S512x128 .f32) (hc : Carried V c t.val H A P) :
    preAt V c t H A P ⊢ wp frame (wpE (defs₀ (F := F)) Variants.none c none) Set.univ (bodyAt1 t) (fun _ => postAt V c t) := by
  unfold preAt postAt bodyAt1
  have hq : outQ V c t = gHq (grid1.coords t) A P (gTile (grid1.coords t) H) := by
    unfold outQ outT; rw [if_neg (by omega : ¬ t.val < 12), hc.1.eq (by omega), (hc.2 (by omega)).1, (hc.2 (by omega)).2]
  have hs : outS V c t = gSh (grid1.coords t) A P := by
    unfold outS; rw [(hc.2 (by omega)).1, (hc.2 (by omega)).2]
  rw [hq, hs]
  iintro ⟨⟨HS0, HS1, HS2⟩, HL, HR, Hg, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (gate_run_D c (grid1.coords t) _ _ _ _ _ _ _ _ _ _ _ _ _ _ _ _ _ _ _ _ _ _ _ _ (fun h => absurd ((cond1_0_iff t).mp h) (by omega)) ((cond1_2_iff t).mpr h0) (fun h => absurd ((cond1_3_iff t).mp h) (by omega)) (blk1 V c 0 t) (blk1 V c 1 t) (blk1 V c 2 t) (blk1 V c 3 t) (blk1 V c 4 t) (blk1 V c 5 t) (blk1 V c 6 t) H A P Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [HS0]; · iexact HS0
  isplitl [HS1]; · iexact HS1
  isplitl [HS2]; · iexact HS2
  iintro ⟨H0, H1, H2, H3, H4, H5, H6, H7, H8, HS0, HS1, HS2⟩
  isplitl [HS0 HS1 HS2 HL HR Hg]
  · unfold inv1
    isplitl [HS0 HS1 HS2]
    · iexists _, _, _
      isplitr; · ipureintro; exact carried_D V c t h0 H A P hc
      isplitl [HS0]; · iexact HS0
      isplitl [HS1]; · iexact HS1
      iexact HS2
    isplitl [HL]; · iexact HL
    isplitl [HR]; · iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body at any point whose scratch contents stand for the state. -/
theorem sound1_at (c : Dev nD) (t : Fin cfg1.N) (H : Vec F S512x12288 .f32) (A P : Vec F S512x128 .f32) (hc : Carried V c t.val H A P) :
    preAt V c t H A P ⊢ wp frame (wpE (defs₀ (F := F)) Variants.none c none) Set.univ (bodyAt1 t) (fun _ => postAt V c t) := by
  by_cases h0 : t.val = 0
  · exact sound1_A V c t h0 H A P hc
  by_cases h1 : t.val < 12
  · exact sound1_B V c t h0 h1 H A P hc
  by_cases h2 : t.val < 192
  · exact sound1_C V c t (by omega) h2 H A P hc
  · exact sound1_D V c t (by omega) H A P hc

/-- The body at any point. -/
theorem sound1 (c : Dev nD) (t : Fin cfg1.N) :
    pre1 V c t ⊢ wp frame (wpE (defs₀ (F := F)) Variants.none c none) Set.univ (bodyAt1 t) (fun _ => post1 V c t) := by
  have hpost : post1 V c t = postAt V c t := by
    unfold post1 postAt
    rw [show (dat1 V c).owesAt () t.succ = (dat1 V c).owesAt () t.castSucc from rfl, show (dat1 V c).Φ t.succ = inv1 V c (t.val + 1) from rfl,
      dat1_after0, dat1_after1, dat1_after2, dat1_after3, dat1_after4, dat1_after5, dat1_after6, dat1_after7, dat1_after8]
  rw [hpost]
  refine (show _ ⊢ iprop(∃ H A P, ⌜Carried V c t.val H A P⌝ ∗ preAt V c t H A P) from ?_).trans ?_
  · unfold pre1 preAt
    simp only [dat1_before0, dat1_before1, dat1_before2, dat1_before3, dat1_before4, dat1_before5, dat1_before6]
    rw [show (dat1 V c).Φ t.castSucc = inv1 V c t.val from rfl]
    unfold inv1
    iintro ⟨⟨⟨%H, %A, %P, %hc, HS⟩, HL, HR, Hg⟩, Hrest⟩
    iexists H, A, P
    isplitr; · ipureintro; exact hc
    isplitl [HS]; · iexact HS
    isplitl [HL]; · iexact HL
    isplitl [HR]; · iexact HR
    isplitl [Hg]; · iexact Hg
    iexact Hrest
  · iintro ⟨%H, %A, %P, %hc, Hall⟩
    iapply (sound1_at V c t H A P hc)
    iexact Hall

/-- Every point writes its block of codes: it is in a row block to be filled or past the last. -/
theorem idle1_7 (t : Fin cfg1.N) : cfg1.idle 7 (grid1.coords t) = false := by
  show (!(k1_cond3 (grid1.coords t) == 1#1) && !(k1_cond4 (grid1.coords t) == 1#1)) = false
  by_cases h : t.val < 192
  · have h4 : k1_cond4 (grid1.coords t) = 1#1 := (cond1_3_iff t).mpr h
    rw [h4]; simp
  · have h3 : k1_cond3 (grid1.coords t) = 1#1 := (cond1_2_iff t).mpr (by omega)
    rw [h3]; simp

/-- The body obligation, at every point. -/
theorem oblig1 (c : Dev nD) : BodyObligation (dat1 (F := F) V c) (defs₀ (F := F)) Variants.none () Set.univ := fun t => by
  rw [bigSep_W1, bigSep_W1, show defs₀ (F := F) .tc cfg1.body (cfg1.bodyArgs t (cfg1.slots t)) = bodyAt1 t from by unfold defs₀; rw [Defs.onTc_tc]]
  refine triple_restated (sound1 V c t) rfl .rfl fun _ => ?_
  rw [show cfg1.idle 7 (cfg1.grid.coords t) = false from idle1_7 t]
  exact .rfl

/-- What the region hands the body before the first point is the invariant there. -/
theorem inv1_first (c : Dev nD) : Pipeline.ΦA spec1 c ⊢ (dat1 (F := F) V c).Φ 0 := by
  rw [show (dat1 V c).Φ 0 = inv1 V c 0 from rfl]
  unfold Pipeline.ΦA inv1
  iintro ⟨Hs, Hg⟩
  ihave Hs := (scoped1_out (F := F) c) $$ Hs
  icases Hs with ⟨HL, ⟨%H, HS0⟩, ⟨%A, HS1⟩, ⟨%P, HS2⟩, HR⟩
  isplitl [HS0 HS1 HS2]
  · iexists H, A, P
    isplitr; · ipureintro; exact ⟨Agree.zero _ _, fun h => absurd rfl h⟩
    isplitl [HS0]; · iexact HS0
    isplitl [HS1]; · iexact HS1
    iexact HS2
  isplitl [HL]; · iexact HL
  isplitl [HR]; · iexact HR
  iexact Hg

/-- The invariant after the last point gives the scoped buffers back. -/
theorem inv1_last (c : Dev nD) : (dat1 (F := F) V c).Φ (Fin.last cfg1.N) ⊢ Pipeline.ΦA spec1 c := by
  rw [show (dat1 V c).Φ (Fin.last cfg1.N) = inv1 V c cfg1.N from rfl]
  unfold Pipeline.ΦA inv1
  iintro ⟨⟨%H, %A, %P, -, HS0, HS1, HS2⟩, HL, HR, Hg⟩
  isplitl [HS0 HS1 HS2 HL HR]
  · iapply (scoped1_in (F := F) c)
    isplitl [HL]; · iexact HL
    isplitl [HS0]; · iexists _; iexact HS0
    isplitl [HS1]; · iexists _; iexact HS1
    isplitl [HS2]; · iexists _; iexact HS2
    iexact HR
  iexact Hg

end Cert.Kernel.Gen

end
-- ==== Proof.Word.Region2.lean ====
module

public import proofs.«01_k».proof.Proof.Gen.Kernel.Skeleton
public import proofs.«01_k».proof.Proof.Gen.Kernel.Launch
public import proofs.«01_k».proof.Proof.Gen.Kernel.Points
public import proofs.«01_k».proof.Proof.Gen.Kernel.Regions
public import Idealize.ShloMosaic.Lib.Pipeline.FrameBody
public import Idealize.ShloMosaic.Lib.Ring
public import Idealize.ShloMosaic.Lib.Tactic
public import Idealize.ShloMosaic.Lib.VecWindow

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The output tile: the rows' codes times the weights' tile, times both scales. -/
def dnOut (x0 : Vec F S1024x12288 .fp8e4m3) (x1 : Vec F S1024x1 .f32) (x2 : Vec F S12288x1024 .fp8e4m3) (x3 : Vec F S1x1024 .f32) : Vec F S1024x1024 .f32 :=
  k2_pay1 x0 x2 x1 x3

set_option maxHeartbeats 1000000 in
/-- The body as a triple: from its input blocks and any contents of its output blocks it leaves the closed values of the
    inputs in the output blocks. -/
theorem run2 (c : Dev nD) (E : Set ℕ) (i : grid2.Coords) (arg2 : Memref sig .tc .vmem S1024x12288 .fp8e4m3) (harg2 : arg2.IsWhole) (arg3 : Memref sig .tc .vmem S1024x1 .f32) (harg3 : arg3.IsWhole) (arg4 : Memref sig .tc .vmem S12288x1024 .fp8e4m3) (harg4 : arg4.IsWhole) (arg5 : Memref sig .tc .vmem S1x1024 .f32) (harg5 : arg5.IsWhole) (arg6 : Memref sig .tc .vmem S1024x1024 .f32) (harg6 : arg6.IsWhole)
    (x0 : Vec F S1024x12288 .fp8e4m3) (x1 : Vec F S1024x1 .f32) (x2 : Vec F S12288x1024 .fp8e4m3) (x3 : Vec F S1x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (dnOut x0 x1 x2 x3)) -∗ K ⟨⟩))
      ⊢ wp frame (wpE (defs₀ (F := F)) Variants.none c none) E (cc2_down i arg2 harg2 arg3 harg3 arg4 harg4 arg5 harg5 arg6 harg6) K := by
  simp only [cc2_down_eq_skeleton]; unfold cc2_down_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr; swap; · iexact H4
  ipureintro
  refine (View.read_writes_full _ _ _ _ _).trans ?_
  (try delta run2.sl.r); (try delta run2.sl.r_12); (try delta run2.sl.r_11); (try delta run2.sl.r_10); (try delta run2.sl.r_9); (try delta run2.sl.r_8); (try delta run2.sl.r_7); (try delta run2.sl.r_6); (try delta run2.sl.r_5); (try delta run2.sl.r_4); (try delta run2.sl.r_3); (try delta run2.sl.r_2); (try delta run2.sl.r_1); (try delta run2.sl.r_0)
  (try rw [View.readAt_full arg2.view f0 inb_S1024x12288_S1024x12288_0_0, View.readAt_full arg3.view f1 inb_S1024x1_S1024x1_0_0, View.readAt_full arg4.view f2 inb_S12288x1024_S12288x1024_0_0, View.readAt_full arg5.view f3 inb_S1x1024_S1x1024_0_0])
  rfl

/-! ## The region's data, from any contents of the unscoped buffers -/

variable (V : (c : Dev nD) → (b : Ref sig .tc) → Buf (Elt F) ((c : Thread nD τ).loc b))

/-- The block a window stages at a point, from the contents the region finds. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The region's data: the arrays as found; after the body each input's buffer at its block and each output's at its
    value of the input blocks; nothing owed; each input at its share of its array. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => dnOut (blk2 V c 0 t) (blk2 V c 1 t) (blk2 V c 2 t) (blk2 V c 3 t)
  Φ _ := Pipeline.ΦA spec2 c
  q := Pipeline.shareOf spec2
  owed _ := 0

/-- The arrays are those the region finds. -/
theorem dat2_A (c : Dev nD) (w : Fin cfg2.W) : (dat2 V c).A w = V c (Pipeline.arrRef spec2 w) := by
  dsimp only [dat2]
/-- What the body leaves in window 0. -/
theorem dat2_after0 (c : Dev nD) (t : Fin cfg2.N) : (dat2 V c).after 0 t = blk2 V c 0 t := by dsimp only [dat2]
/-- What the body leaves in window 1. -/
theorem dat2_after1 (c : Dev nD) (t : Fin cfg2.N) : (dat2 V c).after 1 t = blk2 V c 1 t := by dsimp only [dat2]
/-- What the body leaves in window 2. -/
theorem dat2_after2 (c : Dev nD) (t : Fin cfg2.N) : (dat2 V c).after 2 t = blk2 V c 2 t := by dsimp only [dat2]
/-- What the body leaves in window 3. -/
theorem dat2_after3 (c : Dev nD) (t : Fin cfg2.N) : (dat2 V c).after 3 t = blk2 V c 3 t := by dsimp only [dat2]
/-- What the body leaves in window 4. -/
theorem dat2_after4 (c : Dev nD) (t : Fin cfg2.N) : (dat2 V c).after 4 t = dnOut (blk2 V c 0 t) (blk2 V c 1 t) (blk2 V c 2 t) (blk2 V c 3 t) := by dsimp only [dat2]
/-- What the body finds in window 0: its block. -/
theorem dat2_before0 (c : Dev nD) (t : Fin cfg2.N) (d) : (dat2 V c).before 0 t d = blk2 V c 0 t :=
  ((dat2 V c).before_in_eq_fetched 0 rfl (fun _ => rfl) (fun _ _ _ => rfl) (fun t => by rw [dat2_after0]; unfold Dat.blockOf blk2; rw [dat2_A]; try rfl) t d).trans
    (by unfold Dat.fetched Dat.blockOf blk2; rw [dat2_A]; try rfl)
/-- What the body finds in window 1: its block. -/
theorem dat2_before1 (c : Dev nD) (t : Fin cfg2.N) (d) : (dat2 V c).before 1 t d = blk2 V c 1 t :=
  ((dat2 V c).before_in_eq_fetched 1 rfl (fun _ => rfl) (fun _ _ _ => rfl) (fun t => by rw [dat2_after1]; unfold Dat.blockOf blk2; rw [dat2_A]; try rfl) t d).trans
    (by unfold Dat.fetched Dat.blockOf blk2; rw [dat2_A]; try rfl)
/-- What the body finds in window 2: its block. -/
theorem dat2_before2 (c : Dev nD) (t : Fin cfg2.N) (d) : (dat2 V c).before 2 t d = blk2 V c 2 t :=
  ((dat2 V c).before_in_eq_fetched 2 rfl (fun _ => rfl) (fun _ _ _ => rfl) (fun t => by rw [dat2_after2]; unfold Dat.blockOf blk2; rw [dat2_A]; try rfl) t d).trans
    (by unfold Dat.fetched Dat.blockOf blk2; rw [dat2_A]; try rfl)
/-- What the body finds in window 3: its block. -/
theorem dat2_before3 (c : Dev nD) (t : Fin cfg2.N) (d) : (dat2 V c).before 3 t d = blk2 V c 3 t :=
  ((dat2 V c).before_in_eq_fetched 3 rfl (fun _ => rfl) (fun _ _ _ => rfl) (fun t => by rw [dat2_after3]; unfold Dat.blockOf blk2; rw [dat2_A]; try rfl) t d).trans
    (by unfold Dat.fetched Dat.blockOf blk2; rw [dat2_A]; try rfl)

/-- What the body is called with at a point. -/
def pre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- What it returns. -/
def post2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point. -/
theorem sound2 (c : Dev nD) (t : Fin cfg2.N) :
    pre2 V c t ⊢ wp frame (wpE (defs₀ (F := F)) Variants.none c none) Set.univ (bodyAt2 t) (fun _ => post2 V c t) := by
  unfold pre2 post2 bodyAt2
  simp only [dat2_before0, dat2_before1, dat2_before2, dat2_before3]
  rw [show (dat2 V c).Φ t.succ = (dat2 V c).Φ t.castSucc from rfl,
    show (dat2 V c).owesAt () t.succ = (dat2 V c).owesAt () t.castSucc from rfl,
    dat2_after0, dat2_after1, dat2_after2, dat2_after3, dat2_after4]
  iintro ⟨HΦ, Ho, ⟨%d0, H0⟩, ⟨%d1, H1⟩, ⟨%d2, H2⟩, ⟨%d3, H3⟩, ⟨%d4, H4⟩⟩
  iapply (run2 c Set.univ (grid2.coords t) _ _ _ _ _ _ _ _ _ _ (blk2 V c 0 t) (blk2 V c 1 t) (blk2 V c 2 t) (blk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem oblig2 (c : Dev nD) : BodyObligation (dat2 (F := F) V c) (defs₀ (F := F)) Variants.none () Set.univ := fun t => by
  rw [bigSep_W2, bigSep_W2, show defs₀ (F := F) .tc cfg2.body (cfg2.bodyArgs t (cfg2.slots t)) = bodyAt2 t from by unfold defs₀; rw [Defs.onTc_tc]]
  exact triple_restated (sound2 V c t) rfl .rfl fun _ => .rfl

end Cert.Kernel.Gen

end
-- ==== Proof.Word.Run.lean ====
module

public import proofs.«01_k».proof.Proof.Gen.Kernel.Skeleton
public import proofs.«01_k».proof.Proof.Gen.Kernel.Launch
public import proofs.«01_k».proof.Proof.Gen.Kernel.Points
public import proofs.«01_k».proof.Proof.Gen.Kernel.Regions
public import proofs.«01_k».proof.Proof.Word.Region0
public import proofs.«01_k».proof.Proof.Word.Region1
public import proofs.«01_k».proof.Proof.Word.Region2
public import Idealize.ShloMosaic.Lib.Pipeline.RegionsLoop
public import Idealize.ShloMosaic.Lib.Pipeline.FrameBody
public import Idealize.ShloMosaic.Lib.Ring
public import Idealize.ShloMosaic.Lib.Tactic
public import Idealize.ShloMosaic.Lib.VecWindow

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

/-! # The whole program's run

The three regions one after the other between the host's stretches: what every buffer holds at the end. -/

variable (m : (ℓ : Loc nD τ sig) → Buf (Elt F) ℓ)

/-! ## What the buffers hold between the program's items -/

/-- The buffers when region 0 starts: the host has written its constants. -/
def X1 (c : Dev nD) : Valuation τ sig (Elt F) := V1 m c
/-- The codes region 0 leaves. -/
def out0a (c : Dev nD) : Buf (Elt F) ((c : Thread nD τ).loc main_v2_0) := (dat0 (fun c b => X1 m c b) c).arrAt 2 cfg0.N
/-- The scales region 0 leaves. -/
def out0b (c : Dev nD) : Buf (Elt F) ((c : Thread nD τ).loc main_v2_1) := (dat0 (fun c b => X1 m c b) c).arrAt 3 cfg0.N
/-- The buffers after region 0. -/
def X2 (c : Dev nD) : Valuation τ sig (Elt F) :=
  Function.update (Function.update (X1 m c) main_v2_0 (out0a m c)) main_v2_1 (out0b m c)
/-- The buffers when region 1 starts. -/
def X3 (c : Dev nD) : Valuation τ sig (Elt F) := StableHlo.after hostOps1 (X2 m c)
/-- The codes of the hidden layer region 1 leaves. -/
def out1a (c : Dev nD) : Buf (Elt F) ((c : Thread nD τ).loc main_v5_0) := (dat1 (fun c b => X3 m c b) c).arrAt 7 cfg1.N
/-- The scales of the hidden layer region 1 leaves. -/
def out1b (c : Dev nD) : Buf (Elt F) ((c : Thread nD τ).loc main_v5_1) := (dat1 (fun c b => X3 m c b) c).arrAt 8 cfg1.N
/-- The buffers after region 1. -/
def X4 (c : Dev nD) : Valuation τ sig (Elt F) :=
  Function.update (Function.update (X3 m c) main_v5_0 (out1a m c)) main_v5_1 (out1b m c)
/-- The buffers when region 2 starts. -/
def X5 (c : Dev nD) : Valuation τ sig (Elt F) := StableHlo.after hostOps2 (X4 m c)
/-- The result region 2 leaves. -/
def out2 (c : Dev nD) : Buf (Elt F) ((c : Thread nD τ).loc main_v7) := (dat2 (fun c b => X5 m c b) c).arrAt 4 cfg2.N
/-- The buffers at the program's end. -/
def X6 (c : Dev nD) : Valuation τ sig (Elt F) := Function.update (X5 m c) main_v7 (out2 m c)

/-- Two references that differ name different buffers. -/
theorem tc_ne {r s : Ref sig .tc} (h : r ≠ s) : (Proc.devRef .tc r : DevRef τ sig) ≠ Proc.devRef .tc s :=
  StableHlo.devRef_ne_of_ne h

/-- Region 0 changes its two outputs only. -/
theorem X2_of (c : Dev nD) (b : Ref sig .tc) (h0 : b ≠ main_v2_0) (h1 : b ≠ main_v2_1) : X2 m c b = X1 m c b :=
  (Function.update_of_ne (tc_ne h1) _ _).trans (Function.update_of_ne (tc_ne h0) _ _)
/-- The codes after region 0. -/
theorem X2_a (c : Dev nD) : X2 m c main_v2_0 = out0a m c :=
  (Function.update_of_ne (tc_ne (by decide)) _ _).trans (Function.update_self _ _ _)
/-- The scales after region 0. -/
theorem X2_b (c : Dev nD) : X2 m c main_v2_1 = out0b m c := Function.update_self _ _ _
/-- Region 1 changes its two outputs only. -/
theorem X4_of (c : Dev nD) (b : Ref sig .tc) (h0 : b ≠ main_v5_0) (h1 : b ≠ main_v5_1) : X4 m c b = X3 m c b :=
  (Function.update_of_ne (tc_ne h1) _ _).trans (Function.update_of_ne (tc_ne h0) _ _)
/-- The hidden codes after region 1. -/
theorem X4_a (c : Dev nD) : X4 m c main_v5_0 = out1a m c :=
  (Function.update_of_ne (tc_ne (by decide)) _ _).trans (Function.update_self _ _ _)
/-- The hidden scales after region 1. -/
theorem X4_b (c : Dev nD) : X4 m c main_v5_1 = out1b m c := Function.update_self _ _ _
/-- Region 2 changes its output only. -/
theorem X6_of (c : Dev nD) (b : Ref sig .tc) (h : b ≠ main_v7) : X6 m c b = X5 m c b := Function.update_of_ne (tc_ne h) _ _
/-- The result after region 2. -/
theorem X6_y (c : Dev nD) : X6 m c main_v7 = out2 m c := Function.update_self _ _ _

/-- The host's first stretch writes two buffers only. -/
theorem X1_of (c : Dev nD) (b : Ref sig .tc) (h : b ∉ hostOps0_W) : X1 m c b = m ((c : Thread nD τ).loc b) :=
  StableHlo.after_of_writes_sub hostOps0 _ hostOps0_writes h
/-- The host's second stretch writes two buffers only. -/
theorem X3_of (c : Dev nD) (b : Ref sig .tc) (h : b ∉ hostOps1_W) : X3 m c b = X2 m c b :=
  StableHlo.after_of_writes_sub hostOps1 _ hostOps1_writes h
/-- The host's third stretch writes one buffer only. -/
theorem X5_of (c : Dev nD) (b : Ref sig .tc) (h : b ∉ hostOps2_W) : X5 m c b = X4 m c b :=
  StableHlo.after_of_writes_sub hostOps2 _ hostOps2_writes h

/-- A buffer nothing writes holds at the end what it held at launch. -/
theorem X6_arg (c : Dev nD) (b : Ref sig .tc) (h : b ∉ [main_v0, main_v1, main_v2_0, main_v2_1, main_v3, main_v4, main_v5_0, main_v5_1, main_v6, main_v7]) :
    X6 m c b = m ((c : Thread nD τ).loc b) := by
  simp only [List.mem_cons, List.not_mem_nil, or_false, not_or] at h
  obtain ⟨h0, h1, h2, h3, h4, h5, h6, h7, h8, h9⟩ := h
  rw [X6_of m c b h9, X5_of m c b (by simp [hostOps2_W, h8]), X4_of m c b h6 h7, X3_of m c b (by simp [hostOps1_W, h4, h5]),
    X2_of m c b h2 h3, X1_of m c b (by simp [hostOps0_W, h0, h1])]

/-! ## The regions as segments of the run -/

/-- The three regions' data, each at the buffers it is entered with. -/
def pd (p : Fin 3) (c : Dev nD) : Dat τ (Elt F) Unit ℕ (UR sig nD τ) ℕ (cfgs p) c :=
  match p with
  | ⟨0, _⟩ => dat0 (fun c b => X1 m c b) c
  | ⟨1, _⟩ => dat1 (fun c b => X3 m c b) c
  | ⟨2, _⟩ => dat2 (fun c b => X5 m c b) c

/-- No core owes another anything: no level is assigned. -/
abbrev Lr : GSem nD τ sig → Finset Unit := fun _ => ∅
/-- The one level. -/
abbrev lvr : GSem nD τ sig → Unit → ℕ := fun _ _ => 0

/-- What rides beside the buffers: the generator's register and the core owing nothing. -/
def rideE (c : Dev nD) : sProp 𝕄 :=
  iprop((∃ r, prngReg c r) ∗ ∃ W, owes (c : Thread nD τ) (0 : CellTallies nD τ sig Unit) W)

/-- Every unscoped buffer of a core at its contents, with what rides beside. -/
def stateAt (W : Dev nD → Valuation τ sig (Elt F)) (c : Dev nD) : sProp 𝕄 :=
  iprop(StableHlo.held (c : Thread nD τ) (Pipeline.ucRefs τ sig) (W c) ∗ rideE c)

set_option backward.isDefEq.respectTransparency.types false in
/-- A region as a segment: entered by taking its arrays out of the unscoped buffers, left by putting them back. -/
def regSeg (p : Fin 3) (kit : Pipeline.LaunchFacts₀ (nD := nD) (τ := τ) cfgs p)
    (W W' : Dev nD → Valuation τ sig (Elt F))
    (hb : ∀ c, BodyObligation (pd m p c) (defs₀ (F := F)) Variants.none () Set.univ)
    (ho : ∀ c t, (pd m p c).owed t = 0)
    (hq : ∀ c w, (pd m p c).q w = Pipeline.shareOf (cfgs p).spec w)
    (hA : ∀ c w, (pd m p c).A w = W c (Pipeline.arrRef (cfgs p).spec w))
    (hrc : ∀ c x, x ∈ (pd m p c).recorded 0)
    (hi : ∀ c, Pipeline.ΦA (cfgs p).spec c ⊢ (pd m p c).Φ 0)
    (hl : ∀ c, (pd m p c).Φ (Fin.last (cfgs p).N) ⊢ Pipeline.ΦA (cfgs p).spec c)
    (hF : ∀ c w, (pd m p c).arrAt w (cfgs p).N = W' c (Pipeline.arrRef (cfgs p).spec w))
    (hr : ∀ c (b : Ref sig .tc), b ∉ Finset.univ.image (Pipeline.arrRef (cfgs p).spec) → W' c b = W c b) :
    RegionSeg (pcfgs (F := F)) adm (pd m) () (defs₀ (F := F)) Variants.none Lr lvr p where
  win := kit.win
  block_pos := kit.block_pos
  stage_whole := kit.stage_whole
  K := PEmpty
  osem k := k.elim
  ho := Pipeline.OwnSemFacts.none _
  hbody c := (hb c).loose
  hwaits := Pipeline.hwaits_of_owed_zero _ _ _ _ Lr lvr p ho
  pre c := stateAt W c
  post c := stateAt W' c
  X c := iprop(∃ r, prngReg c r)
  Y c := iprop(∃ r, prngReg c r)
  Z c := Pipeline.unscopedRest (Ix := Unit) (Name := ℕ) (U := UR sig nD τ) (Lvl := ℕ) (cfgs p).spec c (fun b => W c b)
  hentry c := by
    unfold stateAt rideE
    rw [Pipeline.ownSems0_none,
      show StableHlo.held (c : Thread nD τ) (Pipeline.ucRefs τ sig) (W c) = unscopedBufs c (fun b => W c b)
        from (Pipeline.unscopedBufs_held (Ix := Unit) (Name := ℕ) (U := UR sig nD τ) (Lvl := ℕ) c (W c)).symm]
    have hsplit := Pipeline.arrays_of_unscopedBufs_shared (p := p) (pcfgs (F := F)) adm (pd m) kit.win kit.sharedIn kit.arr_whole c
      (fun w _ => hq c w) (fun b => W c b) (fun w => hA c w)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [ho c 0]
      icases HO with ⟨%W0, HO⟩; iexists W0; isplitr; · ipureintro; exact fun _ _ => Or.inl (hrc c _)
      iexact HO
    isplitl [Hp]; · iexact Hp
    iexact Hrest
  hin c := (show _ ⊢ Pipeline.ΦA (cfgs p).spec c from by
    unfold Pipeline.ΦA; iintro ⟨Hp, -, Hr⟩
    isplitl [Hr] <;> iassumption).trans (hi c)
  hout c := (hl c).trans (by
    rw [Pipeline.ownSems0_none]; unfold Pipeline.ΦA
    iintro ⟨Hr, Hp⟩
    isplitl [Hp]; · iexact Hp
    isplitr; · iempintro
    iexact Hr)
  hexit c := by
    have hjoin := Pipeline.unscopedBufs_of_arrays_shared (p := p) (pcfgs (F := F)) adm (Ix := Unit) (Name := ℕ) (U := UR sig nD τ) (Lvl := ℕ)
      kit.win kit.sharedIn kit.arr_whole c (pd m) (fun w _ => hq c w)
      (fun b => W c b) (fun b => W' c b) ((pd m p c).arrAt · (cfgs p).N) (hF c) (hr c)
    unfold stateAt rideE
    rw [show StableHlo.held (c : Thread nD τ) (Pipeline.ucRefs τ sig) (W' c) = unscopedBufs c (fun b => W' c b)
        from (Pipeline.unscopedBufs_held (Ix := Unit) (Name := ℕ) (U := UR sig nD τ) (Lvl := ℕ) c (W' c)).symm]
    iintro ⟨Ha, HO, Hp, Hrest⟩
    imodintro
    isplitl [Ha Hrest]
    · iapply hjoin; isplitl [Ha] <;> iassumption
    isplitl [Hp]; · iexact Hp
    unfold Pipeline.Dat.owesAt Pipeline.owesWithin
    rw [ho c (Fin.last _)]
    icases HO with ⟨%W0, -, HO⟩; iexists W0; iexact HO

/-- Region 0's segment. -/
def sgX0 : RegionSeg (pcfgs (F := F)) adm (pd m) () (defs₀ (F := F)) Variants.none Lr lvr 0 :=
  regSeg m 0 launch0.to₀ (X1 m) (X2 m) (fun c => oblig0 _ c) (fun _ _ => rfl) (fun _ _ => rfl) (fun _ _ => rfl) (fun _ _ => trivial)
    (fun _ => .rfl) (fun _ => .rfl)
    (fun c w => by
      fin_cases w
      · exact ((pd m 0 c).arrAt_in 0 rfl _).trans (X2_of m c (Pipeline.arrRef spec0 0) (by decide) (by decide)).symm
      · exact ((pd m 0 c).arrAt_in 1 rfl _).trans (X2_of m c (Pipeline.arrRef spec0 1) (by decide) (by decide)).symm
      · exact (X2_a m c).symm
      · exact (X2_b m c).symm)
    (fun c b hb => X2_of m c b (fun h => hb (h ▸ Finset.mem_image.mpr ⟨2, Finset.mem_univ _, rfl⟩))
      (fun h => hb (h ▸ Finset.mem_image.mpr ⟨3, Finset.mem_univ _, rfl⟩)))

/-- Region 1's segment. -/
def sgX1 : RegionSeg (pcfgs (F := F)) adm (pd m) () (defs₀ (F := F)) Variants.none Lr lvr 1 :=
  regSeg m 1 launch₀1 (X3 m) (X4 m) (fun c => oblig1 _ c) (fun _ _ => rfl) (fun _ _ => rfl) (fun _ _ => rfl) (fun _ _ => trivial)
    (fun c => inv1_first _ c) (fun c => inv1_last _ c)
    (fun c w => by
      fin_cases w
      · exact ((pd m 1 c).arrAt_in 0 rfl _).trans (X4_of m c (Pipeline.arrRef spec1 0) (by decide) (by decide)).symm
      · exact ((pd m 1 c).arrAt_in 1 rfl _).trans (X4_of m c (Pipeline.arrRef spec1 1) (by decide) (by decide)).symm
      · exact ((pd m 1 c).arrAt_in 2 rfl _).trans (X4_of m c (Pipeline.arrRef spec1 2) (by decide) (by decide)).symm
      · exact ((pd m 1 c).arrAt_in 3 rfl _).trans (X4_of m c (Pipeline.arrRef spec1 3) (by decide) (by decide)).symm
      · exact ((pd m 1 c).arrAt_in 4 rfl _).trans (X4_of m c (Pipeline.arrRef spec1 4) (by decide) (by decide)).symm
      · exact ((pd m 1 c).arrAt_in 5 rfl _).trans (X4_of m c (Pipeline.arrRef spec1 5) (by decide) (by decide)).symm
      · exact ((pd m 1 c).arrAt_in 6 rfl _).trans (X4_of m c (Pipeline.arrRef spec1 6) (by decide) (by decide)).symm
      · exact (X4_a m c).symm
      · exact (X4_b m c).symm)
    (fun c b hb => X4_of m c b (fun h => hb (h ▸ Finset.mem_image.mpr ⟨7, Finset.mem_univ _, rfl⟩))
      (fun h => hb (h ▸ Finset.mem_image.mpr ⟨8, Finset.mem_univ _, rfl⟩)))

/-- Region 2's segment. -/
def sgX2 : RegionSeg (pcfgs (F := F)) adm (pd m) () (defs₀ (F := F)) Variants.none Lr lvr 2 :=
  regSeg m 2 launch2.to₀ (X5 m) (X6 m) (fun c => oblig2 _ c) (fun _ _ => rfl) (fun _ _ => rfl) (fun _ _ => rfl) (fun _ _ => trivial)
    (fun _ => .rfl) (fun _ => .rfl)
    (fun c w => by
      fin_cases w
      · exact ((pd m 2 c).arrAt_in 0 rfl _).trans (X6_of m c (Pipeline.arrRef spec2 0) (by decide)).symm
      · exact ((pd m 2 c).arrAt_in 1 rfl _).trans (X6_of m c (Pipeline.arrRef spec2 1) (by decide)).symm
      · exact ((pd m 2 c).arrAt_in 2 rfl _).trans (X6_of m c (Pipeline.arrRef spec2 2) (by decide)).symm
      · exact ((pd m 2 c).arrAt_in 3 rfl _).trans (X6_of m c (Pipeline.arrRef spec2 3) (by decide)).symm
      · exact (X6_y m c).symm)
    (fun c b hb => X6_of m c b (fun h => hb (h ▸ Finset.mem_image.mpr ⟨4, Finset.mem_univ _, rfl⟩)))

/-! ## The run -/

/-- The run's segments in order. -/
def segsX : Dev nD → List (Seg (pcfgs (F := F)) adm (pd m) () (defs₀ (F := F)) Variants.none Lr lvr) := fun _ => [
  .host (HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) rideE),
  .region (sgX0 m),
  .host (HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (X2 m) rideE),
  .region (sgX1 m),
  .host (HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (X4 m) rideE),
  .region (sgX2 m)]

set_option backward.isDefEq.respectTransparency.types false in
set_option maxHeartbeats 4000000 in
/-- THE RUN: from any memory the program ends with every unscoped buffer at the last contents and every counter at zero. -/
theorem run_all (ρ : Dev nD → PrngReg) :
    θ_run defs (onTc (τ := τ) (main (F := F))) ⟨m, fun _ => 0, ρ⟩ (fun r =>
      (∀ c : Dev nD, ∀ b ∈ Pipeline.ucRefs τ sig, r.2.mem ((c.tc : Thread nD τ).1, b) = X6 m c b) ∧ r.2.sem = fun _ => 0) := by
  refine Pipeline.θ_run_regions_kit_dev_sems (pcfgs (F := F)) adm (pd m) () cellOf_inj emb₁ defs₀ Variants.none Lr lvr m ρ main
    (segsX m)
    (fun c Q => by
      rewrite [main_chain c, Seg.run_eq_chain,
        show (segsX m c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      dsimp (config := { failIfUnchanged := false }) only
      exact .rfl)
    (fun c => by simp only [segsX, Seg.pipes_host, Seg.pipes_region, Seg.pipes_nil]; decide) (O₀ := 0) (hL := fun _ _ => rfl)
    (G := fun _ => iprop(emp)) (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ rideE c))
    (Tₙ := fun c => StableHlo.held (c : Thread nD τ) (Pipeline.ucRefs τ sig) (X6 m c))
    (hch := fun c => ⟨.rfl, .rfl, .rfl, .rfl, .rfl, .rfl,
      (show stateAt (X6 m) c ⊢ (_ : sProp 𝕄) from by
        unfold stateAt rideE
        iintro ⟨Hh, -, HO⟩
        isplitl [Hh] <;> iassumption)⟩)
    (hinit := by
      refine Pipeline.initEach Lr lvr fun c => ?_
      rw [show unscopedBufs c (fun b => m ((c.tc : Thread nD τ).loc b)) = StableHlo.held (c.tc : Thread nD τ) (Pipeline.ucRefs τ sig) (V0 m c)
          from Pipeline.unscopedBufs_held (Ix := Unit) (Name := ℕ) (U := UR sig nD τ) (Lvl := ℕ) c (V0 m c)]
      unfold rideE
      iintro ⟨⟨Hh, -, HO, -, Hp, -⟩, -⟩
      imodintro
      isplitl [Hh]; · iexact Hh
      isplitl [Hp]; · iexists _; iexact Hp
      iexists _; iexact HO)
    (QY := fun c s => ∀ b ∈ Pipeline.ucRefs τ sig, s.mem ((c.tc : Thread nD τ).1, b) = X6 m c b)
    (hfin := fun c s' => by
      unfold StableHlo.held
      iintro ⟨Hh, HSI⟩
      ihave Hr := (pointsTo_read_all (Pipeline.ucRefs τ sig) (fun b => ((c.tc : Thread nD τ).1, b)) (X6 m c) s') $$ [Hh HSI]
      · isplitl [Hh] <;> iassumption
      imodintro; iexact Hr)
    (hQ := fun _ h hz => ⟨h, funext fun g => hz g (.inr (regions_no_unscoped g.2))⟩)

end Cert.Kernel.Gen

end
-- ==== Proof.Word.Frame.lean ====
module

public import proofs.«01_k».proof.Proof.Word.Run

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

variable (m : (ℓ : Loc nD τ sig) → Buf (Elt F) ℓ)

/-- An unscoped buffer of the core is among those the run keeps. -/
theorem mem_ucRefs (b : Ref sig .tc) (h : (Proc.devRef (τ := τ) .tc b).isScoped = false) : (Proc.devRef .tc b : DevRef τ sig) ∈ Pipeline.ucRefs τ sig :=
  Finset.mem_filter.mpr ⟨StableHlo.devRef_mem_tcRefs b, by simp [h]⟩

/-- The program runs, leaves its seven arguments as they were and every counter at zero. -/
theorem frame (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨(h.1 c _ (mem_ucRefs main_arg0 (by decide))).trans (X6_arg m c main_arg0 (by decide)),
    (h.1 c _ (mem_ucRefs main_arg1 (by decide))).trans (X6_arg m c main_arg1 (by decide)),
    (h.1 c _ (mem_ucRefs main_arg2 (by decide))).trans (X6_arg m c main_arg2 (by decide)),
    (h.1 c _ (mem_ucRefs main_arg3 (by decide))).trans (X6_arg m c main_arg3 (by decide)),
    (h.1 c _ (mem_ucRefs main_arg4 (by decide))).trans (X6_arg m c main_arg4 (by decide)),
    (h.1 c _ (mem_ucRefs main_arg5 (by decide))).trans (X6_arg m c main_arg5 (by decide)),
    (h.1 c _ (mem_ucRefs main_arg6 (by decide))).trans (X6_arg m c main_arg6 (by decide))⟩, h.2⟩) (run_all m ρ)

end Cert.Kernel.Gen

end
-- ==== Proof.Val.Pow2.lean ====
module

public import Idealize.ShloMosaic.Lib.Pipeline.ValueKit

@[expose] public section

set_option maxRecDepth 16384

noncomputable section

namespace Cert.Val

open Idealize.ShloMosaic

/-! # Power-of-two exponents over the extended reals

The exponent both programs give a row: the count of the powers of two that do not exceed its magnitude. The kernel finds
it by eight comparisons, the reference counts. -/

/-- The power of two `2 ^ k`. -/
def pw (k : ℤ) : EReal := (((2 : ℝ) ^ k : ℝ) : EReal)

/-- A larger exponent, a larger power. -/
theorem pw_le {a b : ℤ} (h : a ≤ b) : pw a ≤ pw b := by
  unfold pw
  exact EReal.coe_le_coe_iff.mpr (zpow_le_zpow_right₀ (by norm_num) h)

/-- The powers multiply. -/
theorem pw_mul (a b : ℤ) : pw a * pw b = pw (a + b) := by
  unfold pw
  rw [← EReal.coe_mul, ← zpow_add₀ (by norm_num : (2 : ℝ) ≠ 0)]

/-- How many of the 254 normal powers of two do not exceed `a`. -/
def nthr (a : EReal) : ℕ := ((Finset.univ : Finset (Fin 254)).filter fun k => pw ((k.val : ℤ) - 126) ≤ a).card

/-- The exponent of a row: of the largest magnitude `m` and its scaled value `a`. -/
def expo (m a : EReal) : ℤ := if m = 0 then 0 else if pw (-126) ≤ a ∧ a < ⊤ then (nthr a : ℤ) - 126 else 0

/-- There are 254 powers to count. -/
theorem nthr_le (a : EReal) : nthr a ≤ 254 :=
  (Finset.card_filter_le _ _).trans (by simp)

/-- The powers that do not exceed `a` are the first ones. -/
theorem lt_nthr (a : EReal) (k : Fin 254) : pw ((k.val : ℤ) - 126) ≤ a ↔ k.val < nthr a := by
  constructor
  · intro h
    have hs : Finset.Iic k ⊆ (Finset.univ : Finset (Fin 254)).filter fun k => pw ((k.val : ℤ) - 126) ≤ a := by
      intro j hj
      rw [Finset.mem_Iic] at hj
      have hj' : j.val ≤ k.val := hj
      exact Finset.mem_filter.mpr ⟨Finset.mem_univ _, (pw_le (by omega)).trans h⟩
    have := Finset.card_le_card hs
    rw [Fin.card_Iic] at this
    exact Nat.lt_of_succ_le this
  · intro h
    by_contra hn
    have hs : ((Finset.univ : Finset (Fin 254)).filter fun k => pw ((k.val : ℤ) - 126) ≤ a) ⊆ Finset.Iio k := by
      intro j hj
      rw [Finset.mem_Iio]
      by_contra hk
      have hk' : k.val ≤ j.val := not_lt.mp hk
      exact hn ((pw_le (by omega)).trans (Finset.mem_filter.mp hj).2)
    have := Finset.card_le_card hs
    rw [Fin.card_Iio] at this
    exact absurd h (not_lt.mpr this)

/-- The exponent stays well inside the range of a float. -/
theorem expo_bounds (m a : EReal) : -126 ≤ expo m a ∧ expo m a ≤ 128 := by
  have := nthr_le a
  unfold expo
  split_ifs <;> omega

/-! ## Bit patterns of powers of two -/

/-- The bits whose exponent field is `f` and whose fraction is zero. -/
def fld (f : ℕ) : BitVec 32 := BitVec.ofNat 32 (f * 2 ^ 23)

/-- The float of these bits. -/
def tp (f : ℕ) : EReal := Ideal.ofBits .f32 (fld f)

/-- The fields of such a pattern. -/
theorem tp_fields : ∀ f : Fin 256, ((fld f.val).extractLsb' (8 + 23) 1 == 1#1) = false
    ∧ ((fld f.val).extractLsb' 23 8).toNat = f.val ∧ ((fld f.val).extractLsb' 0 23).toNat = 0 := by
  unfold fld
  decide +kernel

/-- A normal pattern is its power of two. -/
theorem tp_eq (f : ℕ) (h1 : 1 ≤ f) (h2 : f ≤ 254) : tp f = pw ((f : ℤ) - 127) := by
  obtain ⟨e1, e2, e3⟩ := tp_fields ⟨f, by omega⟩
  simp only at e1 e2 e3
  unfold tp pw
  show Ideal.ieee 8 23 _ = _
  unfold Ideal.ieee
  simp only [e1, e2, e3]
  rw [if_neg (by omega), if_neg (by omega)]
  congr 1
  have h23 : (2 : ℝ) ^ (23 : ℕ) = (2 : ℝ) ^ (23 : ℤ) := by norm_cast
  have : ((f : ℤ) - 127) = 23 + ((f : ℤ) - (2 ^ (8 - 1) - 1) - (23 : ℕ)) := by norm_num
  rw [this, zpow_add₀ (by norm_num : (2 : ℝ) ≠ 0)]
  norm_num

/-- The pattern of all ones in the exponent is infinity. -/
theorem tp_top : tp 255 = ⊤ := by
  obtain ⟨e1, e2, e3⟩ := tp_fields ⟨255, by omega⟩
  simp only at e1 e2 e3
  show Ideal.ieee 8 23 (fld 255) = ⊤
  unfold Ideal.ieee
  simp only [e1, e2, e3]
  norm_num

/-! ## The ladder of comparisons -/

/-- The power of two of an integer, put together from its bits. -/
def kp2 (n : BitVec 32) : EReal := Ideal.ofBits .f32 (IntOp.shli ArithUnit.vector (IntOp.addi n 127#32) 23#32)

/-- One comparison of the ladder. -/
def rung (a : EReal) (e km k : BitVec 32) : BitVec 32 := if kp2 (IntOp.addi e km) ≤ a then IntOp.addi e k else e

/-- The eight comparisons. -/
def ladder (a : EReal) : BitVec 32 :=
  rung a (rung a (rung a (rung a (rung a (rung a (rung a (rung a 4294967170#32 127#32 128#32) 63#32 64#32) 31#32 32#32) 15#32 16#32) 7#32 8#32) 3#32 4#32) 1#32 2#32) 0#32 1#32

/-- The exponent as the kernel forms it. -/
def expoBV (m a : EReal) : BitVec 32 :=
  if m = 0 then 0#32 else
    Scalar.select (IntOp.ori (IntOp.cmpi CmpIPredicate.eq (ladder a) 4294967170#32) (IntOp.cmpi CmpIPredicate.eq (ladder a) 129#32)) 0#32 (ladder a)

/-- The ladder's word for the count `n`. -/
def enc (n : ℕ) : BitVec 32 := BitVec.ofNat 32 n + 4294967170#32

/-- Shifting an exponent field into place. -/
theorem shl_field : ∀ f : Fin 256, IntOp.shli ArithUnit.vector (BitVec.ofNat 32 f.val) 23#32 = fld f.val := by
  decide +kernel

/-- The threshold a comparison of the ladder uses. -/
theorem kp2_enc (n k : ℕ) (km : BitVec 32) (hk : 1 ≤ k) (hkm : 4294967170#32 + km + 127#32 = BitVec.ofNat 32 k) (h : n + k ≤ 255) : kp2 (IntOp.addi (enc n) km) = tp (n + k) := by
  have e : IntOp.addi (IntOp.addi (enc n) km) 127#32 = BitVec.ofNat 32 (n + k) := by
    unfold IntOp.addi enc
    rw [BitVec.add_assoc (BitVec.ofNat 32 n), BitVec.add_assoc (BitVec.ofNat 32 n), hkm, ← BitVec.ofNat_add]
  unfold kp2 tp
  rw [e]
  have := shl_field ⟨n + k, by omega⟩
  simp only at this
  rw [this]

/-- Before a comparison by `k` the count is known to within `2k`. -/
def Inv (N K : ℕ) (e : BitVec 32) : Prop := ∃ n, e = enc n ∧ n ≤ N ∧ N < n + K ∧ n + K ≤ 256

/-- One comparison halves what is unknown of the count. -/
theorem rung_inv {a : EReal} {N : ℕ} (hN : ∀ f, 1 ≤ f → f ≤ 255 → (tp f ≤ a ↔ f ≤ N)) (k k2 : ℕ) (km kk : BitVec 32) (hk : 1 ≤ k)
    (hk2 : k2 = 2 * k) (hkm : 4294967170#32 + km + 127#32 = BitVec.ofNat 32 k) (hkk : kk = BitVec.ofNat 32 k) (e : BitVec 32) (h : Inv N k2 e) : Inv N k (rung a e km kk) := by
  obtain ⟨n, rfl, h1, h2, h3⟩ := h
  unfold rung
  rw [kp2_enc n k km hk hkm (by omega)]
  by_cases hc : n + k ≤ N
  · rw [if_pos ((hN _ (by omega) (by omega)).mpr hc)]
    refine ⟨n + k, ?_, hc, by omega, by omega⟩
    unfold IntOp.addi enc
    rw [hkk, BitVec.add_assoc, BitVec.add_comm 4294967170#32, ← BitVec.add_assoc, ← BitVec.ofNat_add]
  · rw [if_neg (fun hh => hc ((hN _ (by omega) (by omega)).mp hh))]
    exact ⟨n, rfl, h1, by omega, by omega⟩

/-- The ladder finds the count. -/
theorem ladder_eq {a : EReal} {N : ℕ} (hN : ∀ f, 1 ≤ f → f ≤ 255 → (tp f ≤ a ↔ f ≤ N)) (hb : N ≤ 255) : ladder a = enc N := by
  have h0 : Inv N 256 4294967170#32 := ⟨0, by decide, by omega, by omega, by omega⟩
  have h1 := rung_inv hN 128 256 127#32 128#32 (by omega) rfl (by decide) (by decide) _ h0
  have h2 := rung_inv hN 64 128 63#32 64#32 (by omega) rfl (by decide) (by decide) _ h1
  have h3 := rung_inv hN 32 64 31#32 32#32 (by omega) rfl (by decide) (by decide) _ h2
  have h4 := rung_inv hN 16 32 15#32 16#32 (by omega) rfl (by decide) (by decide) _ h3
  have h5 := rung_inv hN 8 16 7#32 8#32 (by omega) rfl (by decide) (by decide) _ h4
  have h6 := rung_inv hN 4 8 3#32 4#32 (by omega) rfl (by decide) (by decide) _ h5
  have h7 := rung_inv hN 2 4 1#32 2#32 (by omega) rfl (by decide) (by decide) _ h6
  have h8 := rung_inv hN 1 2 0#32 1#32 (by omega) rfl (by decide) (by decide) _ h7
  obtain ⟨n, e, hn1, hn2, -⟩ := h8
  have : n = N := by omega
  subst this
  exact e

/-- The count of the thresholds, infinity among them. -/
theorem tp_le_iff (a : EReal) (f : ℕ) (h1 : 1 ≤ f) (h2 : f ≤ 255) : tp f ≤ a ↔ f ≤ (if a = ⊤ then 255 else nthr a) := by
  by_cases ha : a = ⊤
  · rw [if_pos ha, ha]
    exact ⟨fun _ => h2, fun _ => le_top⟩
  · rw [if_neg ha]
    rcases Nat.lt_or_ge f 255 with h | h
    · rw [tp_eq f h1 (by omega)]
      have := lt_nthr a ⟨f - 1, by omega⟩
      have e : (((⟨f - 1, by omega⟩ : Fin 254).val : ℤ)) - 126 = (f : ℤ) - 127 := by
        show ((f - 1 : ℕ) : ℤ) - 126 = _; omega
      rw [e] at this
      rw [this]
      show f - 1 < _ ↔ _
      omega
    · have : f = 255 := by omega
      subst this
      rw [tp_top, top_le_iff]
      have := nthr_le a
      exact ⟨fun h => absurd h ha, fun h => by omega⟩

/-- The words of the counts, told apart. -/
theorem enc_cases : ∀ n : Fin 256, IntOp.ori (IntOp.cmpi CmpIPredicate.eq (enc n.val) 4294967170#32) (IntOp.cmpi CmpIPredicate.eq (enc n.val) 129#32)
      = (if n.val = 0 ∨ n.val = 255 then 1#1 else 0#1) ∧ enc n.val = BitVec.ofInt 32 ((n.val : ℤ) - 126) := by
  unfold enc
  decide +kernel

/-- The kernel's exponent is the count's. -/
theorem expoBV_eq (m a : EReal) : expoBV m a = BitVec.ofInt 32 (expo m a) := by
  unfold expoBV expo
  by_cases hm : m = 0
  · rw [if_pos hm, if_pos hm]; rfl
  rw [if_neg hm, if_neg hm]
  obtain ⟨N, hNd⟩ : ∃ N, N = (if a = ⊤ then 255 else nthr a) := ⟨_, rfl⟩
  have hb : N ≤ 255 := by
    have := nthr_le a
    rw [hNd]
    split <;> omega
  rw [ladder_eq (fun f g1 g2 => by rw [hNd]; exact tp_le_iff a f g1 g2) hb]
  obtain ⟨c1, c2⟩ := enc_cases ⟨N, Nat.lt_succ_of_le hb⟩
  simp only at c1 c2
  rw [c1, c2]
  have h1 := lt_nthr a ⟨0, by omega⟩
  have e0 : (((⟨0, by omega⟩ : Fin 254).val : ℤ)) - 126 = -126 := by simp
  rw [e0] at h1
  have h1' : pw (-126) ≤ a ↔ 0 < nthr a := h1
  by_cases ha : a = ⊤
  · rw [if_pos ha] at hNd
    rw [if_pos (.inr hNd), if_neg (fun h => absurd ha h.2.ne)]
    rfl
  rw [if_neg ha] at hNd
  subst hNd
  have := nthr_le a
  by_cases hz : nthr a = 0
  · rw [if_pos (.inl hz), if_neg (fun h => by have := h1'.mp h.1; omega)]
    rfl
  · rw [if_neg (by omega), if_pos ⟨h1'.mpr (by omega), lt_top_iff_ne_top.mpr ha⟩]
    rfl

/-- The two halves of an exponent as fields. -/
theorem half_fields : ∀ i : Fin 257,
    IntOp.shli ArithUnit.vector (IntOp.addi (IntOp.shrsi ArithUnit.vector (BitVec.ofInt 32 ((i.val : ℤ) - 128)) 1#32) 127#32) 23#32
        = fld (i.val / 2 + 63)
    ∧ IntOp.shli ArithUnit.vector (IntOp.addi (IntOp.subi (BitVec.ofInt 32 ((i.val : ℤ) - 128)) (IntOp.shrsi ArithUnit.vector (BitVec.ofInt 32 ((i.val : ℤ) - 128)) 1#32)) 127#32) 23#32
        = fld ((i.val + 1) / 2 + 63) := by
  decide +kernel

/-- The power of two of an exponent word, as the kernel forms it: a product of the two halves' powers. -/
def ldexpBV (e : BitVec 32) : EReal :=
  kp2 (IntOp.shrsi ArithUnit.vector e 1#32) * kp2 (IntOp.subi e (IntOp.shrsi ArithUnit.vector e 1#32))

/-- It is that power. -/
theorem ldexpBV_eq (k : ℤ) (h1 : -128 ≤ k) (h2 : k ≤ 128) : ldexpBV (BitVec.ofInt 32 k) = pw k := by
  obtain ⟨i, rfl⟩ : ∃ i : ℕ, k = (i : ℤ) - 128 := ⟨(k + 128).toNat, by omega⟩
  obtain ⟨e1, e2⟩ := half_fields ⟨i, by omega⟩
  simp only at e1 e2
  unfold ldexpBV kp2
  rw [e1, e2]
  change tp _ * tp _ = _
  rw [tp_eq _ (by omega) (by omega), tp_eq _ (by omega) (by omega), pw_mul]
  congr 1
  push_cast
  omega

/-- The negated exponent word. -/
theorem neg_ofInt (k : ℤ) : IntOp.subi 0#32 (BitVec.ofInt 32 k) = BitVec.ofInt 32 (-k) := by
  unfold IntOp.subi
  rw [BitVec.ofInt_neg]
  simp

/-! ## The quantiser of a row -/

/-- The largest magnitude of a row. -/
def rowMax {n : ℕ} (v : Fin n → EReal) : EReal := (Finset.univ : Finset (Fin n)).fold max ⊥ fun k => max (v k) (-v k)

/-- 1/448 as a float. -/
def cInv : EReal := Ideal.ofBits .f32 0x3B124925#32

/-- A row's exponent, from its largest magnitude. -/
def rexp (m : EReal) : ℤ := expo m (m * cInv)

/-- A row's scale. -/
def scaleOf (m : EReal) : EReal := pw (rexp m)
/-- The reciprocal of a row's scale. -/
def invOf (m : EReal) : EReal := pw (-rexp m)
/-- An entry's code, from the largest magnitude of its row. -/
def codeOf (m v : EReal) : EReal := min (Ideal.ofBits .f32 0x43E00000#32) (max (Ideal.ofBits .f32 0xC3E00000#32) (v * invOf m))

/-- The kernel's scale. -/
theorem ldexp_scale (m : EReal) : ldexpBV (expoBV m (m * cInv)) = scaleOf m := by
  rw [expoBV_eq]
  have := expo_bounds m (m * cInv)
  exact ldexpBV_eq _ (by omega) (by omega)

/-- The kernel's reciprocal scale. -/
theorem ldexp_inv (m : EReal) : ldexpBV (IntOp.subi 0#32 (expoBV m (m * cInv))) = invOf m := by
  rw [expoBV_eq, neg_ofInt]
  have := expo_bounds m (m * cInv)
  exact ldexpBV_eq _ (by omega) (by omega)

/-! ## The reference's exponent -/

/-- The powers of two as the reference's exponential gives them. -/
theorem exp2_int (k : ℤ) : Ideal.exp2 (((k : ℝ)) : EReal) = pw k := by
  unfold pw
  show ((Real.rpow 2 (k : ℝ) : ℝ) : EReal) = _
  congr 1
  exact Real.rpow_intCast 2 k

/-- The reference's count, as a sum of ones. -/
theorem sum_ones (a : EReal) : (∑ k : Fin 254, if pw ((k.val : ℤ) - 126) ≤ a then (1 : EReal) else 0) = ((nthr a : ℝ) : EReal) := by
  rw [Finset.sum_ite, Finset.sum_const_zero, add_zero, Finset.sum_const]
  unfold nthr
  rw [EReal.coe_natCast, nsmul_one]

/-! ## The two products -/

/-- A hidden value: the gate's and the up projection's products of a row of codes, scaled, gated and smoothed. -/
def hidOf {n : ℕ} (xr wg wu : Fin n → EReal) (s cg cu sd : EReal) : EReal :=
  Ideal.div ((∑ k, xr k * wg k) * s * cg * Ideal.logistic ((∑ k, xr k * wg k) * s * cg) * ((∑ k, xr k * wu k) * s * cu)) sd

/-- An output value: the down projection's product of a row of codes, scaled. -/
def yOf {n : ℕ} (hr wd : Fin n → EReal) (s c : EReal) : EReal := (∑ k, hr k * wd k) * s * c

end Cert.Val

end
-- ==== Proof.Val.KQuant.lean ====
module

public import proofs.«01_k».proof.Proof.Ideal.Region0
public import proofs.«01_k».proof.Proof.Ideal.GateStep
public import proofs.«01_k».proof.Proof.Val.Pow2

@[expose] public section

set_option maxRecDepth 16384

noncomputable section

namespace Cert.KernelIdeal.Gen

open Idealize.ShloMosaic Idealize.ShloMosaic.TcCoe Idealize.SL.Sem Cert.Val

/-! # The kernel's row quantiser, at an index -/

/-- The bits of minus infinity. -/
theorem ofBits_negInf : Ideal.ofBits .f32 0xFF800000#32 = ⊥ := by
  show Ideal.ieee 8 23 0xFF800000#32 = ⊥
  unfold Ideal.ieee
  rw [if_pos (by decide), if_pos (by decide), if_pos (by decide)]

/-! ## Activations -/

/-- A row's largest magnitude. -/
theorem q_max (x0 : Vec Ideal S256x4096 .f32) (x1 : Vec Ideal S1x4096 .f32) (i : S256x1.Idx) :
    k0_pay3 x0 x1 i = rowMax fun k => Ideal.div (x0 (ix2 (i 0) k)) (x1 (ix2 0 k)) := by
  pointwise [k0_pay3, k0_pay2]
  rw [ofBits_negInf]
  rfl

/-- A scaled vector at an index. -/
theorem q_scaled_of (a : FVec Ideal S256x1 .f32) (i : S256x1.Idx) :
    mulf a (broadcast S256x1 (Scalar.ofBits .f32 0x3B124925#32)) i = a i * cInv := rfl

/-- The scaled magnitude. -/
theorem q_scaled (x0 : Vec Ideal S256x4096 .f32) (x1 : Vec Ideal S1x4096 .f32) (i : S256x1.Idx) :
    k0_pay4 x0 x1 i = k0_pay3 x0 x1 i * cInv := by
  delta k0_pay4
  exact q_scaled_of (k0_pay3 x0 x1) i

/-- Two comparisons of a vector. -/
theorem q_five_of (a : FVec Ideal S256x1 .f32) (i : S256x1.Idx) :
    (have v11 : IVec S256x1 32 := broadcast S256x1 4294967170#32
     have v18 : FVec Ideal S256x1 .f32 := bitcastToFloat .f32 (shli (addi (addi v11 (broadcast S256x1 127#32)) (broadcast S256x1 127#32)) (broadcast S256x1 23#32))
     have v22 : IVec S256x1 32 := select (cmpf .oge a v18) (addi v11 (broadcast S256x1 128#32)) v11
     have v29 : FVec Ideal S256x1 .f32 := bitcastToFloat .f32 (shli (addi (addi v22 (broadcast S256x1 63#32)) (broadcast S256x1 127#32)) (broadcast S256x1 23#32))
     select (cmpf .oge a v29) (addi v22 (broadcast S256x1 64#32)) v22 : IVec S256x1 32) i
      = rung (a i) (rung (a i) 4294967170#32 127#32 128#32) 63#32 64#32 := by
  pointwise []
  rfl

/-- The first two comparisons. -/
theorem q_five (x0 : Vec Ideal S256x4096 .f32) (x1 : Vec Ideal S1x4096 .f32) (i : S256x1.Idx) :
    k0_pay5 x0 x1 i = rung (k0_pay4 x0 x1 i) (rung (k0_pay4 x0 x1 i) 4294967170#32 127#32 128#32) 63#32 64#32 := by
  delta k0_pay5
  exact q_five_of (k0_pay4 x0 x1) i

/-- The third threshold. -/
theorem q_six (x0 : Vec Ideal S256x4096 .f32) (x1 : Vec Ideal S1x4096 .f32) (i : S256x1.Idx) :
    k0_pay6 x0 x1 i = kp2 (IntOp.addi (k0_pay5 x0 x1 i) 31#32) := by
  pointwise [k0_pay6]
  rfl

/-- Four more comparisons. -/
theorem q_mid (v10 : FVec Ideal S256x1 .f32) (v33 : IVec S256x1 32) (v40 : FVec Ideal S256x1 .f32) (i : S256x1.Idx) :
    k0_pay7 v10 v33 v40 i = rung (v10 i) (rung (v10 i) (rung (v10 i) (if v40 i ≤ v10 i then IntOp.addi (v33 i) 32#32 else v33 i) 15#32 16#32) 7#32 8#32) 3#32 4#32 := by
  pointwise [k0_pay7]
  rfl

/-- The seventh threshold. -/
theorem q_thr (v10 : FVec Ideal S256x1 .f32) (v33 : IVec S256x1 32) (v40 : FVec Ideal S256x1 .f32) (i : S256x1.Idx) :
    k0_pay8 v10 v33 v40 i = kp2 (IntOp.addi (k0_pay7 v10 v33 v40 i) 1#32) := by
  pointwise [k0_pay8]
  rfl

/-- The last two comparisons and the exceptional rows. -/
theorem q_last (v8 v10 : FVec Ideal S256x1 .f32) (v77 : IVec S256x1 32) (v84 : FVec Ideal S256x1 .f32) (i : S256x1.Idx)
    (h : rung (v10 i) (if v84 i ≤ v10 i then IntOp.addi (v77 i) 2#32 else v77 i) 0#32 1#32 = ladder (v10 i)) :
    k0_pay9 v8 v10 v77 v84 i = expoBV (v8 i) (v10 i) := by
  unfold expoBV
  rw [← h]
  pointwise [k0_pay9]
  rfl

/-- The ladder, put together. -/
theorem q_ladder (x0 : Vec Ideal S256x4096 .f32) (x1 : Vec Ideal S1x4096 .f32) (i : S256x1.Idx) :
    rung (k0_pay4 x0 x1 i) (if qThr x0 x1 i ≤ k0_pay4 x0 x1 i then IntOp.addi (qExpMid x0 x1 i) 2#32 else qExpMid x0 x1 i) 0#32 1#32 = ladder (k0_pay4 x0 x1 i) := by
  have h5 := q_five x0 x1 i
  have h6 := q_six x0 x1 i
  have h7 := q_mid (k0_pay4 x0 x1) (k0_pay5 x0 x1) (k0_pay6 x0 x1) i
  have h8 := q_thr (k0_pay4 x0 x1) (k0_pay5 x0 x1) (k0_pay6 x0 x1) i
  unfold qThr qExpMid
  revert h5 h6 h7 h8
  generalize k0_pay8 (k0_pay4 x0 x1) (k0_pay5 x0 x1) (k0_pay6 x0 x1) i = a8
  generalize k0_pay7 (k0_pay4 x0 x1) (k0_pay5 x0 x1) (k0_pay6 x0 x1) i = a7
  generalize k0_pay6 x0 x1 i = a6
  generalize k0_pay5 x0 x1 i = a5
  generalize k0_pay4 x0 x1 i = a4
  intro h5 h6 h7 h8
  unfold ladder
  rw [← h5]
  have e6 : (if a6 ≤ a4 then IntOp.addi a5 32#32 else a5) = rung a4 a5 31#32 32#32 := by rw [h6]; rfl
  rw [e6] at h7
  rw [← h7]
  have e8 : (if a8 ≤ a4 then IntOp.addi a7 2#32 else a7) = rung a4 a7 1#32 2#32 := by rw [h8]; rfl
  rw [e8]

/-- A row's exponent. -/
theorem q_exp (x0 : Vec Ideal S256x4096 .f32) (x1 : Vec Ideal S1x4096 .f32) (i : S256x1.Idx) :
    k0_pay9 (k0_pay3 x0 x1) (k0_pay4 x0 x1) (qExpMid x0 x1) (qThr x0 x1) i = expoBV (k0_pay3 x0 x1 i) (k0_pay3 x0 x1 i * cInv) := by
  rw [q_last _ _ _ _ _ (q_ladder x0 x1 i), q_scaled]

/-- The scale of an exponent. -/
theorem q_ten (v8 v10 : FVec Ideal S256x1 .f32) (v77 : IVec S256x1 32) (v84 : FVec Ideal S256x1 .f32) (i : S256x1.Idx) :
    k0_pay10 v8 v10 v77 v84 i = ldexpBV (k0_pay9 v8 v10 v77 v84 i) := by
  unfold k0_pay10
  generalize k0_pay9 v8 v10 v77 v84 = e
  rfl

/-- The negated exponent. -/
theorem q_neg (v8 v10 : FVec Ideal S256x1 .f32) (v77 : IVec S256x1 32) (v84 : FVec Ideal S256x1 .f32) (i : S256x1.Idx) :
    k0_pay11 v8 v10 v77 v84 i = IntOp.subi 0#32 (k0_pay9 v8 v10 v77 v84 i) := by
  unfold k0_pay11
  generalize k0_pay9 v8 v10 v77 v84 = e
  rfl

/-- The code of an entry, from the negated exponents. -/
theorem q_one (v5 : FVec Ideal S256x4096 .f32) (e : IVec S256x1 32) (i : S256x4096.Idx) :
    k0_pay1 v5 e k0_pay12 i = min (Ideal.ofBits .f32 0x43E00000#32) (max (Ideal.ofBits .f32 0xC3E00000#32) (v5 i * ldexpBV (e (ix2 (i 0) 0)))) := by
  pointwise [k0_pay1, k0_pay12]
  rfl

/-- A row's scale. -/
theorem q_scale (x0 : Vec Ideal S256x4096 .f32) (x1 : Vec Ideal S1x4096 .f32) (i : S256x1.Idx) :
    qScales x0 x1 i = scaleOf (rowMax fun k => Ideal.div (x0 (ix2 (i 0) k)) (x1 (ix2 0 k))) := by
  unfold qScales
  rw [q_ten, q_exp, ldexp_scale, q_max]

/-- The scaled activations. -/
theorem q_div (x0 : Vec Ideal S256x4096 .f32) (x1 : Vec Ideal S1x4096 .f32) (i : S256x4096.Idx) :
    k0_pay2 x0 x1 i = Ideal.div (x0 i) (x1 (ix2 0 (i 1))) := by
  pointwise [k0_pay2]

/-- An entry's code. -/
theorem q_code (x0 : Vec Ideal S256x4096 .f32) (x1 : Vec Ideal S1x4096 .f32) (i : S256x4096.Idx) :
    qCodes x0 x1 i = codeOf (rowMax fun k => Ideal.div (x0 (ix2 (i 0) k)) (x1 (ix2 0 k))) (Ideal.div (x0 i) (x1 (ix2 0 (i 1)))) := by
  unfold qCodes
  rw [q_one, q_neg, q_exp, ldexp_inv, q_max, q_div]
  rfl

/-! ## Hidden values -/

variable (i : grid1.Coords) (A P : Vec Ideal S512x128 .f32)

/-- The carried lane maxima a step uses. -/
abbrev gUse (i : grid1.Coords) (A P : Vec Ideal S512x128 .f32) : Vec Ideal S512x128 .f32 := k1_pay24 i A P

/-- A row's largest magnitude, from its lanes. -/
theorem h_max (r : S512x1.Idx) : k1_pay26 i A P r = (Finset.univ : Finset (Fin 128)).fold max ⊥ fun l => gUse i A P (ix2 (r 0) l) := by
  pointwise [k1_pay26]
  rw [ofBits_negInf]

/-- The scaled magnitude. -/
theorem h_scaled (r : S512x1.Idx) : k1_pay27 i A P r = k1_pay26 i A P r * cInv := by
  pointwise [k1_pay27]
  rfl

/-- The first comparison. -/
theorem h_one (r : S512x1.Idx) : k1_pay28 i A P r = rung (k1_pay27 i A P r) 4294967170#32 127#32 128#32 := by
  pointwise [k1_pay28]
  rfl

/-- Four more comparisons. -/
theorem h_mid (r : S512x1.Idx) : k1_pay30 (k1_pay27 i A P) (k1_pay28 i A P) (k1_pay29 i A P) r
    = rung (k1_pay27 i A P r) (rung (k1_pay27 i A P r) (rung (k1_pay27 i A P r) (rung (k1_pay27 i A P r) (k1_pay28 i A P r) 63#32 64#32) 31#32 32#32) 15#32 16#32) 7#32 8#32 := by
  pointwise [k1_pay30, k1_pay29]
  rfl

/-- The remaining comparisons and the exceptional rows. -/
theorem h_exp (r : S512x1.Idx) : gExp i A P r = expoBV (k1_pay26 i A P r) (k1_pay26 i A P r * cInv) := by
  rw [← h_scaled]
  unfold gExp expoBV ladder
  rw [← h_one, ← h_mid]
  pointwise [k1_pay32, k1_pay31]
  rfl

/-- A row's scale. -/
theorem h_scale (r : S512x1.Idx) : gSh i A P r = scaleOf ((Finset.univ : Finset (Fin 128)).fold max ⊥ fun l => gUse i A P (ix2 (r 0) l)) := by
  rw [← h_max, ← ldexp_scale, ← h_exp]
  unfold gSh
  pointwise [k1_pay1, k1_pay34, k1_pay33]
  rfl

/-- An entry's code. -/
theorem h_code (T : Vec Ideal S512x1024 .f32) (r : S512x1024.Idx) :
    gHq i A P T r = codeOf ((Finset.univ : Finset (Fin 128)).fold max ⊥ fun l => gUse i A P (ix2 (r 0) l)) (T r) := by
  have e : gHq i A P T r = codeOf (k1_pay26 i A P (ix2 (r 0) 0)) (T r) := by
    unfold gHq codeOf
    rw [← ldexp_inv, ← h_exp]
    pointwise [k1_pay4, k1_pay2]
    rfl
  rw [e, h_max]
  rfl

end Cert.KernelIdeal.Gen

end
-- ==== Proof.Val.KGate.lean ====
module

public import proofs.«01_k».proof.Proof.Ideal.Region2
public import proofs.«01_k».proof.Proof.Ideal.GateStep
public import proofs.«01_k».proof.Proof.Val.Pow2

@[expose] public section

set_option maxRecDepth 16384

noncomputable section

namespace Cert.KernelIdeal.Gen

open Idealize.ShloMosaic Idealize.ShloMosaic.TcCoe Idealize.SL.Sem Cert.Val

/-! # The kernel's two products, at an index -/

/-- A hidden value of a step's tile, from the blocks it stages. -/
def hTile (x0 : Vec Ideal S512x4096 .fp8e4m3) (x1 : Vec Ideal S512x1 .f32) (x2 x3 : Vec Ideal S4096x1024 .fp8e4m3) (x4 x5 x6 : Vec Ideal S1x1024 .f32)
    (r : Fin 512) (c : Fin 1024) : EReal :=
  hidOf (fun k => x0 (ix2 r k)) (fun k => x2 (ix2 k c)) (fun k => x3 (ix2 k c)) (x1 (ix2 r 0)) (x4 (ix2 0 c)) (x5 (ix2 0 c)) (x6 (ix2 0 c))

/-- A quarter of a step's tile, from its own blocks. -/
theorem g_pay (x0 : FVec Ideal S512x4096 .fp8e4m3) (x1 : FVec Ideal S512x1 .f32) (w2 w3 : Vec Ideal S4096x256 .fp8e4m3) (w4 w5 w6 : Vec Ideal S1x256 .f32)
    (i : S512x256.Idx) : k1_pay13 (k1_pay5 x0) (k1_pay6 x1) w2 w3 w4 w5 w6 i
      = hidOf (fun k => x0 (ix2 (i 0) k)) (fun k => w2 (ix2 k (i 1))) (fun k => w3 (ix2 k (i 1))) (x1 (ix2 (i 0) 0)) (w4 (ix2 0 (i 1))) (w5 (ix2 0 (i 1))) (w6 (ix2 0 (i 1))) := by
  pointwise [k1_pay13, k1_pay5, k1_pay6]
  rfl

/-- A column of the `k`-th quarter of a tile. -/
def qCol (k : Fin 4) (c : Fin 256) : Fin 1024 := ⟨256 * k.val + c.val, by omega⟩

/-- A column of a quarter of the weights' tile. -/
theorem window_w (x : Vec Ideal S4096x1024 .fp8e4m3) (k : Fin 4) (a : Fin 4096) (c : Fin 256) :
    VecWindow.window x ![0, 256 * k.val] S4096x256.size (gW_inb k) (ix2 a c) = x (ix2 a (qCol k c)) := by
  unfold VecWindow.window
  congr 1
  funext b
  apply Fin.ext
  fin_cases b
  · show 0 + 1 * a.val = a.val; omega
  · show 256 * k.val + 1 * c.val = _; rw [Nat.one_mul]; rfl

/-- A column of a quarter of a row of factors. -/
theorem window_r (x : Vec Ideal S1x1024 .f32) (k : Fin 4) (c : Fin 256) :
    VecWindow.window x ![0, 256 * k.val] S1x256.size (gR_inb k) (ix2 0 c) = x (ix2 0 (qCol k c)) := by
  unfold VecWindow.window
  congr 1
  funext b
  apply Fin.ext
  fin_cases b
  · rfl
  · show 256 * k.val + 1 * c.val = _; rw [Nat.one_mul]; rfl

/-- A quarter of a step's tile. -/
theorem g_chunk (x0 : Vec Ideal S512x4096 .fp8e4m3) (x1 : Vec Ideal S512x1 .f32) (x2 x3 : Vec Ideal S4096x1024 .fp8e4m3) (x4 x5 x6 : Vec Ideal S1x1024 .f32) (k : Fin 4)
    (i : S512x256.Idx) : gChunk x0 x1 x2 x3 x4 x5 x6 k i = hTile x0 x1 x2 x3 x4 x5 x6 (i 0) (qCol k (i 1)) := by
  unfold gChunk hTile
  rw [g_pay]
  congr 1
  · funext a
    exact window_w x2 k a (i 1)
  · funext a
    exact window_w x3 k a (i 1)
  · exact window_r x4 k (i 1)
  · exact window_r x5 k (i 1)
  · exact window_r x6 k (i 1)

/-- An output value of a block. -/
theorem d_out (x0 : Vec Ideal S1024x12288 .fp8e4m3) (x1 : Vec Ideal S1024x1 .f32) (x2 : Vec Ideal S12288x1024 .fp8e4m3) (x3 : Vec Ideal S1x1024 .f32) (i : S1024x1024.Idx) :
    dnOut x0 x1 x2 x3 i = yOf (fun k => x0 (ix2 (i 0) k)) (fun k => x2 (ix2 k (i 1))) (x1 (ix2 (i 0) 0)) (x3 (ix2 0 (i 1))) := by
  pointwise [dnOut, k2_pay1]
  rfl

/-- Lane maxima raised by a quarter tile. -/
theorem g_max (p : FVec Ideal S512x128 .f32) (w : FVec Ideal S512x256 .f32) (i : S512x128.Idx) :
    gMax p w i = max (max (p i) (max (w (ix2 (i 0) ⟨(i 1).val, (i 1).isLt.trans (by decide)⟩)) (-w (ix2 (i 0) ⟨(i 1).val, (i 1).isLt.trans (by decide)⟩))))
      (max (w (ix2 (i 0) ⟨128 + (i 1).val, Nat.add_lt_add_left (i 1).isLt 128⟩)) (-w (ix2 (i 0) ⟨128 + (i 1).val, Nat.add_lt_add_left (i 1).isLt 128⟩))) := by
  pointwise [gMax]
  rfl

/-- The cleared maxima, or the ones carried. -/
theorem g_start (b : BitVec 1) (A : Vec Ideal S512x128 .f32) (i : S512x128.Idx) : k1_pay7 b A i = if b = 1#1 then 0 else A i := by
  have h0 : Ideal.ofBits .f32 0x00000000#32 = 0 := Ideal.ofBits_zero_f32
  unfold k1_pay7
  by_cases h : b = 1#1
  · rw [if_pos h]
    simp only [Scalar.select, h, if_true]
    exact h0
  · rw [if_neg h]
    unfold Scalar.select
    rw [if_neg (show ¬ b = 1 from h)]

end Cert.KernelIdeal.Gen

end
-- ==== Proof.Val.KVal02.lean ====
module

public import proofs.«01_k».proof.Proof.Val.KQuant
public import proofs.«01_k».proof.Proof.Val.KGate

@[expose] public section

set_option maxRecDepth 16384

noncomputable section

namespace Cert.KernelIdeal.Gen

open Idealize.ShloMosaic Idealize.ShloMosaic.TcCoe Idealize.SL.Sem Cert.Val

/-! # What the kernel's first and last regions compute -/

variable (V : (c : Dev nD) → (b : Ref sig .tc) → Buf (Elt Ideal) ((c : Thread nD τ).loc b)) (c : Dev nD)

/-- The rows a point of the first kernel reads. -/
theorem kidx0_0 : ∀ t : Fin cfg0.N, win0_0.index t = ![t.val, 0] := (by decide +kernel : ∀ t : Fin grid0.N, _)
/-- The smoothing factors it reads. -/
theorem kidx0_1 : ∀ t : Fin cfg0.N, win0_1.index t = ![0, 0] := (by decide +kernel : ∀ t : Fin grid0.N, _)
/-- The rows of codes it writes. -/
theorem kidx0_2 : ∀ t : Fin cfg0.N, win0_2.index t = ![t.val, 0] := (by decide +kernel : ∀ t : Fin grid0.N, _)
/-- The rows of scales it writes. -/
theorem kidx0_3 : ∀ t : Fin cfg0.N, win0_3.index t = ![t.val, 0] := (by decide +kernel : ∀ t : Fin grid0.N, _)
/-- The rows of codes a point of the last kernel reads. -/
theorem kidx2_0 : ∀ t : Fin cfg2.N, win2_0.index t = ![t.val / 4, 0] := (by decide +kernel : ∀ t : Fin grid2.N, _)
/-- The rows of scales it reads. -/
theorem kidx2_1 : ∀ t : Fin cfg2.N, win2_1.index t = ![t.val / 4, 0] := (by decide +kernel : ∀ t : Fin grid2.N, _)
/-- The columns of weights it reads. -/
theorem kidx2_2 : ∀ t : Fin cfg2.N, win2_2.index t = ![0, t.val % 4] := (by decide +kernel : ∀ t : Fin grid2.N, _)
/-- The columns of factors it reads. -/
theorem kidx2_3 : ∀ t : Fin cfg2.N, win2_3.index t = ![0, t.val % 4] := (by decide +kernel : ∀ t : Fin grid2.N, _)
/-- The block of the output it writes. -/
theorem kidx2_4 : ∀ t : Fin cfg2.N, win2_4.index t = ![t.val / 4, t.val % 4] := (by decide +kernel : ∀ t : Fin grid2.N, _)

/-- The scales of the activations. -/
theorem k_sx : (dat0 V c).arrAt 3 cfg0.N = fun (i : S8192x1.Idx) =>
    scaleOf (rowMax fun k : Fin 4096 => Ideal.div ((V c main_v0 : Vec Ideal S8192x4096 .f32) (ix2 (i 0) k)) ((V c main_v1 : Vec Ideal S1x4096 .f32) (ix2 0 k))) := by
  refine (dat0 V c).arrAt_eq_of_covers 3 _ (by decide +kernel) fun t hf y => ?_
  blk_simp
  rw [dat0_after3, q_scale]
  have h0 : ∀ k : Fin 4096, blk0 V c 0 t (ix2 (y 0) k) = (V c main_v0 : Vec Ideal S8192x4096 .f32) (ix2 ((win0_3.blk t).view.emb y 0) k) := fun k => by
    blk_point [blk0, kidx0_0 t, kidx0_3 t]
  have h1 : ∀ k : Fin 4096, blk0 V c 1 t (ix2 0 k) = (V c main_v1 : Vec Ideal S1x4096 .f32) (ix2 0 k) := fun k => by
    blk_point [blk0, kidx0_1 t]
  simp only [h0, h1]

/-- The codes of the activations. -/
theorem k_xq : (dat0 V c).arrAt 2 cfg0.N = fun (i : S8192x4096.Idx) =>
    codeOf (rowMax fun k : Fin 4096 => Ideal.div ((V c main_v0 : Vec Ideal S8192x4096 .f32) (ix2 (i 0) k)) ((V c main_v1 : Vec Ideal S1x4096 .f32) (ix2 0 k)))
      (Ideal.div ((V c main_v0 : Vec Ideal S8192x4096 .f32) i) ((V c main_v1 : Vec Ideal S1x4096 .f32) (ix2 0 (i 1)))) := by
  refine (dat0 V c).arrAt_eq_of_covers 2 _ (by decide +kernel) fun t hf y => ?_
  blk_simp
  rw [dat0_after2, q_code]
  have h0 : ∀ k : Fin 4096, blk0 V c 0 t (ix2 (y 0) k) = (V c main_v0 : Vec Ideal S8192x4096 .f32) (ix2 ((win0_2.blk t).view.emb y 0) k) := fun k => by
    blk_point [blk0, kidx0_0 t, kidx0_2 t]
  have h1 : ∀ k : Fin 4096, blk0 V c 1 t (ix2 0 k) = (V c main_v1 : Vec Ideal S1x4096 .f32) (ix2 0 k) := fun k => by
    blk_point [blk0, kidx0_1 t]
  have h2 : blk0 V c 0 t y = (V c main_v0 : Vec Ideal S8192x4096 .f32) ((win0_2.blk t).view.emb y) := by
    blk_point [blk0, kidx0_0 t, kidx0_2 t]
  have h3 : blk0 V c 1 t (ix2 0 (y 1)) = (V c main_v1 : Vec Ideal S1x4096 .f32) (ix2 0 ((win0_2.blk t).view.emb y 1)) := by
    blk_point [blk0, kidx0_1 t, kidx0_2 t]
  simp only [h0, h1, h2, h3]

/-- The output. -/
theorem k_y : (dat2 V c).arrAt 4 cfg2.N = fun (i : S8192x4096.Idx) =>
    yOf (fun k : Fin 12288 => (V c main_v5_0 : Vec Ideal S8192x12288 .fp8e4m3) (ix2 (i 0) k)) (fun k => (V c main_arg5 : Vec Ideal S12288x4096 .fp8e4m3) (ix2 k (i 1)))
      ((V c main_v5_1 : Vec Ideal S8192x1 .f32) (ix2 (i 0) 0)) ((V c main_v6 : Vec Ideal S1x4096 .f32) (ix2 0 (i 1))) := by
  refine (dat2 V c).arrAt_eq_of_covers 4 _ (by decide +kernel) fun t hf y => ?_
  blk_simp
  rw [dat2_after4, d_out]
  have h0 : ∀ k : Fin 12288, blk2 V c 0 t (ix2 (y 0) k) = (V c main_v5_0 : Vec Ideal S8192x12288 .fp8e4m3) (ix2 ((win2_4.blk t).view.emb y 0) k) := fun k => by
    blk_point [blk2, kidx2_0 t, kidx2_4 t]
  have h1 : blk2 V c 1 t (ix2 (y 0) 0) = (V c main_v5_1 : Vec Ideal S8192x1 .f32) (ix2 ((win2_4.blk t).view.emb y 0) 0) := by
    blk_point [blk2, kidx2_1 t, kidx2_4 t]
  have h2 : ∀ k : Fin 12288, blk2 V c 2 t (ix2 k (y 1)) = (V c main_arg5 : Vec Ideal S12288x4096 .fp8e4m3) (ix2 k ((win2_4.blk t).view.emb y 1)) := fun k => by
    blk_point [blk2, kidx2_2 t, kidx2_4 t]
  have h3 : blk2 V c 3 t (ix2 0 (y 1)) = (V c main_v6 : Vec Ideal S1x4096 .f32) (ix2 0 ((win2_4.blk t).view.emb y 1)) := by
    blk_point [blk2, kidx2_3 t, kidx2_4 t]
  simp only [h0, h1, h2, h3]

end Cert.KernelIdeal.Gen

end
-- ==== Proof.Val.KLane.lean ====
module

public import proofs.«01_k».proof.Proof.Val.KQuant
public import proofs.«01_k».proof.Proof.Val.KGate

@[expose] public section

set_option maxRecDepth 16384

noncomputable section

namespace Cert.KernelIdeal.Gen

open Idealize.ShloMosaic Idealize.ShloMosaic.TcCoe Idealize.SL.Sem Cert.Val

/-! # A step of the fused kernel, at an index -/

/-! ## The hidden rows -/

/-- A quarter tile is stored as it is. -/
theorem pay14_at (w : FVec Ideal S512x256 .f32) (i : S512x256.Idx) : k1_pay14 w i = w i := by
  pointwise [k1_pay14]

/-- A quarter tile put into the hidden rows, read inside it. -/
theorem gPut_in (i : grid1.Coords) (H : Vec Ideal S512x12288 .f32) (k : Fin 4) (w : FVec Ideal S512x256 .f32) (r : Fin 512) (col : Fin 12288) (a : Fin 256)
    (h : col.val = 1024 * (i 1).val + 256 * k.val + a.val) : gPut i H k w (ix2 r col) = w (ix2 r a) := by
  unfold gPut VecWindow.put
  rw [dif_pos (show ∀ b, _ from fun b => ?_)]
  · rw [pay14_at]
    congr 1
    funext b
    apply Fin.ext
    fin_cases b
    · show r.val - 0 = r.val; omega
    · show col.val - (1024 * (i 1).val + 256 * k.val) = a.val; omega
  · have ha := a.isLt
    have hr := r.isLt
    fin_cases b
    · show 0 ≤ r.val ∧ r.val < 0 + 512; omega
    · show 1024 * (i 1).val + 256 * k.val ≤ col.val ∧ col.val < 1024 * (i 1).val + 256 * k.val + 256; omega

/-- A quarter tile put into the hidden rows, read outside it. -/
theorem gPut_out (i : grid1.Coords) (H : Vec Ideal S512x12288 .f32) (k : Fin 4) (w : FVec Ideal S512x256 .f32) (r : Fin 512) (col : Fin 12288)
    (h : ¬(1024 * (i 1).val + 256 * k.val ≤ col.val ∧ col.val < 1024 * (i 1).val + 256 * k.val + 256)) : gPut i H k w (ix2 r col) = H (ix2 r col) := by
  unfold gPut VecWindow.put
  rw [dif_neg]
  intro hh
  exact h (hh 1)

/-- A tile cleared, read outside it. -/
theorem gZero_out (i : grid1.Coords) (H : Vec Ideal S512x12288 .f32) (r : Fin 512) (col : Fin 12288)
    (h : ¬(1024 * (i 1).val ≤ col.val ∧ col.val < 1024 * (i 1).val + 1024)) : gZero i H (ix2 r col) = H (ix2 r col) := by
  unfold gZero VecWindow.put
  rw [dif_neg]
  intro hh
  exact h (hh 1)

/-- The carried tile a step reads. -/
theorem gTile_at (i : grid1.Coords) (H : Vec Ideal S512x12288 .f32) (r : Fin 512) (q : Fin 1024) (col : Fin 12288) (h : col.val = 1024 * (i 1).val + q.val) :
    gTile i H (ix2 r q) = H (ix2 r col) := by
  unfold gTile VecWindow.window
  congr 1
  funext b
  apply Fin.ext
  fin_cases b
  · show 0 + 1 * r.val = r.val; omega
  · show 1024 * (i 1).val + 1 * q.val = col.val; omega

variable (x0 : Vec Ideal S512x4096 .fp8e4m3) (x1 : Vec Ideal S512x1 .f32) (x2 x3 : Vec Ideal S4096x1024 .fp8e4m3) (x4 x5 x6 : Vec Ideal S1x1024 .f32)

/-- The hidden rows after a step, in its tile. -/
theorem gH_in (i : grid1.Coords) (H : Vec Ideal S512x12288 .f32) (r : Fin 512) (q : Fin 1024) (col : Fin 12288) (h : col.val = 1024 * (i 1).val + q.val) :
    gH i x0 x1 x2 x3 x4 x5 x6 H (ix2 r col) = hTile x0 x1 x2 x3 x4 x5 x6 r q := by
  have hq := q.isLt
  have e : ∀ (k : Fin 4) (a : Fin 256), q.val = 256 * k.val + a.val → gChunk x0 x1 x2 x3 x4 x5 x6 k (ix2 r a) = hTile x0 x1 x2 x3 x4 x5 x6 r q := fun k a hk => by
    rw [g_chunk]
    have : qCol k a = q := Fin.ext hk.symm
    show hTile x0 x1 x2 x3 x4 x5 x6 r (qCol k a) = _
    rw [this]
  unfold gH
  by_cases h3 : 768 ≤ q.val
  · rw [gPut_in i _ 3 _ r col ⟨q.val - 768, by omega⟩ (by show col.val = 1024 * (i 1).val + 256 * 3 + (q.val - 768); omega)]
    exact e 3 _ (by show q.val = 256 * 3 + (q.val - 768); omega)
  rw [gPut_out i _ 3 _ r col (by show ¬(1024 * (i 1).val + 256 * 3 ≤ col.val ∧ col.val < 1024 * (i 1).val + 256 * 3 + 256); omega)]
  by_cases h2 : 512 ≤ q.val
  · rw [gPut_in i _ 2 _ r col ⟨q.val - 512, by omega⟩ (by show col.val = 1024 * (i 1).val + 256 * 2 + (q.val - 512); omega)]
    exact e 2 _ (by show q.val = 256 * 2 + (q.val - 512); omega)
  rw [gPut_out i _ 2 _ r col (by show ¬(1024 * (i 1).val + 256 * 2 ≤ col.val ∧ col.val < 1024 * (i 1).val + 256 * 2 + 256); omega)]
  by_cases h1 : 256 ≤ q.val
  · rw [gPut_in i _ 1 _ r col ⟨q.val - 256, by omega⟩ (by show col.val = 1024 * (i 1).val + 256 * 1 + (q.val - 256); omega)]
    exact e 1 _ (by show q.val = 256 * 1 + (q.val - 256); omega)
  rw [gPut_out i _ 1 _ r col (by show ¬(1024 * (i 1).val + 256 * 1 ≤ col.val ∧ col.val < 1024 * (i 1).val + 256 * 1 + 256); omega)]
  rw [gPut_in i _ 0 _ r col ⟨q.val, by omega⟩ (by show col.val = 1024 * (i 1).val + 256 * 0 + q.val; omega)]
  exact e 0 _ (by show q.val = 256 * 0 + q.val; omega)

/-- The hidden rows after a step, outside its tile. -/
theorem gH_out (i : grid1.Coords) (H : Vec Ideal S512x12288 .f32) (r : Fin 512) (col : Fin 12288) (h : ¬(1024 * (i 1).val ≤ col.val ∧ col.val < 1024 * (i 1).val + 1024)) :
    gH i x0 x1 x2 x3 x4 x5 x6 H (ix2 r col) = H (ix2 r col) := by
  unfold gH
  rw [gPut_out i _ 3 _ r col (by show ¬(1024 * (i 1).val + 256 * 3 ≤ col.val ∧ col.val < 1024 * (i 1).val + 256 * 3 + 256); omega)]
  rw [gPut_out i _ 2 _ r col (by show ¬(1024 * (i 1).val + 256 * 2 ≤ col.val ∧ col.val < 1024 * (i 1).val + 256 * 2 + 256); omega)]
  rw [gPut_out i _ 1 _ r col (by show ¬(1024 * (i 1).val + 256 * 1 ≤ col.val ∧ col.val < 1024 * (i 1).val + 256 * 1 + 256); omega)]
  rw [gPut_out i _ 0 _ r col (by show ¬(1024 * (i 1).val + 256 * 0 ≤ col.val ∧ col.val < 1024 * (i 1).val + 256 * 0 + 256); omega)]

/-! ## The lane maxima -/

/-- `A` holds, in lane `l` of row `r`, the largest magnitude of the first `256 b` columns of `f` that lie on that lane, and `0`
    before any: said by its upper bounds. -/
def LaneMax (f : Fin 512 → ℕ → EReal) (b : ℕ) (A : Vec Ideal S512x128 .f32) : Prop :=
  ∀ (r : Fin 512) (l : Fin 128) (z : EReal), A (ix2 r l) ≤ z ↔ 0 ≤ z ∧ ∀ col, col < 256 * b → col % 128 = l.val → max (f r col) (-f r col) ≤ z

/-- A maximum of three is below a bound when each is. -/
theorem max3_le (p a b z : EReal) : max (max p a) b ≤ z ↔ (p ≤ z ∧ a ≤ z) ∧ b ≤ z := by
  rw [max_le_iff (a := max p a), max_le_iff (a := p)]

/-- One more quarter tile. -/
theorem LaneMax.step {f : Fin 512 → ℕ → EReal} {b : ℕ} {p : FVec Ideal S512x128 .f32} (h : LaneMax f b p) (w : FVec Ideal S512x256 .f32)
    (hw : ∀ (r : Fin 512) (a : Fin 256), w (ix2 r a) = f r (256 * b + a.val)) : LaneMax f (b + 1) (gMax p w) := by
  intro r l z
  have hl := l.isLt
  have e1 : w (ix2 r ⟨l.val, hl.trans (by decide)⟩) = f r (256 * b + l.val) := hw r _
  have e2 : w (ix2 r ⟨128 + l.val, Nat.add_lt_add_left hl 128⟩) = f r (256 * b + (128 + l.val)) := hw r _
  have hg := g_max p w (ix2 r l)
  have hg' : gMax p w (ix2 r l) = max (max (p (ix2 r l)) (max (f r (256 * b + l.val)) (-f r (256 * b + l.val)))) (max (f r (256 * b + (128 + l.val))) (-f r (256 * b + (128 + l.val)))) := by
    rw [hg, ← e1, ← e2]
    rfl
  rw [hg', max3_le, h r l z]
  constructor
  · rintro ⟨⟨⟨h0, hp⟩, ha⟩, hb⟩
    refine ⟨h0, fun col hc hm => ?_⟩
    by_cases c1 : col < 256 * b
    · exact hp col c1 hm
    · by_cases c2 : col < 256 * b + 128
      · have : col = 256 * b + l.val := by omega
        rw [this]; exact ha
      · have : col = 256 * b + (128 + l.val) := by omega
        rw [this]; exact hb
  · rintro ⟨h0, hp⟩
    exact ⟨⟨⟨h0, fun col hc hm => hp col (by omega) hm⟩, hp _ (by omega) (by omega)⟩, hp _ (by omega) (by omega)⟩

/-- The test for a row block's first step. -/
theorem first_iff : ∀ j : Fin 12, Scalar.cmpi .eq (BitVec.ofNat 32 j.val) 0#32 = 1#1 ↔ j.val = 0 := by
  decide

/-- The lane maxima after a step that fills its tile. -/
theorem gA_lane (i : grid1.Coords) (A : Vec Ideal S512x128 .f32) (f : Fin 512 → ℕ → EReal)
    (hT : ∀ (r : Fin 512) (q : Fin 1024), hTile x0 x1 x2 x3 x4 x5 x6 r q = f r (1024 * (i 1).val + q.val))
    (hA : (i 1).val ≠ 0 → LaneMax f (4 * (i 1).val) A) : LaneMax f (4 * (i 1).val + 4) (gA i x0 x1 x2 x3 x4 x5 x6 A) := by
  have hw : ∀ (k : Fin 4) (r : Fin 512) (a : Fin 256), gChunk x0 x1 x2 x3 x4 x5 x6 k (ix2 r a) = f r (256 * (4 * (i 1).val + k.val) + a.val) := fun k r a => by
    rw [g_chunk]
    show hTile x0 x1 x2 x3 x4 x5 x6 r (qCol k a) = _
    rw [hT]
    show f r (1024 * (i 1).val + (256 * k.val + a.val)) = _
    congr 1
    omega
  have h0 : LaneMax f (4 * (i 1).val) (k1_pay7 (Scalar.cmpi .eq (BitVec.ofNat 32 (i 1).val) 0#32) A) := by
    intro r l z
    rw [g_start]
    by_cases hj : (i 1).val = 0
    · rw [if_pos ((first_iff (i 1)).2 hj), hj]
      exact ⟨fun h => ⟨h, fun col hc => absurd hc (by omega)⟩, fun h => h.1⟩
    · rw [if_neg (fun h => hj ((first_iff (i 1)).1 h))]
      exact hA hj r l z
  have h4 := (((h0.step _ (hw 0)).step _ (hw 1)).step _ (hw 2)).step _ (hw 3)
  unfold gA
  rw [shapeCast_self]
  exact h4

/-- The maxima a step uses: the ones just finished at a row block's first step, the kept ones after. -/
theorem gUse_eq (i : grid1.Coords) (A P : Vec Ideal S512x128 .f32) : gUse i A P = if (i 1).val = 0 then A else P := by
  have e : gUse i A P = if Scalar.cmpi .eq (BitVec.ofNat 32 (i 1).val) 0#32 = 1#1 then A else P := rfl
  rw [e]
  by_cases hj : (i 1).val = 0
  · rw [if_pos hj, if_pos ((first_iff (i 1)).2 hj)]
  · rw [if_neg hj, if_neg (fun h => hj ((first_iff (i 1)).1 h))]

/-- The maxima a step keeps. -/
theorem gP_eq (i : grid1.Coords) (A P : Vec Ideal S512x128 .f32) : gP i A P = if (i 1).val = 0 then A else P := by
  rw [← gUse_eq]
  unfold gP k1_pay25
  rw [shapeCast_self]

/-- A magnitude is not negative. -/
theorem mag_nonneg (x : EReal) : 0 ≤ max x (-x) := by
  rcases le_total 0 x with h | h
  · exact h.trans (le_max_left _ _)
  · exact (by simpa using EReal.neg_le_neg_iff.2 h : (0 : EReal) ≤ -x).trans (le_max_right _ _)

/-- The largest of the finished lane maxima is the row's largest magnitude. -/
theorem LaneMax.fold {f : Fin 512 → ℕ → EReal} {U : Vec Ideal S512x128 .f32} (h : LaneMax f 48 U) (r : Fin 512) :
    (Finset.univ : Finset (Fin 128)).fold max ⊥ (fun l => U (ix2 r l)) = rowMax fun col : Fin 12288 => f r col.val := by
  refine eq_of_forall_ge_iff fun z => ?_
  unfold rowMax
  rw [Finset.fold_max_le, Finset.fold_max_le]
  constructor
  · rintro ⟨hb, hl⟩
    refine ⟨hb, fun col _ => ?_⟩
    exact ((h r ⟨col.val % 128, Nat.mod_lt _ (by decide)⟩ z).1 (hl _ (Finset.mem_univ _))).2 col.val (by have := col.isLt; omega) rfl
  · rintro ⟨hb, hl⟩
    refine ⟨hb, fun l _ => (h r l z).2 ⟨(mag_nonneg _).trans (hl ⟨0, by decide⟩ (Finset.mem_univ _)), fun col hc _ => hl ⟨col, by omega⟩ (Finset.mem_univ _)⟩⟩

end Cert.KernelIdeal.Gen

end
-- ==== Proof.Val.KVal1.lean ====
module

public import proofs.«01_k».proof.Proof.Val.KLane
public import proofs.«01_k».proof.Proof.Ideal.Region1

@[expose] public section

set_option maxRecDepth 16384

noncomputable section

namespace Cert.KernelIdeal.Gen

open Idealize.ShloMosaic Idealize.ShloMosaic.TcCoe Idealize.SL.Sem Cert.Val
open Idealize.ShloMosaic.Pipeline (Dat)

/-! # What the fused kernel carries and writes -/

variable (V : (c : Dev nD) → (b : Ref sig .tc) → Buf (Elt Ideal) ((c : Thread nD τ).loc b)) (c : Dev nD)

/-- The row block of codes a point reads. -/
theorem kidx1_0 : ∀ t : Fin cfg1.N, win1_0.index t = ![min (t.val / 12) 15, 0] := (by decide +kernel : ∀ t : Fin grid1.N, _)
/-- The row block of scales a point reads. -/
theorem kidx1_1 : ∀ t : Fin cfg1.N, win1_1.index t = ![min (t.val / 12) 15, 0] := (by decide +kernel : ∀ t : Fin grid1.N, _)
/-- The gate columns a point reads. -/
theorem kidx1_2 : ∀ t : Fin cfg1.N, win1_2.index t = ![0, if t.val / 12 = 16 then 11 else t.val % 12] := (by decide +kernel : ∀ t : Fin grid1.N, _)
/-- The up columns a point reads. -/
theorem kidx1_3 : ∀ t : Fin cfg1.N, win1_3.index t = ![0, (if t.val / 12 = 16 then 11 else t.val % 12) + 12] := (by decide +kernel : ∀ t : Fin grid1.N, _)
/-- The gate factors a point reads. -/
theorem kidx1_4 : ∀ t : Fin cfg1.N, win1_4.index t = ![0, if t.val / 12 = 16 then 11 else t.val % 12] := (by decide +kernel : ∀ t : Fin grid1.N, _)
/-- The up factors a point reads. -/
theorem kidx1_5 : ∀ t : Fin cfg1.N, win1_5.index t = ![0, (if t.val / 12 = 16 then 11 else t.val % 12) + 12] := (by decide +kernel : ∀ t : Fin grid1.N, _)
/-- The smoothing factors a point reads. -/
theorem kidx1_6 : ∀ t : Fin cfg1.N, win1_6.index t = ![0, if t.val / 12 = 16 then 11 else t.val % 12] := (by decide +kernel : ∀ t : Fin grid1.N, _)
/-- The block of codes a point writes. -/
theorem kidx1_7 : ∀ t : Fin cfg1.N, win1_7.index t = ![t.val / 12 - 1, t.val % 12] := (by decide +kernel : ∀ t : Fin grid1.N, _)
/-- The block of scales a point writes. -/
theorem kidx1_8 : ∀ t : Fin cfg1.N, win1_8.index t = ![t.val / 12 - 1, 0] := (by decide +kernel : ∀ t : Fin grid1.N, _)

/-- The hidden value of row `r` and column `j`. -/
def hG (r : Fin 8192) (j : Fin 12288) : EReal :=
  hidOf (fun k : Fin 4096 => (V c main_v2_0 : Vec Ideal S8192x4096 .fp8e4m3) (ix2 r k))
    (fun k => (V c main_arg2 : Vec Ideal S4096x24576 .fp8e4m3) (ix2 k ⟨j.val, by omega⟩))
    (fun k => (V c main_arg2 : Vec Ideal S4096x24576 .fp8e4m3) (ix2 k ⟨12288 + j.val, by omega⟩))
    ((V c main_v2_1 : Vec Ideal S8192x1 .f32) (ix2 r 0))
    ((V c main_v3 : Vec Ideal S1x24576 .f32) (ix2 0 ⟨j.val, by omega⟩))
    ((V c main_v3 : Vec Ideal S1x24576 .f32) (ix2 0 ⟨12288 + j.val, by omega⟩))
    ((V c main_v4 : Vec Ideal S1x12288 .f32) (ix2 0 j))

/-- The hidden value of row `r` of row block `i` and column `col`. -/
def hB (i : ℕ) (r : Fin 512) (col : ℕ) : EReal :=
  if h : i < 16 ∧ col < 12288 then hG V c ⟨512 * i + r.val, by omega⟩ ⟨col, h.2⟩ else 0

/-- A step's tile holds the hidden values of its row block and columns. -/
theorem tile_at (t : Fin cfg1.N) (ht : t.val < 192) (r : Fin 512) (q : Fin 1024) :
    hTile (blk1 V c 0 t) (blk1 V c 1 t) (blk1 V c 2 t) (blk1 V c 3 t) (blk1 V c 4 t) (blk1 V c 5 t) (blk1 V c 6 t) r q
      = hB V c (t.val / 12) r (1024 * (t.val % 12) + q.val) := by
  have hr := r.isLt
  have hq := q.isLt
  have hd : t.val / 12 < 16 := by omega
  have hm : 1024 * (t.val % 12) + q.val < 12288 := by omega
  have n0 : min (t.val / 12) 15 = t.val / 12 := by omega
  have n2 : (if t.val / 12 = 16 then 11 else t.val % 12) = t.val % 12 := if_neg (by omega)
  have e0 := kidx1_0 t
  have e1 := kidx1_1 t
  have e2 := kidx1_2 t
  have e3 := kidx1_3 t
  have e4 := kidx1_4 t
  have e5 := kidx1_5 t
  have e6 := kidx1_6 t
  rw [n0] at e0 e1
  rw [n2] at e2 e3 e4 e5 e6
  have h0 : ∀ k : Fin 4096, blk1 V c 0 t (ix2 r k) = (V c main_v2_0 : Vec Ideal S8192x4096 .fp8e4m3) (ix2 ⟨512 * (t.val / 12) + r.val, by omega⟩ k) := fun k => by
    blk_point [blk1, e0]
  have h1 : blk1 V c 1 t (ix2 r 0) = (V c main_v2_1 : Vec Ideal S8192x1 .f32) (ix2 ⟨512 * (t.val / 12) + r.val, by omega⟩ 0) := by
    blk_point [blk1, e1]
  have h2 : ∀ k : Fin 4096, blk1 V c 2 t (ix2 k q) = (V c main_arg2 : Vec Ideal S4096x24576 .fp8e4m3) (ix2 k ⟨1024 * (t.val % 12) + q.val, by omega⟩) := fun k => by
    blk_point [blk1, e2]
  have h3 : ∀ k : Fin 4096, blk1 V c 3 t (ix2 k q) = (V c main_arg2 : Vec Ideal S4096x24576 .fp8e4m3) (ix2 k ⟨12288 + (1024 * (t.val % 12) + q.val), by omega⟩) := fun k => by
    blk_point [blk1, e3]
  have h4 : blk1 V c 4 t (ix2 0 q) = (V c main_v3 : Vec Ideal S1x24576 .f32) (ix2 0 ⟨1024 * (t.val % 12) + q.val, by omega⟩) := by
    blk_point [blk1, e4]
  have h5 : blk1 V c 5 t (ix2 0 q) = (V c main_v3 : Vec Ideal S1x24576 .f32) (ix2 0 ⟨12288 + (1024 * (t.val % 12) + q.val), by omega⟩) := by
    blk_point [blk1, e5]
  have h6 : blk1 V c 6 t (ix2 0 q) = (V c main_v4 : Vec Ideal S1x12288 .f32) (ix2 0 ⟨1024 * (t.val % 12) + q.val, by omega⟩) := by
    blk_point [blk1, e6]
  unfold hB
  rw [dif_pos ⟨hd, hm⟩]
  unfold hTile hG
  simp only [h0, h1, h2, h3, h4, h5, h6]

/-- Before point `n` the hidden rows hold every tile filled and not yet overwritten. -/
def InvH (n : ℕ) (H : Vec Ideal S512x12288 .f32) : Prop :=
  ∀ i q, i < 16 → q < 12 → 12 * i + q < n → (i = 15 ∨ n ≤ 12 * (i + 1) + q) →
    ∀ (r : Fin 512) (col : Fin 12288), col.val / 1024 = q → H (ix2 r col) = hB V c i r col.val

/-- A point keeps it. -/
theorem InvH.step (t : Fin cfg1.N) {H : Vec Ideal S512x12288 .f32} (h : InvH V c t.val H) : InvH V c (t.val + 1) (stepH V c t H) := by
  intro i q hi hq hn ho r col hc
  have hcol := col.isLt
  have e1 := coord1_1 t
  unfold stepH
  by_cases ht : t.val < 192
  · rw [if_pos ht]
    by_cases hqt : q = t.val % 12
    · have hti : t.val / 12 = i := by omega
      rw [gH_in _ _ _ _ _ _ _ (grid1.coords t) _ r ⟨col.val - 1024 * (t.val % 12), by omega⟩ col (by rw [e1]; show col.val = 1024 * (t.val % 12) + (col.val - 1024 * (t.val % 12)); omega),
        tile_at V c t ht, hti]
      congr 1
      show 1024 * (t.val % 12) + (col.val - 1024 * (t.val % 12)) = col.val
      omega
    · have hout : ¬(1024 * (grid1.coords t 1).val ≤ col.val ∧ col.val < 1024 * (grid1.coords t 1).val + 1024) := by rw [e1]; omega
      rw [gH_out _ _ _ _ _ _ _ (grid1.coords t) _ r col hout]
      have hz : (if t.val < 12 then gZero (grid1.coords t) H else H) (ix2 r col) = H (ix2 r col) := by
        by_cases h12 : t.val < 12
        · rw [if_pos h12]; exact gZero_out _ H r col hout
        · rw [if_neg h12]
      rw [hz]
      exact h i q hi hq (by omega) (by omega) r col hc
  · rw [if_neg ht]
    exact h i q hi hq (by omega) (by omega) r col hc

/-- Before point `n` the running maxima cover the tiles of the row block being filled, or all of the one just filled. -/
def InvA (n : ℕ) (A : Vec Ideal S512x128 .f32) : Prop :=
  n ≤ 192 → (n % 12 ≠ 0 → LaneMax (hB V c (n / 12)) (4 * (n % 12)) A) ∧ (n % 12 = 0 → 12 ≤ n → LaneMax (hB V c (n / 12 - 1)) 48 A)

/-- A point keeps it. -/
theorem InvA.step (t : Fin cfg1.N) {A : Vec Ideal S512x128 .f32} (h : InvA V c t.val A) : InvA V c (t.val + 1) (stepA V c t A) := by
  intro hn
  have ht : t.val < 192 := by omega
  have e1 := coord1_1 t
  have key : LaneMax (hB V c (t.val / 12)) (4 * (t.val % 12) + 4) (stepA V c t A) := by
    unfold stepA
    rw [if_pos ht]
    have hg := gA_lane (blk1 V c 0 t) (blk1 V c 1 t) (blk1 V c 2 t) (blk1 V c 3 t) (blk1 V c 4 t) (blk1 V c 5 t) (blk1 V c 6 t) (grid1.coords t) A (hB V c (t.val / 12))
      (by rw [e1]; exact tile_at V c t ht) (by rw [e1]; exact (h (by omega)).1)
    rw [e1] at hg
    exact hg
  constructor
  · intro h0
    rw [show (t.val + 1) / 12 = t.val / 12 by omega, show 4 * ((t.val + 1) % 12) = 4 * (t.val % 12) + 4 by omega]
    exact key
  · intro h0 _
    rw [show (t.val + 1) / 12 - 1 = t.val / 12 by omega]
    rw [show 4 * (t.val % 12) + 4 = 48 by omega] at key
    exact key

/-- Before point `n`, past a row block's first step, the kept maxima cover all of the row block before. -/
def InvP (n : ℕ) (P : Vec Ideal S512x128 .f32) : Prop :=
  n % 12 ≠ 0 → 12 ≤ n → LaneMax (hB V c (n / 12 - 1)) 48 P

/-- From the twelfth point on, the maxima a point uses cover all of the row block before. -/
theorem use_lane (t : Fin cfg1.N) (ht : 12 ≤ t.val) {A P : Vec Ideal S512x128 .f32} (hA : InvA V c t.val A) (hP : InvP V c t.val P) :
    LaneMax (hB V c (t.val / 12 - 1)) 48 (if (grid1.coords t 1).val = 0 then A else P) := by
  have hN : t.val < 204 := Nat.lt_of_lt_of_eq t.isLt N_1
  rw [coord1_1 t]
  by_cases h0 : t.val % 12 = 0
  · rw [if_pos h0]
    exact (hA (by omega)).2 h0 ht
  · rw [if_neg h0]
    exact hP h0 ht

/-- A point keeps it. -/
theorem InvP.step (t : Fin cfg1.N) {A P : Vec Ideal S512x128 .f32} (hA : InvA V c t.val A) (hP : InvP V c t.val P) :
    InvP V c (t.val + 1) (gP (grid1.coords t) A P) := by
  intro h0 hn
  rw [gP_eq, show (t.val + 1) / 12 - 1 = t.val / 12 - 1 by omega]
  exact use_lane V c t (by omega) hA hP

/-- What is carried into every point. -/
theorem inv_all : ∀ n, n ≤ cfg1.N → InvH V c n (gSt V c n).1 ∧ InvA V c n (gSt V c n).2.1 ∧ InvP V c n (gSt V c n).2.2 := by
  intro n
  induction n with
  | zero =>
    intro _
    exact ⟨fun i q _ _ h => absurd h (by omega), fun _ => ⟨fun h => absurd rfl h, fun _ h => absurd h (by omega)⟩, fun h => absurd rfl h⟩
  | succ n ih =>
    intro hn
    obtain ⟨hH, hA, hP⟩ := ih (by omega)
    have e := gSt_succ V c ⟨n, hn⟩
    show InvH V c (n + 1) (gSt V c (n + 1)).1 ∧ _
    have e' : gSt V c (n + 1) = gStep V c ⟨n, hn⟩ (gSt V c n) := e
    rw [e']
    exact ⟨InvH.step V c ⟨n, hn⟩ hH, InvA.step V c ⟨n, hn⟩ hA, InvP.step V c ⟨n, hn⟩ hA hP⟩

/-- The largest magnitude of a row's hidden values. -/
def hM (r : Fin 8192) : EReal := rowMax fun j : Fin 12288 => hG V c r j

/-- From the twelfth point on, a point's row maxima are those of the row block before. -/
theorem use_max (t : Fin cfg1.N) (ht : 12 ≤ t.val) (r : Fin 512) (R : Fin 8192) (hR : R.val = 512 * (t.val / 12 - 1) + r.val) :
    (Finset.univ : Finset (Fin 128)).fold max ⊥ (fun l => gUse (grid1.coords t) (gSt V c t.val).2.1 (gSt V c t.val).2.2 (ix2 r l)) = hM V c R := by
  have hN : t.val < 204 := Nat.lt_of_lt_of_eq t.isLt N_1
  obtain ⟨_, hA, hP⟩ := inv_all V c t.val (Nat.le_of_lt t.isLt)
  have h := use_lane V c t ht hA hP
  rw [← gUse_eq] at h
  rw [h.fold r]
  unfold hM
  congr 1
  funext j
  unfold hB
  rw [dif_pos ⟨by omega, j.isLt⟩]
  congr 1
  exact Fin.ext hR.symm

/-- From the twelfth point on, a point writes the scales of the row block before. -/
theorem outS_at (t : Fin cfg1.N) (ht : 12 ≤ t.val) (y : S512x1.Idx) (R : Fin 8192) (hR : R.val = 512 * (t.val / 12 - 1) + (y 0).val) :
    outS V c t y = scaleOf (hM V c R) := by
  unfold outS
  rw [h_scale, use_max V c t ht (y 0) R hR]

/-- From the twelfth point on, a point writes the codes of the row block before, in its columns. -/
theorem outQ_at (t : Fin cfg1.N) (ht : 12 ≤ t.val) (y : S512x1024.Idx) (R : Fin 8192) (hR : R.val = 512 * (t.val / 12 - 1) + (y 0).val)
    (j : Fin 12288) (hj : j.val = 1024 * (t.val % 12) + (y 1).val) :
    outQ V c t y = codeOf (hM V c R) (hG V c R j) := by
  have hN : t.val < 204 := Nat.lt_of_lt_of_eq t.isLt N_1
  have hy1 : (y 1).val < 1024 := (y 1).isLt
  unfold outQ outT
  rw [h_code, use_max V c t ht (y 0) R hR, if_neg (by omega)]
  obtain ⟨hH, _, _⟩ := inv_all V c t.val (Nat.le_of_lt t.isLt)
  have ht' : gTile (grid1.coords t) (gSt V c t.val).1 y = (gSt V c t.val).1 (ix2 (y 0) j) := by
    have := gTile_at (grid1.coords t) (gSt V c t.val).1 (y 0) (y 1) j (by rw [coord1_1]; exact hj)
    rw [← this]
    congr 1
    exact (ix2_eta y).symm
  rw [ht', hH (t.val / 12 - 1) (t.val % 12) (by omega) (by omega) (by omega) (by omega) (y 0) j (by omega)]
  congr 1
  unfold hB
  rw [dif_pos ⟨by omega, j.isLt⟩]
  congr 1
  exact Fin.ext hR.symm

end Cert.KernelIdeal.Gen

end
-- ==== Proof.Val.KArr.lean ====
module

public import proofs.«01_k».proof.Proof.Val.KVal1

@[expose] public section

set_option maxRecDepth 16384

noncomputable section

namespace Cert.KernelIdeal.Gen

open Idealize.ShloMosaic Idealize.ShloMosaic.TcCoe Idealize.SL.Sem Cert.Val
open Idealize.ShloMosaic.Pipeline (Dat)

/-! # The arrays the fused kernel leaves -/

variable (V : (c : Dev nD) → (b : Ref sig .tc) → Buf (Elt Ideal) ((c : Thread nD τ).loc b)) (c : Dev nD)

/-- The codes of the hidden values. -/
def hQ : Vec Ideal S8192x12288 .fp8e4m3 := fun i => codeOf (hM V c (i 0)) (hG V c (i 0) (i 1))

/-- From the twelfth point on, a point writes its block of them. -/
theorem hq_pt (t : Fin cfg1.N) (h12 : 12 ≤ t.val) (y : ((cfg1.win 7).xblock (cfg1.grid.coords t)).Idx) :
    _root_.cast (congrArg (Elt Ideal) ((cfg1.win 7).blk t).view.elt_eq.symm) ((dat1 V c).after 7 t ((cfg1.win 7).xinj (cfg1.grid.coords t) y))
      = hQ V c (((cfg1.win 7).blk t).view.emb y) := by
  blk_simp
  rw [dat1_after7]
  have h0 : ((win1_7.blk t).view.emb y 0).val = 512 * (t.val / 12 - 1) + (y 0).val := by
    blk_simp [kidx1_7 t]
    omega
  have h1 : ((win1_7.blk t).view.emb y 1).val = 1024 * (t.val % 12) + (y 1).val := by
    blk_simp [kidx1_7 t]
    omega
  exact outQ_at V c t h12 y _ h0 _ h1

/-- Every point writes its codes back. -/
theorem hq_flush : ∀ t : Fin cfg1.N, (cfg1.win 7).flush t = true :=
  (by decide +kernel : ∀ t : Fin grid1.N, win1_7.flush t = true)

/-- An entry of a block written from the twelfth point on holds its code: the first twelve points come before, and the later
    ones write codes. -/
theorem k_hq_at (n : Nat) (t : Fin cfg1.N) (i : S8192x12288.Idx) (h12 : 12 ≤ t.val) (ht : t.val < n)
    (hi : i ∈ ((cfg1.win 7).blk t).view.set) : (dat1 V c).arrAt 7 n i = hQ V c i := by
  induction n with
  | zero => exact absurd ht (Nat.not_lt_zero _)
  | succ n ih =>
    rw [Dat.arrAt_succ_apply]
    by_cases hn : n < cfg1.N
    swap
    · rw [dif_neg hn]
      exact ih (by have := t.isLt; omega)
    rw [dif_pos hn, if_pos (hq_flush ⟨n, hn⟩)]
    by_cases hin : i ∈ ((cfg1.win 7).blk ⟨n, hn⟩).view.set
    · obtain ⟨y, -, rfl⟩ := Finset.mem_map.mp hin
      rw [View.write_emb_of_mem _ _ (Finset.mem_univ y)]
      exact hq_pt V c ⟨n, hn⟩ (show 12 ≤ n by omega) y
    · rw [View.write_of_not_mem _ _ _ (by rwa [View.setOn_univ])]
      have htn : t.val ≠ n := fun e => hin (by have : t = ⟨n, hn⟩ := Fin.ext e; exact this ▸ hi)
      exact ih (by omega)

/-- The codes the fused kernel leaves. -/
theorem k_hq : (dat1 V c).arrAt 7 cfg1.N = hQ V c := by
  funext i
  have h0 : (i 0).val < 8192 := (i 0).isLt
  have h1 : (i 1).val < 12288 := (i 1).isLt
  obtain ⟨t, e⟩ : ∃ t : Fin cfg1.N, t.val = 12 * ((i 0).val / 512 + 1) + (i 1).val / 1024 :=
    ⟨⟨12 * ((i 0).val / 512 + 1) + (i 1).val / 1024, Nat.lt_of_lt_of_eq (by omega : _ < 204) N_1.symm⟩, rfl⟩
  have hi : i ∈ ((cfg1.win 7).blk t).view.set := by
    mem_blk [kidx1_7]
    omega
  exact k_hq_at V c cfg1.N t i (by omega) t.isLt hi

/-- The scales of the hidden values. -/
theorem k_sh : (dat1 V c).arrAt 8 cfg1.N = fun (i : S8192x1.Idx) => scaleOf (hM V c (i 0)) := by
  refine (dat1 V c).arrAt_eq_of_covers 8 _ (by decide +kernel) fun t hf y => ?_
  have h12 : 12 ≤ t.val := (by decide +kernel : ∀ t : Fin grid1.N, win1_8.flush t = true → 12 ≤ t.val) t hf
  blk_simp
  rw [dat1_after8]
  have h0 : ((win1_8.blk t).view.emb y 0).val = 512 * (t.val / 12 - 1) + (y 0).val := by
    blk_simp [kidx1_8 t]
    omega
  exact outS_at V c t h12 y _ h0

end Cert.KernelIdeal.Gen

end
-- ==== Proof.Val.RQuant.lean ====
module

public import proofs.«01_k».proof.Proof.Gen.ReferenceIdeal.Skeleton
public import proofs.«01_k».proof.Proof.Val.Pow2

@[expose] public section

set_option maxRecDepth 16384

noncomputable section

namespace Cert.ReferenceIdeal.Gen

open Idealize.ShloMosaic Idealize.ShloMosaic.TcCoe Idealize.SL.Sem Cert.Val

/-! # The reference's row quantiser, at an index -/

/-- The bits of minus infinity. -/
theorem ofBits_negInf : Ideal.ofBits .f32 0xFF800000#32 = ⊥ := by
  show Ideal.ieee 8 23 0xFF800000#32 = ⊥
  unfold Ideal.ieee
  rw [if_pos (by decide), if_pos (by decide), if_pos (by decide)]

/-- The bits of plus infinity. -/
theorem ofBits_posInf : Ideal.ofBits .f32 0x7F800000#32 = ⊤ := by
  show Ideal.ieee 8 23 0x7F800000#32 = ⊤
  unfold Ideal.ieee
  rw [if_pos (by decide), if_pos (by decide), if_neg (by decide)]

/-- The bits of the least normal float. -/
theorem ofBits_least : Ideal.ofBits .f32 0x00800000#32 = pw (-126) := tp_eq 1 (by omega) (by omega)

/-- The bits of one. -/
theorem ofBits_one : Ideal.ofBits .f32 0x3F800000#32 = 1 := by
  have h := tp_eq 127 (by omega) (by omega)
  refine Eq.trans h ?_
  unfold pw
  norm_num

/-- The bits of 126. -/
theorem ofBits_126 : Ideal.ofBits .f32 0x42FC0000#32 = ((126 : ℝ) : EReal) := by
  show Ideal.ieee 8 23 0x42FC0000#32 = _
  unfold Ideal.ieee
  have e1 : ((0x42FC0000#32).extractLsb' (8 + 23) 1 == 1#1) = false := by decide
  have e2 : ((0x42FC0000#32).extractLsb' 23 8).toNat = 133 := by decide
  have e3 : ((0x42FC0000#32).extractLsb' 0 23).toNat = 8126464 := by decide
  simp only [e1, e2, e3]
  norm_num

/-- The row's exponent as the reference forms it, from the magnitude and its scaled value. -/
def rexpo (m a : EReal) : EReal :=
  if m = 0 then 0 else if pw (-126) ≤ a ∧ a < ⊤ then (∑ k : Fin 254, if pw ((k.val : ℤ) - 126) ≤ a then (1 : EReal) else 0) - ((126 : ℝ) : EReal) else 0

/-- It is the count's. -/
theorem rexpo_eq (m a : EReal) : rexpo m a = (((expo m a : ℤ) : ℝ) : EReal) := by
  unfold rexpo expo
  rw [sum_ones, ← EReal.coe_sub]
  split_ifs <;> simp

/-- The thresholds. -/
theorem r_thr (i : S1x254.Idx) : k0_pay10 (F := Ideal) i = pw (((i 1).val : ℤ) - 126) := by
  rw [← exp2_int]
  pointwise [k0_pay10]
  rw [ofBits_126]
  have hk : (i 1).val < 254 := (i 1).isLt
  have e : (FloatOps.sitofp FTy.f32 (BitVec.ofNat 32 (i 1).val) : Ideal .f32) = (((((i 1).val : ℤ) : ℝ)) : EReal) := by
    show (((((BitVec.ofNat 32 (i 1).val).toInt : ℤ) : ℝ)) : EReal) = _
    have : (BitVec.ofNat 32 (i 1).val).toInt = ((i 1).val : ℤ) := by
      rw [BitVec.toInt_eq_toNat_of_lt]
      · rw [BitVec.toNat_ofNat, Nat.mod_eq_of_lt (by omega)]
      · rw [BitVec.toNat_ofNat, Nat.mod_eq_of_lt (by omega)]; omega
    rw [this]
  rw [e, ← EReal.coe_sub]
  show Ideal.exp2 _ = _
  congr 2
  push_cast
  rfl

/-- A row's exponent. -/
theorem r_exp (v73 v75 : FVec Ideal S8192x1 .f32) (i : S8192x1.Idx) :
    k0_pay11 v73 v75 k0_pay10 i = rexpo (v73 i) (v75 i) := by
  have ht : ∀ k, k0_pay10 (F := Ideal) (ix2 0 k) = pw ((k.val : ℤ) - 126) := fun k => r_thr _
  revert ht
  generalize k0_pay10 (F := Ideal) = v80
  intro ht
  pointwise [k0_pay11]
  rw [ofBits_least, ofBits_posInf, ofBits_126]
  have hs : (∑ x : Fin 254, if v80 (ix2 0 x) ≤ v75 (ix2 (i 0) 0) then (1 : EReal) else 0) = ∑ k : Fin 254, if pw ((k.val : ℤ) - 126) ≤ v75 i then (1 : EReal) else 0 := by
    refine Finset.sum_congr rfl fun k _ => ?_
    rw [ht k]
    have hi : (ix2 (i 0) 0 : S8192x1.Idx) = i := by
      funext a
      fin_cases a
      · rfl
      · exact (Fin.fin_one_eq_zero _).symm
    rw [hi]
  rw [hs]
  unfold rexpo
  by_cases h1 : pw (-126) ≤ v75 i <;> by_cases h2 : v75 i < ⊤ <;> simp [h1, h2, IntOp.andi, Scalar.select]

/-- The rows' largest magnitudes. -/
def rMax (x0 : Vec Ideal S8192x4096 .f32) (x1 : Vec Ideal S1x4096 .f32) : FVec Ideal S8192x1 .f32 :=
  shapeCast S8192x1 (multiReduction .maximumf [1] S8192 (absf (k0_pay2 x0 x1)) 0xFF800000#32 reduces_S8192x4096_S8192 (.inl rfl) rfl) shapeCasts_S8192_S8192x1

/-- They are the rows' largest magnitudes. -/
theorem rMax_apply (x0 : Vec Ideal S8192x4096 .f32) (x1 : Vec Ideal S1x4096 .f32) (i : S8192x1.Idx) :
    rMax x0 x1 i = rowMax fun k => Ideal.div (x0 (ix2 (i 0) k)) (x1 (ix2 0 k)) := by
  pointwise [rMax, k0_pay2]
  rw [ofBits_negInf]
  rfl

/-- The exponents of the activations' rows are formed as those of the hidden rows are. -/
theorem r_exp0_eq (x0 : Vec Ideal S8192x4096 .f32) (x1 : Vec Ideal S1x4096 .f32) :
    k0_pay3 x0 x1 = k0_pay11 (rMax x0 x1) (mulf (rMax x0 x1) (broadcast S8192x1 (Scalar.ofBits .f32 0x3B124925#32))) k0_pay10 := by
  delta k0_pay3 k0_pay11 k0_pay10 rMax
  rfl

/-- A scaled vector at an index. -/
theorem r_scaled_of (a : FVec Ideal S8192x1 .f32) (i : S8192x1.Idx) :
    mulf a (broadcast S8192x1 (Scalar.ofBits .f32 0x3B124925#32)) i = a i * cInv := rfl

/-- An exponential at an index. -/
theorem r_exp2_of (a : FVec Ideal S8192x1 .f32) (i : S8192x1.Idx) : exp2 a i = FloatOps.exp2 (a i) := rfl

/-- An activation's exponent. -/
theorem r_exp0 (x0 : Vec Ideal S8192x4096 .f32) (x1 : Vec Ideal S1x4096 .f32) (i : S8192x1.Idx) :
    k0_pay3 x0 x1 i = (((rexp (rowMax fun k => Ideal.div (x0 (ix2 (i 0) k)) (x1 (ix2 0 k))) : ℤ) : ℝ) : EReal) := by
  rw [r_exp0_eq, r_exp]
  rw [r_scaled_of, rMax_apply, rexpo_eq]
  unfold rexp
  rfl

/-- The exponential of an integer exponent. -/
theorem r_exp2 (k : ℤ) : (FloatOps.exp2 (((k : ℝ) : EReal) : Ideal .f32) : Ideal .f32) = pw k := exp2_int k

/-- The exponential of a negated integer exponent. -/
theorem r_exp2_neg (k : ℤ) : (FloatOps.exp2 ((0 : EReal) - ((k : ℝ) : EReal) : Ideal .f32) : Ideal .f32) = pw (-k) := by
  rw [← exp2_int, zero_sub, ← EReal.coe_neg]
  push_cast
  rfl

/-- A row's scale. -/
theorem r_sx (x0 : Vec Ideal S8192x4096 .f32) (x1 : Vec Ideal S1x4096 .f32) (i : S8192x1.Idx) :
    k0_pay4 x0 x1 i = scaleOf (rowMax fun k => Ideal.div (x0 (ix2 (i 0) k)) (x1 (ix2 0 k))) := by
  have h : k0_pay4 x0 x1 i = FloatOps.exp2 (k0_pay3 x0 x1 i) := by
    delta k0_pay4
    exact r_exp2_of (k0_pay3 x0 x1) i
  rw [h, r_exp0]
  exact r_exp2 _

/-- The code of an entry, from the exponents. -/
theorem r_six (v5 : FVec Ideal S8192x4096 .f32) (e : FVec Ideal S8192x1 .f32) (i : S8192x4096.Idx) :
    k0_pay6 v5 e k0_pay5 i = min (Ideal.ofBits .f32 0x43E00000#32) (max (Ideal.ofBits .f32 0xC3E00000#32) (v5 i * FloatOps.exp2 ((0 : EReal) - e (ix2 (i 0) 0) : Ideal .f32))) := by
  pointwise [k0_pay6, k0_pay5]

/-- An activation's code. -/
theorem r_xq (x0 : Vec Ideal S8192x4096 .f32) (x1 : Vec Ideal S1x4096 .f32) (i : S8192x4096.Idx) :
    k0_pay6 (k0_pay2 x0 x1) (k0_pay3 x0 x1) k0_pay5 i
      = codeOf (rowMax fun k => Ideal.div (x0 (ix2 (i 0) k)) (x1 (ix2 0 k))) (Ideal.div (x0 i) (x1 (ix2 0 (i 1)))) := by
  have h : k0_pay2 x0 x1 i = Ideal.div (x0 i) (x1 (ix2 0 (i 1))) := by
    pointwise [k0_pay2]
  rw [r_six, r_exp0, r_exp2_neg, h]
  rfl

/-- A hidden value. -/
theorem r_hid (x0 : Vec Ideal S8192x4096 .fp8e4m3) (x1 : Vec Ideal S4096x24576 .fp8e4m3) (x2 : Vec Ideal S8192x1 .f32) (x3 : Vec Ideal S1x24576 .f32) (x4 : Vec Ideal S1x12288 .f32) (i : S8192x12288.Idx) :
    k0_pay7 x0 x1 x2 x3 x4 i = hidOf (fun k => x0 (ix2 (i 0) k)) (fun k => x1 (ix2 k ⟨(i 1).val, (i 1).isLt.trans (by decide)⟩))
      (fun k => x1 (ix2 k ⟨12288 + (i 1).val, Nat.add_lt_add_left (i 1).isLt 12288⟩)) (x2 (ix2 (i 0) 0))
      (x3 (ix2 0 ⟨(i 1).val, (i 1).isLt.trans (by decide)⟩)) (x3 (ix2 0 ⟨12288 + (i 1).val, Nat.add_lt_add_left (i 1).isLt 12288⟩)) (x4 (ix2 0 (i 1))) := by
  pointwise [k0_pay7]
  rfl

/-- The rows' largest hidden magnitudes. -/
theorem r_hmax (x0 : Vec Ideal S8192x4096 .fp8e4m3) (x1 : Vec Ideal S4096x24576 .fp8e4m3) (x2 : Vec Ideal S8192x1 .f32) (x3 : Vec Ideal S1x24576 .f32) (x4 : Vec Ideal S1x12288 .f32) (i : S8192x1.Idx) :
    k0_pay8 x0 x1 x2 x3 x4 i = rowMax fun j => k0_pay7 x0 x1 x2 x3 x4 (ix2 (i 0) j) := by
  delta k0_pay8
  generalize k0_pay7 x0 x1 x2 x3 x4 = h
  pointwise []
  rw [ofBits_negInf]
  rfl

/-- A hidden row's exponent. -/
theorem r_hexp (x0 : Vec Ideal S8192x4096 .fp8e4m3) (x1 : Vec Ideal S4096x24576 .fp8e4m3) (x2 : Vec Ideal S8192x1 .f32) (x3 : Vec Ideal S1x24576 .f32) (x4 : Vec Ideal S1x12288 .f32) (i : S8192x1.Idx) :
    k0_pay11 (k0_pay8 x0 x1 x2 x3 x4) (k0_pay9 x0 x1 x2 x3 x4) k0_pay10 i = (((rexp (k0_pay8 x0 x1 x2 x3 x4 i) : ℤ) : ℝ) : EReal) := by
  have e : k0_pay9 x0 x1 x2 x3 x4 i = k0_pay8 x0 x1 x2 x3 x4 i * cInv := by
    delta k0_pay9
    exact r_scaled_of (k0_pay8 x0 x1 x2 x3 x4) i
  rw [r_exp, e, rexpo_eq]
  unfold rexp
  rfl

/-- A hidden row's scale. -/
theorem r_sh (x0 : Vec Ideal S8192x4096 .fp8e4m3) (x1 : Vec Ideal S4096x24576 .fp8e4m3) (x2 : Vec Ideal S8192x1 .f32) (x3 : Vec Ideal S1x24576 .f32) (x4 : Vec Ideal S1x12288 .f32) (i : S8192x1.Idx) :
    k0_pay12 (k0_pay8 x0 x1 x2 x3 x4) (k0_pay9 x0 x1 x2 x3 x4) k0_pay10 i = scaleOf (k0_pay8 x0 x1 x2 x3 x4 i) := by
  have h : k0_pay12 (k0_pay8 x0 x1 x2 x3 x4) (k0_pay9 x0 x1 x2 x3 x4) k0_pay10 i
      = FloatOps.exp2 (k0_pay11 (k0_pay8 x0 x1 x2 x3 x4) (k0_pay9 x0 x1 x2 x3 x4) k0_pay10 i) := by
    delta k0_pay12
    exact r_exp2_of (k0_pay11 (k0_pay8 x0 x1 x2 x3 x4) (k0_pay9 x0 x1 x2 x3 x4) k0_pay10) i
  rw [h, r_hexp]
  exact r_exp2 _

/-- A hidden value's code, from the exponents. -/
theorem r_thirteen (v70 : FVec Ideal S8192x12288 .f32) (v73 v75 : FVec Ideal S8192x1 .f32) (v80 : FVec Ideal S1x254 .f32) (i : S8192x12288.Idx) :
    k0_pay13 v70 v73 v75 v80 i = min (Ideal.ofBits .f32 0x43E00000#32) (max (Ideal.ofBits .f32 0xC3E00000#32) (v70 i * FloatOps.exp2 ((0 : EReal) - k0_pay11 v73 v75 v80 (ix2 (i 0) 0) : Ideal .f32))) := by
  delta k0_pay13
  generalize k0_pay11 v73 v75 v80 = e
  pointwise []

/-- A hidden value's code. -/
theorem r_hq (x0 : Vec Ideal S8192x4096 .fp8e4m3) (x1 : Vec Ideal S4096x24576 .fp8e4m3) (x2 : Vec Ideal S8192x1 .f32) (x3 : Vec Ideal S1x24576 .f32) (x4 : Vec Ideal S1x12288 .f32) (i : S8192x12288.Idx) :
    k0_pay13 (k0_pay7 x0 x1 x2 x3 x4) (k0_pay8 x0 x1 x2 x3 x4) (k0_pay9 x0 x1 x2 x3 x4) k0_pay10 i
      = codeOf (k0_pay8 x0 x1 x2 x3 x4 (ix2 (i 0) 0)) (k0_pay7 x0 x1 x2 x3 x4 i) := by
  rw [r_thirteen, r_hexp, r_exp2_neg]
  rfl

/-- An output value. -/
theorem r_y (x0 : Vec Ideal S8192x12288 .fp8e4m3) (x1 : Vec Ideal S12288x4096 .fp8e4m3) (x2 : Vec Ideal S8192x1 .f32) (x3 : Vec Ideal S1x4096 .f32) (i : S8192x4096.Idx) :
    k0_pay1 x0 x1 (constant S8192x4096 .f32 0x00000000#32) x2 x3 i
      = yOf (fun k => x0 (ix2 (i 0) k)) (fun k => x1 (ix2 k (i 1))) (x2 (ix2 (i 0) 0)) (x3 (ix2 0 (i 1))) := by
  pointwise [k0_pay1]
  rfl

end Cert.ReferenceIdeal.Gen

end
-- ==== Proof.Val.RVal.lean ====
module

public import proofs.«01_k».proof.Proof.Gen.ReferenceIdeal.Value
public import proofs.«01_k».proof.Proof.Val.RQuant
public import Idealize.ShloMosaic.Lib.Pipeline.ReadBack

@[expose] public section

set_option maxRecDepth 16384

noncomputable section

namespace Cert.ReferenceIdeal.Gen

open Idealize.ShloMosaic Idealize.ShloMosaic.TcCoe Idealize.SL.Sem Cert.Val

/-! # What the reference computes -/

variable (m : (ℓ : Loc nD τ sig) → Buf (Elt Ideal) ℓ) (c : Dev nD)

/-- The activations, a row per token. -/
abbrev rX : Vec Ideal S8192x4096 .f32 := V m c main_v0
/-- Their smoothing factors. -/
abbrev rS : Vec Ideal S1x4096 .f32 := V m c main_v1
/-- The first weights. -/
abbrev rW : Vec Ideal S4096x24576 .fp8e4m3 := V m c main_arg2
/-- Their scales. -/
abbrev rC : Vec Ideal S1x24576 .f32 := V m c main_v2
/-- The hidden smoothing factors. -/
abbrev rD : Vec Ideal S1x12288 .f32 := V m c main_v3
/-- The second weights. -/
abbrev rU : Vec Ideal S12288x4096 .fp8e4m3 := V m c main_arg5
/-- Their scales. -/
abbrev rE : Vec Ideal S1x4096 .f32 := V m c main_v4

/-- The codes of the activations. -/
def rXq : Vec Ideal S8192x4096 .fp8e4m3 := k0_pay6 (k0_pay2 (rX m c) (rS m c)) (k0_pay3 (rX m c) (rS m c)) k0_pay5
/-- The scales of the activations. -/
def rSx : Vec Ideal S8192x1 .f32 := k0_pay4 (rX m c) (rS m c)
/-- The codes of the hidden values. -/
def rHq : Vec Ideal S8192x12288 .fp8e4m3 := k0_pay13 (k0_pay7 (rXq m c) (rW m c) (rSx m c) (rC m c) (rD m c)) (k0_pay8 (rXq m c) (rW m c) (rSx m c) (rC m c) (rD m c)) (k0_pay9 (rXq m c) (rW m c) (rSx m c) (rC m c) (rD m c)) k0_pay10
/-- The scales of the hidden values. -/
def rSh : Vec Ideal S8192x1 .f32 := k0_pay12 (k0_pay8 (rXq m c) (rW m c) (rSx m c) (rC m c) (rD m c)) (k0_pay9 (rXq m c) (rW m c) (rSx m c) (rC m c) (rD m c)) k0_pay10
/-- The output. -/
def rY : Vec Ideal S8192x4096 .f32 := k0_pay1 (k0_pay14 (rHq m c)) (rU m c) (constant S8192x4096 .f32 0x00000000#32) (rSh m c) (rE m c)

/-- Window 0's one block. -/
theorem ridx0 : ∀ t : Fin cfg0.N, win0_0.index t = ![0, 0] := (by decide +kernel : ∀ t : Fin grid0.N, _)
/-- Window 1's one block. -/
theorem ridx1 : ∀ t : Fin cfg0.N, win0_1.index t = ![0, 0] := (by decide +kernel : ∀ t : Fin grid0.N, _)
/-- Window 2's one block. -/
theorem ridx2 : ∀ t : Fin cfg0.N, win0_2.index t = ![0, 0] := (by decide +kernel : ∀ t : Fin grid0.N, _)
/-- Window 3's one block. -/
theorem ridx3 : ∀ t : Fin cfg0.N, win0_3.index t = ![0, 0] := (by decide +kernel : ∀ t : Fin grid0.N, _)
/-- Window 4's one block. -/
theorem ridx4 : ∀ t : Fin cfg0.N, win0_4.index t = ![0, 0] := (by decide +kernel : ∀ t : Fin grid0.N, _)
/-- Window 5's one block. -/
theorem ridx5 : ∀ t : Fin cfg0.N, win0_5.index t = ![0, 0] := (by decide +kernel : ∀ t : Fin grid0.N, _)
/-- Window 6's one block. -/
theorem ridx6 : ∀ t : Fin cfg0.N, win0_6.index t = ![0, 0] := (by decide +kernel : ∀ t : Fin grid0.N, _)
/-- A whole block is its array. -/
theorem rb0 : iblk m c 0 t0_0 = rX m c := by
  funext j
  blk_point [iblk, ridx0 t0_0]
/-- A whole block is its array. -/
theorem rb1 : iblk m c 1 t0_0 = rS m c := by
  funext j
  blk_point [iblk, ridx1 t0_0]
/-- A whole block is its array. -/
theorem rb2 : iblk m c 2 t0_0 = rW m c := by
  funext j
  blk_point [iblk, ridx2 t0_0]
/-- A whole block is its array. -/
theorem rb3 : iblk m c 3 t0_0 = rC m c := by
  funext j
  blk_point [iblk, ridx3 t0_0]
/-- A whole block is its array. -/
theorem rb4 : iblk m c 4 t0_0 = rD m c := by
  funext j
  blk_point [iblk, ridx4 t0_0]
/-- A whole block is its array. -/
theorem rb5 : iblk m c 5 t0_0 = rU m c := by
  funext j
  blk_point [iblk, ridx5 t0_0]
/-- A whole block is its array. -/
theorem rb6 : iblk m c 6 t0_0 = rE m c := by
  funext j
  blk_point [iblk, ridx6 t0_0]

/-- The activations' scales. -/
theorem final9 : (dats m 0 c).arrAt 9 (cfgs 0).N = rSx m c := by
  refine (dats m 0 c).arrAt_eq_of_after_last 9 t0_0 (by decide +kernel) _ fun j => ?_
  blk_simp
  rw [after0_9]
  frame_out
  simp only [read_unread_whole, rb0, rb1]
  unfold rSx
  with_reducible rfl

/-- The activations' codes. -/
theorem final8 : (dats m 0 c).arrAt 8 (cfgs 0).N = rXq m c := by
  refine (dats m 0 c).arrAt_eq_of_after_last 8 t0_0 (by decide +kernel) _ fun j => ?_
  blk_simp
  rw [after0_8]
  frame_out
  simp only [read_unread_whole, rb0, rb1]
  unfold rXq
  with_reducible rfl

/-- The hidden codes. -/
theorem final10 : (dats m 0 c).arrAt 10 (cfgs 0).N = rHq m c := by
  refine (dats m 0 c).arrAt_eq_of_after_last 10 t0_0 (by decide +kernel) _ fun j => ?_
  blk_simp
  rw [after0_10]
  frame_out
  simp only [read_unread_whole, rb0, rb1, rb2, rb3, rb4]
  unfold rHq rXq rSx
  with_reducible rfl

/-- The hidden scales. -/
theorem final11 : (dats m 0 c).arrAt 11 (cfgs 0).N = rSh m c := by
  refine (dats m 0 c).arrAt_eq_of_after_last 11 t0_0 (by decide +kernel) _ fun j => ?_
  blk_simp
  rw [after0_11]
  frame_out
  simp only [read_unread_whole, rb0, rb1, rb2, rb3, rb4]
  unfold rSh rXq rSx
  with_reducible rfl

/-- The output. -/
theorem final7 : (dats m 0 c).arrAt 7 (cfgs 0).N = rY m c := by
  refine (dats m 0 c).arrAt_eq_of_after_last 7 t0_0 (by decide +kernel) _ fun j => ?_
  blk_simp
  rw [after0_7]
  simp only [outsAt0]
  unfold out0_A_7
  frame_out
  simp only [read_unread_whole, rb0, rb1, rb2, rb3, rb4, rb5, rb6]
  unfold rY rHq rSh rXq rSx
  with_reducible rfl

end Cert.ReferenceIdeal.Gen

end
-- ==== Proof.Val.Alg.lean ====
module

public import proofs.«01_k».proof.Defs
public import proofs.«01_k».proof.Proof.Ideal.Frame
public import proofs.«01_k».proof.Proof.Val.KVal02
public import proofs.«01_k».proof.Proof.Val.KArr
public import proofs.«01_k».proof.Proof.Val.RVal

@[expose] public section

set_option maxRecDepth 16384

noncomputable section

namespace Cert.Alg

open Idealize.ShloMosaic Idealize.ShloMosaic.TcCoe Idealize.SL.Sem Cert.Val
open Cert.KernelIdeal (nD τ sig)
open Cert.KernelIdeal.Gen
open Cert.ReferenceIdeal.Gen (rX rS rW rC rD rU rE rXq rSx rHq rSh rY)

/-! # The kernel's results are the reference's -/

/-- A column's index is its row. -/
theorem col_eta (j : (⟨2, ![8192, 1]⟩ : Shape).Idx) : ix2 (j 0) (0 : Fin 1) = j := by
  funext b
  fin_cases b
  · rfl
  · exact Subsingleton.elim (α := Fin 1) _ _

/-- The kernel's run: its five results and its seven arguments at the end. -/
theorem kernel_run (m : (ℓ : Loc nD τ sig) → Buf (Elt Ideal) ℓ) (g : Dev nD → PrngReg) :
    θ_run (Cert.KernelIdeal.defs (F := Ideal)) (onTc (τ := τ) (Cert.KernelIdeal.main (F := Ideal))) ⟨m, fun _ => 0, g⟩ (fun r => ∀ c : Dev nD,
      r.2.mem ((c.tc : Thread nD τ).loc Cert.KernelIdeal.main_v7) = out2 m c
      ∧ r.2.mem ((c.tc : Thread nD τ).loc Cert.KernelIdeal.main_v2_0) = out0a m c
      ∧ r.2.mem ((c.tc : Thread nD τ).loc Cert.KernelIdeal.main_v2_1) = out0b m c
      ∧ r.2.mem ((c.tc : Thread nD τ).loc Cert.KernelIdeal.main_v5_0) = out1a m c
      ∧ r.2.mem ((c.tc : Thread nD τ).loc Cert.KernelIdeal.main_v5_1) = out1b m c
      ∧ r.2.mem ((c.tc : Thread nD τ).loc Cert.KernelIdeal.main_arg0) = m ((c.tc : Thread nD τ).loc Cert.KernelIdeal.main_arg0)
      ∧ r.2.mem ((c.tc : Thread nD τ).loc Cert.KernelIdeal.main_arg1) = m ((c.tc : Thread nD τ).loc Cert.KernelIdeal.main_arg1)
      ∧ r.2.mem ((c.tc : Thread nD τ).loc Cert.KernelIdeal.main_arg2) = m ((c.tc : Thread nD τ).loc Cert.KernelIdeal.main_arg2)
      ∧ r.2.mem ((c.tc : Thread nD τ).loc Cert.KernelIdeal.main_arg3) = m ((c.tc : Thread nD τ).loc Cert.KernelIdeal.main_arg3)
      ∧ r.2.mem ((c.tc : Thread nD τ).loc Cert.KernelIdeal.main_arg4) = m ((c.tc : Thread nD τ).loc Cert.KernelIdeal.main_arg4)
      ∧ r.2.mem ((c.tc : Thread nD τ).loc Cert.KernelIdeal.main_arg5) = m ((c.tc : Thread nD τ).loc Cert.KernelIdeal.main_arg5)
      ∧ r.2.mem ((c.tc : Thread nD τ).loc Cert.KernelIdeal.main_arg6) = m ((c.tc : Thread nD τ).loc Cert.KernelIdeal.main_arg6)) := by
  refine (θ_run _ _ _).mono (fun r h c => ?_) (run_all m g)
  have e0 : X6 m c Cert.KernelIdeal.main_v2_0 = out0a m c := by
    rw [X6_of m c _ (by decide), X5_of m c _ (by decide), X4_of m c _ (by decide) (by decide), X3_of m c _ (by decide), X2_a]
  have e1 : X6 m c Cert.KernelIdeal.main_v2_1 = out0b m c := by
    rw [X6_of m c _ (by decide), X5_of m c _ (by decide), X4_of m c _ (by decide) (by decide), X3_of m c _ (by decide), X2_b]
  have e2 : X6 m c Cert.KernelIdeal.main_v5_0 = out1a m c := by
    rw [X6_of m c _ (by decide), X5_of m c _ (by decide), X4_a]
  have e3 : X6 m c Cert.KernelIdeal.main_v5_1 = out1b m c := by
    rw [X6_of m c _ (by decide), X5_of m c _ (by decide), X4_b]
  exact ⟨(h.1 c _ (mem_ucRefs Cert.KernelIdeal.main_v7 (by decide))).trans (X6_y m c),
    (h.1 c _ (mem_ucRefs Cert.KernelIdeal.main_v2_0 (by decide))).trans e0,
    (h.1 c _ (mem_ucRefs Cert.KernelIdeal.main_v2_1 (by decide))).trans e1,
    (h.1 c _ (mem_ucRefs Cert.KernelIdeal.main_v5_0 (by decide))).trans e2,
    (h.1 c _ (mem_ucRefs Cert.KernelIdeal.main_v5_1 (by decide))).trans e3,
    (h.1 c _ (mem_ucRefs Cert.KernelIdeal.main_arg0 (by decide))).trans (X6_arg m c Cert.KernelIdeal.main_arg0 (by decide)),
    (h.1 c _ (mem_ucRefs Cert.KernelIdeal.main_arg1 (by decide))).trans (X6_arg m c Cert.KernelIdeal.main_arg1 (by decide)),
    (h.1 c _ (mem_ucRefs Cert.KernelIdeal.main_arg2 (by decide))).trans (X6_arg m c Cert.KernelIdeal.main_arg2 (by decide)),
    (h.1 c _ (mem_ucRefs Cert.KernelIdeal.main_arg3 (by decide))).trans (X6_arg m c Cert.KernelIdeal.main_arg3 (by decide)),
    (h.1 c _ (mem_ucRefs Cert.KernelIdeal.main_arg4 (by decide))).trans (X6_arg m c Cert.KernelIdeal.main_arg4 (by decide)),
    (h.1 c _ (mem_ucRefs Cert.KernelIdeal.main_arg5 (by decide))).trans (X6_arg m c Cert.KernelIdeal.main_arg5 (by decide)),
    (h.1 c _ (mem_ucRefs Cert.KernelIdeal.main_arg6 (by decide))).trans (X6_arg m c Cert.KernelIdeal.main_arg6 (by decide))⟩

variable (m : (ℓ : Loc nD τ sig) → Buf (Elt Ideal) ℓ)
  (m' : (ℓ : Loc Cert.ReferenceIdeal.nD Cert.ReferenceIdeal.τ Cert.ReferenceIdeal.sig) → Buf (Elt Ideal) ℓ) (c : Dev nD)

/-- Both programs start from the same arguments. -/
structure Agrees : Prop where
  /-- The activations. -/
  a0 : m' ((c.tc : Thread Cert.ReferenceIdeal.nD Cert.ReferenceIdeal.τ).loc Cert.ReferenceIdeal.main_arg0) = m ((c.tc : Thread nD τ).loc Cert.KernelIdeal.main_arg0)
  /-- Their smoothing factors. -/
  a1 : m' ((c.tc : Thread Cert.ReferenceIdeal.nD Cert.ReferenceIdeal.τ).loc Cert.ReferenceIdeal.main_arg1) = m ((c.tc : Thread nD τ).loc Cert.KernelIdeal.main_arg1)
  /-- The first weights. -/
  a2 : m' ((c.tc : Thread Cert.ReferenceIdeal.nD Cert.ReferenceIdeal.τ).loc Cert.ReferenceIdeal.main_arg2) = m ((c.tc : Thread nD τ).loc Cert.KernelIdeal.main_arg2)
  /-- Their scales. -/
  a3 : m' ((c.tc : Thread Cert.ReferenceIdeal.nD Cert.ReferenceIdeal.τ).loc Cert.ReferenceIdeal.main_arg3) = m ((c.tc : Thread nD τ).loc Cert.KernelIdeal.main_arg3)
  /-- The hidden smoothing factors. -/
  a4 : m' ((c.tc : Thread Cert.ReferenceIdeal.nD Cert.ReferenceIdeal.τ).loc Cert.ReferenceIdeal.main_arg4) = m ((c.tc : Thread nD τ).loc Cert.KernelIdeal.main_arg4)
  /-- The second weights. -/
  a5 : m' ((c.tc : Thread Cert.ReferenceIdeal.nD Cert.ReferenceIdeal.τ).loc Cert.ReferenceIdeal.main_arg5) = m ((c.tc : Thread nD τ).loc Cert.KernelIdeal.main_arg5)
  /-- Their scales. -/
  a6 : m' ((c.tc : Thread Cert.ReferenceIdeal.nD Cert.ReferenceIdeal.τ).loc Cert.ReferenceIdeal.main_arg6) = m ((c.tc : Thread nD τ).loc Cert.KernelIdeal.main_arg6)

variable {m m' c}
variable (h : Agrees m m' c)
include h

/-- The activations, a row per token. -/
theorem e_x : (X1 m c Cert.KernelIdeal.main_v0 : Vec Ideal Cert.KernelIdeal.S8192x4096 .f32) = rX m' c := by
  unfold X1 V1
  unfold rX
  entry_read
  have := h.a0
  rw [show m' (c, _) = _ from this]
  rfl

/-- Their smoothing factors. -/
theorem e_s : (X1 m c Cert.KernelIdeal.main_v1 : Vec Ideal Cert.KernelIdeal.S1x4096 .f32) = rS m' c := by
  unfold X1 V1
  unfold rS
  entry_read
  have := h.a1
  rw [show m' (c, _) = _ from this]
  rfl

/-- The first weights. -/
theorem e_w : (X3 m c Cert.KernelIdeal.main_arg2 : Vec Ideal Cert.KernelIdeal.S4096x24576 .fp8e4m3) = rW m' c := by
  unfold rW
  rw [X3_of m c _ (by decide), X2_of m c _ (by decide) (by decide), X1_of m c _ (by decide)]
  entry_read
  exact h.a2.symm

/-- Their scales. -/
theorem e_c : (X3 m c Cert.KernelIdeal.main_v3 : Vec Ideal Cert.KernelIdeal.S1x24576 .f32) = rC m' c := by
  unfold X3 rC
  entry_read
  have := h.a3
  rw [show m' (c, _) = _ from this]
  have e : X2 m c Cert.KernelIdeal.main_arg3 = m ((c : Thread nD τ).loc Cert.KernelIdeal.main_arg3) := by
    rw [X2_of m c _ (by decide) (by decide), X1_of m c _ (by decide)]
  rw [e]
  rfl

/-- The hidden smoothing factors. -/
theorem e_d : (X3 m c Cert.KernelIdeal.main_v4 : Vec Ideal Cert.KernelIdeal.S1x12288 .f32) = rD m' c := by
  unfold X3 rD
  entry_read
  have := h.a4
  rw [show m' (c, _) = _ from this]
  have e : X2 m c Cert.KernelIdeal.main_arg4 = m ((c : Thread nD τ).loc Cert.KernelIdeal.main_arg4) := by
    rw [X2_of m c _ (by decide) (by decide), X1_of m c _ (by decide)]
  rw [e]
  rfl

/-- The second weights. -/
theorem e_u : (X5 m c Cert.KernelIdeal.main_arg5 : Vec Ideal Cert.KernelIdeal.S12288x4096 .fp8e4m3) = rU m' c := by
  unfold rU
  rw [X5_of m c _ (by decide), X4_of m c _ (by decide) (by decide), X3_of m c _ (by decide), X2_of m c _ (by decide) (by decide), X1_of m c _ (by decide)]
  entry_read
  exact h.a5.symm

/-- Their scales. -/
theorem e_e : (X5 m c Cert.KernelIdeal.main_v6 : Vec Ideal Cert.KernelIdeal.S1x4096 .f32) = rE m' c := by
  unfold X5 rE
  entry_read
  have := h.a6
  rw [show m' (c, _) = _ from this]
  have e : X4 m c Cert.KernelIdeal.main_arg6 = m ((c : Thread nD τ).loc Cert.KernelIdeal.main_arg6) := by
    rw [X4_of m c _ (by decide) (by decide), X3_of m c _ (by decide), X2_of m c _ (by decide) (by decide), X1_of m c _ (by decide)]
  rw [e]
  rfl

/-- The scales of the activations. -/
theorem e_sx : (out0b m c : Vec Ideal Cert.KernelIdeal.S8192x1 .f32) = rSx m' c := by
  unfold out0b rSx
  rw [k_sx, e_x h, e_s h]
  funext i
  exact (Cert.ReferenceIdeal.Gen.r_sx _ _ i).symm

/-- The codes of the activations. -/
theorem e_xq : (out0a m c : Vec Ideal Cert.KernelIdeal.S8192x4096 .fp8e4m3) = rXq m' c := by
  unfold out0a rXq
  rw [k_xq, e_x h, e_s h]
  funext i
  exact (Cert.ReferenceIdeal.Gen.r_xq _ _ i).symm

/-- The codes of the activations, as the fused kernel finds them. -/
theorem e_xq3 : (X3 m c Cert.KernelIdeal.main_v2_0 : Vec Ideal Cert.KernelIdeal.S8192x4096 .fp8e4m3) = rXq m' c := by
  rw [X3_of m c _ (by decide), X2_a]
  exact e_xq h

/-- Their scales, as the fused kernel finds them. -/
theorem e_sx3 : (X3 m c Cert.KernelIdeal.main_v2_1 : Vec Ideal Cert.KernelIdeal.S8192x1 .f32) = rSx m' c := by
  rw [X3_of m c _ (by decide), X2_b]
  exact e_sx h

/-- The hidden values. -/
theorem e_h (r : Fin 8192) (j : Fin 12288) : hG (fun c b => X3 m c b) c r j
    = Cert.ReferenceIdeal.Gen.k0_pay7 (rXq m' c) (rW m' c) (rSx m' c) (rC m' c) (rD m' c) (ix2 r j) := by
  unfold hG
  beta_reduce
  rw [e_xq3 h, e_sx3 h, e_w h, e_c h, e_d h]
  exact (Cert.ReferenceIdeal.Gen.r_hid _ _ _ _ _ (ix2 r j)).symm

/-- Their rows' largest magnitudes. -/
theorem e_m (r : Fin 8192) : hM (fun c b => X3 m c b) c r
    = Cert.ReferenceIdeal.Gen.k0_pay8 (rXq m' c) (rW m' c) (rSx m' c) (rC m' c) (rD m' c) (ix2 r 0) := by
  unfold hM
  rw [Cert.ReferenceIdeal.Gen.r_hmax]
  congr 1
  funext j
  exact e_h h r j

/-- The codes of the hidden values. -/
theorem e_hq : (out1a m c : Vec Ideal Cert.KernelIdeal.S8192x12288 .fp8e4m3) = rHq m' c := by
  unfold out1a rHq
  rw [k_hq]
  funext i
  have e0 : Cert.ReferenceIdeal.Gen.k0_pay7 (rXq m' c) (rW m' c) (rSx m' c) (rC m' c) (rD m' c) (ix2 (i 0 : Fin 8192) (i 1 : Fin 12288))
      = Cert.ReferenceIdeal.Gen.k0_pay7 (rXq m' c) (rW m' c) (rSx m' c) (rC m' c) (rD m' c) i := congrArg _ (ix2_eta i)
  refine Eq.trans ?_ (Cert.ReferenceIdeal.Gen.r_hq _ _ _ _ _ i).symm
  exact congrArg₂ codeOf (e_m h (i 0 : Fin 8192)) ((e_h h (i 0 : Fin 8192) (i 1 : Fin 12288)).trans e0)

/-- The scales of the hidden values. -/
theorem e_sh : (out1b m c : Vec Ideal Cert.KernelIdeal.S8192x1 .f32) = rSh m' c := by
  unfold out1b rSh
  rw [k_sh]
  funext i
  have e0 := col_eta i
  refine Eq.trans ?_ (Cert.ReferenceIdeal.Gen.r_sh _ _ _ _ _ i).symm
  exact congrArg scaleOf ((e_m h (i 0 : Fin 8192)).trans (congrArg _ e0))

/-- The codes of the hidden values, as the last kernel finds them. -/
theorem e_hq5 : (X5 m c Cert.KernelIdeal.main_v5_0 : Vec Ideal Cert.KernelIdeal.S8192x12288 .fp8e4m3) = rHq m' c := by
  rw [X5_of m c _ (by decide), X4_a]
  exact e_hq h

/-- Their scales, as the last kernel finds them. -/
theorem e_sh5 : (X5 m c Cert.KernelIdeal.main_v5_1 : Vec Ideal Cert.KernelIdeal.S8192x1 .f32) = rSh m' c := by
  rw [X5_of m c _ (by decide), X4_b]
  exact e_sh h

/-- The output. -/
theorem e_y : (out2 m c : Vec Ideal Cert.KernelIdeal.S8192x4096 .f32) = rY m' c := by
  unfold out2 rY
  rw [k_y, e_hq5 h, e_sh5 h, e_u h, e_e h]
  funext i
  rw [Cert.ReferenceIdeal.Gen.r_y]
  unfold Cert.ReferenceIdeal.Gen.k0_pay14
  rw [shapeCast_self]

end Cert.Alg

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Ideal.Frame
public import proofs.«01_k».proof.Proof.Word.Frame
public import proofs.«01_k».proof.Proof.Val.Alg
public import Idealize.ShloMosaic.Adequacy
public import Idealize.ShloMosaic.Init

@[expose] public section

noncomputable section

namespace Cert.Proof

open Idealize.ShloMosaic Idealize.SL.Sem Cert.Kernel

/-- Run from the same arguments on exact numbers, the kernel and the reference end with the same five results. -/
theorem same : Cert.algebraic_KernelIdeal_ReferenceIdeal (hKernelIdeal := Cert.KernelIdeal.Gen.facts) (hReferenceIdeal := Cert.ReferenceIdeal.Gen.facts) := by
  intro m g m' g' _ hagree
  have ha : ∀ c, Cert.Alg.Agrees m m' c := fun c => by
    obtain ⟨h0, h1, h2, h3, h4, h5, h6⟩ := hagree c
    exact ⟨h0, h1, h2, h3, h4, h5, h6⟩
  refine ⟨fun c => Cert.KernelIdeal.Gen.out2 m c, fun c => Cert.KernelIdeal.Gen.out0a m c, fun c => Cert.KernelIdeal.Gen.out0b m c,
    fun c => Cert.KernelIdeal.Gen.out1a m c, fun c => Cert.KernelIdeal.Gen.out1b m c, ?_, ?_⟩
  · exact Cert.Alg.kernel_run m g
  · refine (θ_run _ _ _).mono (fun r h c => ?_) (Cert.ReferenceIdeal.Value.run_blocks m' g')
    obtain ⟨r7, r8, r9, r10, r11, ra⟩ := h c
    exact ⟨r7.trans ((Cert.ReferenceIdeal.Gen.final7 m' c).trans (Cert.Alg.e_y (ha c)).symm),
      r8.trans ((Cert.ReferenceIdeal.Gen.final8 m' c).trans (Cert.Alg.e_xq (ha c)).symm),
      r9.trans ((Cert.ReferenceIdeal.Gen.final9 m' c).trans (Cert.Alg.e_sx (ha c)).symm),
      r10.trans ((Cert.ReferenceIdeal.Gen.final10 m' c).trans (Cert.Alg.e_hq (ha c)).symm),
      r11.trans ((Cert.ReferenceIdeal.Gen.final11 m' c).trans (Cert.Alg.e_sh (ha c)).symm), ra⟩

/-- Every claim of the certificate. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, same⟩

end Cert.Proof

end
